-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite [hPre_finite : Cert.Pre_finite.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite [hPre_finite : Cert.Pre_finite.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))) = (fun _ => 1#1)

def Pre_KernelCmp (m : (ℓ : Loc Cert.KernelCmp.nD Cert.KernelCmp.τ Cert.KernelCmp.sig) → Buf (Elt Bits) ℓ) : Prop :=
  True

def Pre_KernelCmpIdeal (m : (ℓ : Loc Cert.KernelCmpIdeal.nD Cert.KernelCmpIdeal.τ Cert.KernelCmpIdeal.sig) → Buf (Elt Ideal) ℓ) : Prop :=
  True

def Pre_KernelCmpIdeal_finite_weights [hPre_finite_weights : Cert.Pre_finite_weights.Facts] (m : (ℓ : Loc Cert.KernelCmpIdeal.nD Cert.KernelCmpIdeal.τ Cert.KernelCmpIdeal.sig) → Buf (Elt Ideal) ℓ) : Prop :=
  ∀ c : Dev Cert.KernelCmpIdeal.nD,
    (Cert.Pre_finite_weights.fn (F := Ideal) (m ((c.tc : Thread Cert.KernelCmpIdeal.nD Cert.KernelCmpIdeal.τ).loc Cert.KernelCmpIdeal.main_arg0)) (m ((c.tc : Thread Cert.KernelCmpIdeal.nD Cert.KernelCmpIdeal.τ).loc Cert.KernelCmpIdeal.main_arg1)) (m ((c.tc : Thread Cert.KernelCmpIdeal.nD Cert.KernelCmpIdeal.τ).loc Cert.KernelCmpIdeal.main_arg2)) (m ((c.tc : Thread Cert.KernelCmpIdeal.nD Cert.KernelCmpIdeal.τ).loc Cert.KernelCmpIdeal.main_arg3)) (m ((c.tc : Thread Cert.KernelCmpIdeal.nD Cert.KernelCmpIdeal.τ).loc Cert.KernelCmpIdeal.main_arg4)) (m ((c.tc : Thread Cert.KernelCmpIdeal.nD Cert.KernelCmpIdeal.τ).loc Cert.KernelCmpIdeal.main_arg5)) (m ((c.tc : Thread Cert.KernelCmpIdeal.nD Cert.KernelCmpIdeal.τ).loc Cert.KernelCmpIdeal.main_arg6)) (m ((c.tc : Thread Cert.KernelCmpIdeal.nD Cert.KernelCmpIdeal.τ).loc Cert.KernelCmpIdeal.main_arg7))) = (fun _ => 1#1)

def Pre_ReferenceCmpIdeal (m : (ℓ : Loc Cert.ReferenceCmpIdeal.nD Cert.ReferenceCmpIdeal.τ Cert.ReferenceCmpIdeal.sig) → Buf (Elt Ideal) ℓ) : Prop :=
  True

def Pre_ReferenceCmpIdeal_finite_weights [hPre_finite_weights : Cert.Pre_finite_weights.Facts] (m : (ℓ : Loc Cert.ReferenceCmpIdeal.nD Cert.ReferenceCmpIdeal.τ Cert.ReferenceCmpIdeal.sig) → Buf (Elt Ideal) ℓ) : Prop :=
  ∀ c : Dev Cert.ReferenceCmpIdeal.nD,
    (Cert.Pre_finite_weights.fn (F := Ideal) (m ((c.tc : Thread Cert.ReferenceCmpIdeal.nD Cert.ReferenceCmpIdeal.τ).loc Cert.ReferenceCmpIdeal.main_arg0)) (m ((c.tc : Thread Cert.ReferenceCmpIdeal.nD Cert.ReferenceCmpIdeal.τ).loc Cert.ReferenceCmpIdeal.main_arg1)) (m ((c.tc : Thread Cert.ReferenceCmpIdeal.nD Cert.ReferenceCmpIdeal.τ).loc Cert.ReferenceCmpIdeal.main_arg2)) (m ((c.tc : Thread Cert.ReferenceCmpIdeal.nD Cert.ReferenceCmpIdeal.τ).loc Cert.ReferenceCmpIdeal.main_arg3)) (m ((c.tc : Thread Cert.ReferenceCmpIdeal.nD Cert.ReferenceCmpIdeal.τ).loc Cert.ReferenceCmpIdeal.main_arg4)) (m ((c.tc : Thread Cert.ReferenceCmpIdeal.nD Cert.ReferenceCmpIdeal.τ).loc Cert.ReferenceCmpIdeal.main_arg5)) (m ((c.tc : Thread Cert.ReferenceCmpIdeal.nD Cert.ReferenceCmpIdeal.τ).loc Cert.ReferenceCmpIdeal.main_arg6)) (m ((c.tc : Thread Cert.ReferenceCmpIdeal.nD Cert.ReferenceCmpIdeal.τ).loc Cert.ReferenceCmpIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite [hKernelPoolIdeal : Cert.KernelPoolIdeal.Facts] [hPre_finite : Cert.Pre_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite [hReferencePoolIdeal : Cert.ReferencePoolIdeal.Facts] [hPre_finite : Cert.Pre_finite.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelCmp [hKernelCmp : Cert.KernelCmp.Facts] : Prop :=
  ∀ (m : (ℓ : Loc Cert.KernelCmp.nD Cert.KernelCmp.τ Cert.KernelCmp.sig) → Buf (Elt Bits) ℓ) (g : Dev Cert.KernelCmp.nD → PrngReg), Pre_KernelCmp m →
    θ_run (Cert.KernelCmp.defs (F := Bits)) (onTc (τ := Cert.KernelCmp.τ) (Cert.KernelCmp.main (F := Bits))) ⟨m, fun _ => 0, g⟩ (fun r => (∀ c : Dev Cert.KernelCmp.nD,
      r.2.mem ((c.tc : Thread Cert.KernelCmp.nD Cert.KernelCmp.τ).loc Cert.KernelCmp.main_arg0) = m ((c.tc : Thread Cert.KernelCmp.nD Cert.KernelCmp.τ).loc Cert.KernelCmp.main_arg0)
      ∧ r.2.mem ((c.tc : Thread Cert.KernelCmp.nD Cert.KernelCmp.τ).loc Cert.KernelCmp.main_arg1) = m ((c.tc : Thread Cert.KernelCmp.nD Cert.KernelCmp.τ).loc Cert.KernelCmp.main_arg1)
      ∧ r.2.mem ((c.tc : Thread Cert.KernelCmp.nD Cert.KernelCmp.τ).loc Cert.KernelCmp.main_arg2) = m ((c.tc : Thread Cert.KernelCmp.nD Cert.KernelCmp.τ).loc Cert.KernelCmp.main_arg2)
      ∧ r.2.mem ((c.tc : Thread Cert.KernelCmp.nD Cert.KernelCmp.τ).loc Cert.KernelCmp.main_arg3) = m ((c.tc : Thread Cert.KernelCmp.nD Cert.KernelCmp.τ).loc Cert.KernelCmp.main_arg3)
      ∧ r.2.mem ((c.tc : Thread Cert.KernelCmp.nD Cert.KernelCmp.τ).loc Cert.KernelCmp.main_arg4) = m ((c.tc : Thread Cert.KernelCmp.nD Cert.KernelCmp.τ).loc Cert.KernelCmp.main_arg4)
      ∧ r.2.mem ((c.tc : Thread Cert.KernelCmp.nD Cert.KernelCmp.τ).loc Cert.KernelCmp.main_arg5) = m ((c.tc : Thread Cert.KernelCmp.nD Cert.KernelCmp.τ).loc Cert.KernelCmp.main_arg5)
      ∧ r.2.mem ((c.tc : Thread Cert.KernelCmp.nD Cert.KernelCmp.τ).loc Cert.KernelCmp.main_arg6) = m ((c.tc : Thread Cert.KernelCmp.nD Cert.KernelCmp.τ).loc Cert.KernelCmp.main_arg6)
      ∧ r.2.mem ((c.tc : Thread Cert.KernelCmp.nD Cert.KernelCmp.τ).loc Cert.KernelCmp.main_arg7) = m ((c.tc : Thread Cert.KernelCmp.nD Cert.KernelCmp.τ).loc Cert.KernelCmp.main_arg7))
      ∧ r.2.sem = fun _ => 0)

def quiescent_KernelCmpIdeal [hKernelCmpIdeal : Cert.KernelCmpIdeal.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg), Pre_KernelCmpIdeal m →
    θ_run (Cert.KernelCmpIdeal.defs (F := Ideal)) (onTc (τ := Cert.KernelCmpIdeal.τ) (Cert.KernelCmpIdeal.main (F := Ideal))) ⟨m, fun _ => 0, g⟩ (fun r => (∀ c : Dev Cert.KernelCmpIdeal.nD,
      r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
      ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
      ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2)
      ∧ r.2.mem ((c.tc : Thread Cert.KernelCmpIdeal.nD Cert.KernelCmpIdeal.τ).loc Cert.KernelCmpIdeal.main_arg3) = m ((c.tc : Thread Cert.KernelCmpIdeal.nD Cert.KernelCmpIdeal.τ).loc Cert.KernelCmpIdeal.main_arg3)
      ∧ r.2.mem ((c.tc : Thread Cert.KernelCmpIdeal.nD Cert.KernelCmpIdeal.τ).loc Cert.KernelCmpIdeal.main_arg4) = m ((c.tc : Thread Cert.KernelCmpIdeal.nD Cert.KernelCmpIdeal.τ).loc Cert.KernelCmpIdeal.main_arg4)
      ∧ r.2.mem ((c.tc : Thread Cert.KernelCmpIdeal.nD Cert.KernelCmpIdeal.τ).loc Cert.KernelCmpIdeal.main_arg5) = m ((c.tc : Thread Cert.KernelCmpIdeal.nD Cert.KernelCmpIdeal.τ).loc Cert.KernelCmpIdeal.main_arg5)
      ∧ r.2.mem ((c.tc : Thread Cert.KernelCmpIdeal.nD Cert.KernelCmpIdeal.τ).loc Cert.KernelCmpIdeal.main_arg6) = m ((c.tc : Thread Cert.KernelCmpIdeal.nD Cert.KernelCmpIdeal.τ).loc Cert.KernelCmpIdeal.main_arg6)
      ∧ r.2.mem ((c.tc : Thread Cert.KernelCmpIdeal.nD Cert.KernelCmpIdeal.τ).loc Cert.KernelCmpIdeal.main_arg7) = m ((c.tc : Thread Cert.KernelCmpIdeal.nD Cert.KernelCmpIdeal.τ).loc Cert.KernelCmpIdeal.main_arg7))
      ∧ r.2.sem = fun _ => 0)

def quiescent_KernelCmpIdeal_pre_finite_weights [hKernelCmpIdeal : Cert.KernelCmpIdeal.Facts] [hPre_finite_weights : Cert.Pre_finite_weights.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg), Pre_KernelCmpIdeal_finite_weights m →
    θ_run (Cert.KernelCmpIdeal.defs (F := Ideal)) (onTc (τ := Cert.KernelCmpIdeal.τ) (Cert.KernelCmpIdeal.main (F := Ideal))) ⟨m, fun _ => 0, g⟩ (fun r => (∀ c : Dev Cert.KernelCmpIdeal.nD,
      r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
      ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
      ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2)
      ∧ r.2.mem ((c.tc : Thread Cert.KernelCmpIdeal.nD Cert.KernelCmpIdeal.τ).loc Cert.KernelCmpIdeal.main_arg3) = m ((c.tc : Thread Cert.KernelCmpIdeal.nD Cert.KernelCmpIdeal.τ).loc Cert.KernelCmpIdeal.main_arg3)
      ∧ r.2.mem ((c.tc : Thread Cert.KernelCmpIdeal.nD Cert.KernelCmpIdeal.τ).loc Cert.KernelCmpIdeal.main_arg4) = m ((c.tc : Thread Cert.KernelCmpIdeal.nD Cert.KernelCmpIdeal.τ).loc Cert.KernelCmpIdeal.main_arg4)
      ∧ r.2.mem ((c.tc : Thread Cert.KernelCmpIdeal.nD Cert.KernelCmpIdeal.τ).loc Cert.KernelCmpIdeal.main_arg5) = m ((c.tc : Thread Cert.KernelCmpIdeal.nD Cert.KernelCmpIdeal.τ).loc Cert.KernelCmpIdeal.main_arg5)
      ∧ r.2.mem ((c.tc : Thread Cert.KernelCmpIdeal.nD Cert.KernelCmpIdeal.τ).loc Cert.KernelCmpIdeal.main_arg6) = m ((c.tc : Thread Cert.KernelCmpIdeal.nD Cert.KernelCmpIdeal.τ).loc Cert.KernelCmpIdeal.main_arg6)
      ∧ r.2.mem ((c.tc : Thread Cert.KernelCmpIdeal.nD Cert.KernelCmpIdeal.τ).loc Cert.KernelCmpIdeal.main_arg7) = m ((c.tc : Thread Cert.KernelCmpIdeal.nD Cert.KernelCmpIdeal.τ).loc Cert.KernelCmpIdeal.main_arg7))
      ∧ r.2.sem = fun _ => 0)

def quiescent_ReferenceCmpIdeal [hReferenceCmpIdeal : Cert.ReferenceCmpIdeal.Facts] : Prop :=
  ∀ (m : (ℓ : Loc Cert.ReferenceCmpIdeal.nD Cert.ReferenceCmpIdeal.τ Cert.ReferenceCmpIdeal.sig) → Buf (Elt Ideal) ℓ) (g : Dev Cert.ReferenceCmpIdeal.nD → PrngReg), Pre_ReferenceCmpIdeal m →
    θ_run (Cert.ReferenceCmpIdeal.defs (F := Ideal)) (onTc (τ := Cert.ReferenceCmpIdeal.τ) (Cert.ReferenceCmpIdeal.main (F := Ideal))) ⟨m, fun _ => 0, g⟩ (fun r => (∀ c : Dev Cert.ReferenceCmpIdeal.nD,
      r.2.mem ((c.tc : Thread Cert.ReferenceCmpIdeal.nD Cert.ReferenceCmpIdeal.τ).loc Cert.ReferenceCmpIdeal.main_arg0) = m ((c.tc : Thread Cert.ReferenceCmpIdeal.nD Cert.ReferenceCmpIdeal.τ).loc Cert.ReferenceCmpIdeal.main_arg0)
      ∧ r.2.mem ((c.tc : Thread Cert.ReferenceCmpIdeal.nD Cert.ReferenceCmpIdeal.τ).loc Cert.ReferenceCmpIdeal.main_arg1) = m ((c.tc : Thread Cert.ReferenceCmpIdeal.nD Cert.ReferenceCmpIdeal.τ).loc Cert.ReferenceCmpIdeal.main_arg1)
      ∧ r.2.mem ((c.tc : Thread Cert.ReferenceCmpIdeal.nD Cert.ReferenceCmpIdeal.τ).loc Cert.ReferenceCmpIdeal.main_arg2) = m ((c.tc : Thread Cert.ReferenceCmpIdeal.nD Cert.ReferenceCmpIdeal.τ).loc Cert.ReferenceCmpIdeal.main_arg2)
      ∧ r.2.mem ((c.tc : Thread Cert.ReferenceCmpIdeal.nD Cert.ReferenceCmpIdeal.τ).loc Cert.ReferenceCmpIdeal.main_arg3) = m ((c.tc : Thread Cert.ReferenceCmpIdeal.nD Cert.ReferenceCmpIdeal.τ).loc Cert.ReferenceCmpIdeal.main_arg3)
      ∧ r.2.mem ((c.tc : Thread Cert.ReferenceCmpIdeal.nD Cert.ReferenceCmpIdeal.τ).loc Cert.ReferenceCmpIdeal.main_arg4) = m ((c.tc : Thread Cert.ReferenceCmpIdeal.nD Cert.ReferenceCmpIdeal.τ).loc Cert.ReferenceCmpIdeal.main_arg4)
      ∧ r.2.mem ((c.tc : Thread Cert.ReferenceCmpIdeal.nD Cert.ReferenceCmpIdeal.τ).loc Cert.ReferenceCmpIdeal.main_arg5) = m ((c.tc : Thread Cert.ReferenceCmpIdeal.nD Cert.ReferenceCmpIdeal.τ).loc Cert.ReferenceCmpIdeal.main_arg5)
      ∧ r.2.mem ((c.tc : Thread Cert.ReferenceCmpIdeal.nD Cert.ReferenceCmpIdeal.τ).loc Cert.ReferenceCmpIdeal.main_arg6) = m ((c.tc : Thread Cert.ReferenceCmpIdeal.nD Cert.ReferenceCmpIdeal.τ).loc Cert.ReferenceCmpIdeal.main_arg6)
      ∧ r.2.mem ((c.tc : Thread Cert.ReferenceCmpIdeal.nD Cert.ReferenceCmpIdeal.τ).loc Cert.ReferenceCmpIdeal.main_arg7) = m ((c.tc : Thread Cert.ReferenceCmpIdeal.nD Cert.ReferenceCmpIdeal.τ).loc Cert.ReferenceCmpIdeal.main_arg7))
      ∧ r.2.sem = fun _ => 0)

def quiescent_ReferenceCmpIdeal_pre_finite_weights [hReferenceCmpIdeal : Cert.ReferenceCmpIdeal.Facts] [hPre_finite_weights : Cert.Pre_finite_weights.Facts] : Prop :=
  ∀ (m : (ℓ : Loc Cert.ReferenceCmpIdeal.nD Cert.ReferenceCmpIdeal.τ Cert.ReferenceCmpIdeal.sig) → Buf (Elt Ideal) ℓ) (g : Dev Cert.ReferenceCmpIdeal.nD → PrngReg), Pre_ReferenceCmpIdeal_finite_weights m →
    θ_run (Cert.ReferenceCmpIdeal.defs (F := Ideal)) (onTc (τ := Cert.ReferenceCmpIdeal.τ) (Cert.ReferenceCmpIdeal.main (F := Ideal))) ⟨m, fun _ => 0, g⟩ (fun r => (∀ c : Dev Cert.ReferenceCmpIdeal.nD,
      r.2.mem ((c.tc : Thread Cert.ReferenceCmpIdeal.nD Cert.ReferenceCmpIdeal.τ).loc Cert.ReferenceCmpIdeal.main_arg0) = m ((c.tc : Thread Cert.ReferenceCmpIdeal.nD Cert.ReferenceCmpIdeal.τ).loc Cert.ReferenceCmpIdeal.main_arg0)
      ∧ r.2.mem ((c.tc : Thread Cert.ReferenceCmpIdeal.nD Cert.ReferenceCmpIdeal.τ).loc Cert.ReferenceCmpIdeal.main_arg1) = m ((c.tc : Thread Cert.ReferenceCmpIdeal.nD Cert.ReferenceCmpIdeal.τ).loc Cert.ReferenceCmpIdeal.main_arg1)
      ∧ r.2.mem ((c.tc : Thread Cert.ReferenceCmpIdeal.nD Cert.ReferenceCmpIdeal.τ).loc Cert.ReferenceCmpIdeal.main_arg2) = m ((c.tc : Thread Cert.ReferenceCmpIdeal.nD Cert.ReferenceCmpIdeal.τ).loc Cert.ReferenceCmpIdeal.main_arg2)
      ∧ r.2.mem ((c.tc : Thread Cert.ReferenceCmpIdeal.nD Cert.ReferenceCmpIdeal.τ).loc Cert.ReferenceCmpIdeal.main_arg3) = m ((c.tc : Thread Cert.ReferenceCmpIdeal.nD Cert.ReferenceCmpIdeal.τ).loc Cert.ReferenceCmpIdeal.main_arg3)
      ∧ r.2.mem ((c.tc : Thread Cert.ReferenceCmpIdeal.nD Cert.ReferenceCmpIdeal.τ).loc Cert.ReferenceCmpIdeal.main_arg4) = m ((c.tc : Thread Cert.ReferenceCmpIdeal.nD Cert.ReferenceCmpIdeal.τ).loc Cert.ReferenceCmpIdeal.main_arg4)
      ∧ r.2.mem ((c.tc : Thread Cert.ReferenceCmpIdeal.nD Cert.ReferenceCmpIdeal.τ).loc Cert.ReferenceCmpIdeal.main_arg5) = m ((c.tc : Thread Cert.ReferenceCmpIdeal.nD Cert.ReferenceCmpIdeal.τ).loc Cert.ReferenceCmpIdeal.main_arg5)
      ∧ r.2.mem ((c.tc : Thread Cert.ReferenceCmpIdeal.nD Cert.ReferenceCmpIdeal.τ).loc Cert.ReferenceCmpIdeal.main_arg6) = m ((c.tc : Thread Cert.ReferenceCmpIdeal.nD Cert.ReferenceCmpIdeal.τ).loc Cert.ReferenceCmpIdeal.main_arg6)
      ∧ r.2.mem ((c.tc : Thread Cert.ReferenceCmpIdeal.nD Cert.ReferenceCmpIdeal.τ).loc Cert.ReferenceCmpIdeal.main_arg7) = m ((c.tc : Thread Cert.ReferenceCmpIdeal.nD Cert.ReferenceCmpIdeal.τ).loc Cert.ReferenceCmpIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v2) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v33) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v12_0)) (v1 : (c : Dev Cert.KernelInIdeal.nD) → Buf (Elt Ideal) ((c.tc : Thread Cert.KernelInIdeal.nD Cert.KernelInIdeal.τ).loc Cert.KernelInIdeal.main_v12_1)) (v2 : (c : Dev Cert.KernelInIdeal.nD) → Buf (Elt Ideal) ((c.tc : Thread Cert.KernelInIdeal.nD Cert.KernelInIdeal.τ).loc Cert.KernelInIdeal.main_v12_2)) (v3 : (c : Dev Cert.KernelInIdeal.nD) → Buf (Elt Ideal) ((c.tc : Thread Cert.KernelInIdeal.nD Cert.KernelInIdeal.τ).loc Cert.KernelInIdeal.main_v12_3)) (v4 : (c : Dev Cert.KernelInIdeal.nD) → Buf (Elt Ideal) ((c.tc : Thread Cert.KernelInIdeal.nD Cert.KernelInIdeal.τ).loc Cert.KernelInIdeal.main_v12_4)) (v5 : (c : Dev Cert.KernelInIdeal.nD) → Buf (Elt Ideal) ((c.tc : Thread Cert.KernelInIdeal.nD Cert.KernelInIdeal.τ).loc Cert.KernelInIdeal.main_v12_5)) (v6 : (c : Dev Cert.KernelInIdeal.nD) → Buf (Elt Ideal) ((c.tc : Thread Cert.KernelInIdeal.nD Cert.KernelInIdeal.τ).loc Cert.KernelInIdeal.main_v12_6)) (v7 : (c : Dev Cert.KernelInIdeal.nD) → Buf (Elt Ideal) ((c.tc : Thread Cert.KernelInIdeal.nD Cert.KernelInIdeal.τ).loc Cert.KernelInIdeal.main_v12_7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v12_0) = v0 c
          ∧ r.2.mem ((c.tc : Thread Cert.KernelInIdeal.nD Cert.KernelInIdeal.τ).loc Cert.KernelInIdeal.main_v12_1) = v1 c
          ∧ r.2.mem ((c.tc : Thread Cert.KernelInIdeal.nD Cert.KernelInIdeal.τ).loc Cert.KernelInIdeal.main_v12_2) = v2 c
          ∧ r.2.mem ((c.tc : Thread Cert.KernelInIdeal.nD Cert.KernelInIdeal.τ).loc Cert.KernelInIdeal.main_v12_3) = v3 c
          ∧ r.2.mem ((c.tc : Thread Cert.KernelInIdeal.nD Cert.KernelInIdeal.τ).loc Cert.KernelInIdeal.main_v12_4) = v4 c
          ∧ r.2.mem ((c.tc : Thread Cert.KernelInIdeal.nD Cert.KernelInIdeal.τ).loc Cert.KernelInIdeal.main_v12_5) = v5 c
          ∧ r.2.mem ((c.tc : Thread Cert.KernelInIdeal.nD Cert.KernelInIdeal.τ).loc Cert.KernelInIdeal.main_v12_6) = v6 c
          ∧ r.2.mem ((c.tc : Thread Cert.KernelInIdeal.nD Cert.KernelInIdeal.τ).loc Cert.KernelInIdeal.main_v12_7) = v7 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v124) = v0 c
          ∧ r.2.mem ((c.tc : Thread Cert.ReferenceInIdeal.nD Cert.ReferenceInIdeal.τ).loc Cert.ReferenceInIdeal.main_v126) = v1 c
          ∧ r.2.mem ((c.tc : Thread Cert.ReferenceInIdeal.nD Cert.ReferenceInIdeal.τ).loc Cert.ReferenceInIdeal.main_v128) = v2 c
          ∧ r.2.mem ((c.tc : Thread Cert.ReferenceInIdeal.nD Cert.ReferenceInIdeal.τ).loc Cert.ReferenceInIdeal.main_v135) = v3 c
          ∧ r.2.mem ((c.tc : Thread Cert.ReferenceInIdeal.nD Cert.ReferenceInIdeal.τ).loc Cert.ReferenceInIdeal.main_v142) = v4 c
          ∧ r.2.mem ((c.tc : Thread Cert.ReferenceInIdeal.nD Cert.ReferenceInIdeal.τ).loc Cert.ReferenceInIdeal.main_v150) = v5 c
          ∧ r.2.mem ((c.tc : Thread Cert.ReferenceInIdeal.nD Cert.ReferenceInIdeal.τ).loc Cert.ReferenceInIdeal.main_v152) = v6 c
          ∧ r.2.mem ((c.tc : Thread Cert.ReferenceInIdeal.nD Cert.ReferenceInIdeal.τ).loc Cert.ReferenceInIdeal.main_v153) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelPool_KernelPoolIdeal : Prop :=
  True

def algebraic_KernelPoolIdeal_ReferencePoolIdeal_pre_finite [hKernelPoolIdeal : Cert.KernelPoolIdeal.Facts] [hReferencePoolIdeal : Cert.ReferencePoolIdeal.Facts] [hPre_finite : Cert.Pre_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v2) = v0 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v108) = v0 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelCmp_KernelCmpIdeal : Prop :=
  True

def algebraic_KernelCmpIdeal_ReferenceCmpIdeal_pre_finite_weights [hKernelCmpIdeal : Cert.KernelCmpIdeal.Facts] [hReferenceCmpIdeal : Cert.ReferenceCmpIdeal.Facts] [hPre_finite_weights : Cert.Pre_finite_weights.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg)
    (m' : (ℓ : Loc Cert.ReferenceCmpIdeal.nD Cert.ReferenceCmpIdeal.τ Cert.ReferenceCmpIdeal.sig) → Buf (Elt Ideal) ℓ) (g' : Dev Cert.ReferenceCmpIdeal.nD → PrngReg), Pre_KernelCmpIdeal_finite_weights m →
    (∀ c : Dev Cert.KernelCmpIdeal.nD,
      m' ((c.tc : Thread Cert.ReferenceCmpIdeal.nD Cert.ReferenceCmpIdeal.τ).loc Cert.ReferenceCmpIdeal.main_arg0) = m ((c.tc : Thread Cert.KernelCmpIdeal.nD Cert.KernelCmpIdeal.τ).loc Cert.KernelCmpIdeal.main_arg0)
      ∧ m' ((c.tc : Thread Cert.ReferenceCmpIdeal.nD Cert.ReferenceCmpIdeal.τ).loc Cert.ReferenceCmpIdeal.main_arg1) = m ((c.tc : Thread Cert.KernelCmpIdeal.nD Cert.KernelCmpIdeal.τ).loc Cert.KernelCmpIdeal.main_arg1)
      ∧ m' ((c.tc : Thread Cert.ReferenceCmpIdeal.nD Cert.ReferenceCmpIdeal.τ).loc Cert.ReferenceCmpIdeal.main_arg2) = m ((c.tc : Thread Cert.KernelCmpIdeal.nD Cert.KernelCmpIdeal.τ).loc Cert.KernelCmpIdeal.main_arg2)
      ∧ m' ((c.tc : Thread Cert.ReferenceCmpIdeal.nD Cert.ReferenceCmpIdeal.τ).loc Cert.ReferenceCmpIdeal.main_arg3) = m ((c.tc : Thread Cert.KernelCmpIdeal.nD Cert.KernelCmpIdeal.τ).loc Cert.KernelCmpIdeal.main_arg3)
      ∧ m' ((c.tc : Thread Cert.ReferenceCmpIdeal.nD Cert.ReferenceCmpIdeal.τ).loc Cert.ReferenceCmpIdeal.main_arg4) = m ((c.tc : Thread Cert.KernelCmpIdeal.nD Cert.KernelCmpIdeal.τ).loc Cert.KernelCmpIdeal.main_arg4)
      ∧ m' ((c.tc : Thread Cert.ReferenceCmpIdeal.nD Cert.ReferenceCmpIdeal.τ).loc Cert.ReferenceCmpIdeal.main_arg5) = m ((c.tc : Thread Cert.KernelCmpIdeal.nD Cert.KernelCmpIdeal.τ).loc Cert.KernelCmpIdeal.main_arg5)
      ∧ m' ((c.tc : Thread Cert.ReferenceCmpIdeal.nD Cert.ReferenceCmpIdeal.τ).loc Cert.ReferenceCmpIdeal.main_arg6) = m ((c.tc : Thread Cert.KernelCmpIdeal.nD Cert.KernelCmpIdeal.τ).loc Cert.KernelCmpIdeal.main_arg6)
      ∧ m' ((c.tc : Thread Cert.ReferenceCmpIdeal.nD Cert.ReferenceCmpIdeal.τ).loc Cert.ReferenceCmpIdeal.main_arg7) = m ((c.tc : Thread Cert.KernelCmpIdeal.nD Cert.KernelCmpIdeal.τ).loc Cert.KernelCmpIdeal.main_arg7)) →
    ∃ (v0 : (c : Dev Cert.KernelCmpIdeal.nD) → Buf (Elt Ideal) ((c.tc : Thread Cert.KernelCmpIdeal.nD Cert.KernelCmpIdeal.τ).loc Cert.KernelCmpIdeal.main_v40)),
      θ_run (Cert.KernelCmpIdeal.defs (F := Ideal)) (onTc (τ := Cert.KernelCmpIdeal.τ) (Cert.KernelCmpIdeal.main (F := Ideal))) ⟨m, fun _ => 0, g⟩ (fun r => ∀ c : Dev Cert.KernelCmpIdeal.nD,
          r.2.mem ((c.tc : Thread Cert.KernelCmpIdeal.nD Cert.KernelCmpIdeal.τ).loc Cert.KernelCmpIdeal.main_v40) = v0 c
          ∧ r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
          ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
          ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2)
          ∧ r.2.mem ((c.tc : Thread Cert.KernelCmpIdeal.nD Cert.KernelCmpIdeal.τ).loc Cert.KernelCmpIdeal.main_arg3) = m ((c.tc : Thread Cert.KernelCmpIdeal.nD Cert.KernelCmpIdeal.τ).loc Cert.KernelCmpIdeal.main_arg3)
          ∧ r.2.mem ((c.tc : Thread Cert.KernelCmpIdeal.nD Cert.KernelCmpIdeal.τ).loc Cert.KernelCmpIdeal.main_arg4) = m ((c.tc : Thread Cert.KernelCmpIdeal.nD Cert.KernelCmpIdeal.τ).loc Cert.KernelCmpIdeal.main_arg4)
          ∧ r.2.mem ((c.tc : Thread Cert.KernelCmpIdeal.nD Cert.KernelCmpIdeal.τ).loc Cert.KernelCmpIdeal.main_arg5) = m ((c.tc : Thread Cert.KernelCmpIdeal.nD Cert.KernelCmpIdeal.τ).loc Cert.KernelCmpIdeal.main_arg5)
          ∧ r.2.mem ((c.tc : Thread Cert.KernelCmpIdeal.nD Cert.KernelCmpIdeal.τ).loc Cert.KernelCmpIdeal.main_arg6) = m ((c.tc : Thread Cert.KernelCmpIdeal.nD Cert.KernelCmpIdeal.τ).loc Cert.KernelCmpIdeal.main_arg6)
          ∧ r.2.mem ((c.tc : Thread Cert.KernelCmpIdeal.nD Cert.KernelCmpIdeal.τ).loc Cert.KernelCmpIdeal.main_arg7) = m ((c.tc : Thread Cert.KernelCmpIdeal.nD Cert.KernelCmpIdeal.τ).loc Cert.KernelCmpIdeal.main_arg7))
      ∧ θ_run (Cert.ReferenceCmpIdeal.defs (F := Ideal)) (onTc (τ := Cert.ReferenceCmpIdeal.τ) (Cert.ReferenceCmpIdeal.main (F := Ideal))) ⟨m', fun _ => 0, g'⟩ (fun r => ∀ c : Dev Cert.ReferenceCmpIdeal.nD,
          r.2.mem ((c.tc : Thread Cert.ReferenceCmpIdeal.nD Cert.ReferenceCmpIdeal.τ).loc Cert.ReferenceCmpIdeal.main_v132) = v0 c
          ∧ r.2.mem ((c.tc : Thread Cert.ReferenceCmpIdeal.nD Cert.ReferenceCmpIdeal.τ).loc Cert.ReferenceCmpIdeal.main_arg0) = m' ((c.tc : Thread Cert.ReferenceCmpIdeal.nD Cert.ReferenceCmpIdeal.τ).loc Cert.ReferenceCmpIdeal.main_arg0)
          ∧ r.2.mem ((c.tc : Thread Cert.ReferenceCmpIdeal.nD Cert.ReferenceCmpIdeal.τ).loc Cert.ReferenceCmpIdeal.main_arg1) = m' ((c.tc : Thread Cert.ReferenceCmpIdeal.nD Cert.ReferenceCmpIdeal.τ).loc Cert.ReferenceCmpIdeal.main_arg1)
          ∧ r.2.mem ((c.tc : Thread Cert.ReferenceCmpIdeal.nD Cert.ReferenceCmpIdeal.τ).loc Cert.ReferenceCmpIdeal.main_arg2) = m' ((c.tc : Thread Cert.ReferenceCmpIdeal.nD Cert.ReferenceCmpIdeal.τ).loc Cert.ReferenceCmpIdeal.main_arg2)
          ∧ r.2.mem ((c.tc : Thread Cert.ReferenceCmpIdeal.nD Cert.ReferenceCmpIdeal.τ).loc Cert.ReferenceCmpIdeal.main_arg3) = m' ((c.tc : Thread Cert.ReferenceCmpIdeal.nD Cert.ReferenceCmpIdeal.τ).loc Cert.ReferenceCmpIdeal.main_arg3)
          ∧ r.2.mem ((c.tc : Thread Cert.ReferenceCmpIdeal.nD Cert.ReferenceCmpIdeal.τ).loc Cert.ReferenceCmpIdeal.main_arg4) = m' ((c.tc : Thread Cert.ReferenceCmpIdeal.nD Cert.ReferenceCmpIdeal.τ).loc Cert.ReferenceCmpIdeal.main_arg4)
          ∧ r.2.mem ((c.tc : Thread Cert.ReferenceCmpIdeal.nD Cert.ReferenceCmpIdeal.τ).loc Cert.ReferenceCmpIdeal.main_arg5) = m' ((c.tc : Thread Cert.ReferenceCmpIdeal.nD Cert.ReferenceCmpIdeal.τ).loc Cert.ReferenceCmpIdeal.main_arg5)
          ∧ r.2.mem ((c.tc : Thread Cert.ReferenceCmpIdeal.nD Cert.ReferenceCmpIdeal.τ).loc Cert.ReferenceCmpIdeal.main_arg6) = m' ((c.tc : Thread Cert.ReferenceCmpIdeal.nD Cert.ReferenceCmpIdeal.τ).loc Cert.ReferenceCmpIdeal.main_arg6)
          ∧ r.2.mem ((c.tc : Thread Cert.ReferenceCmpIdeal.nD Cert.ReferenceCmpIdeal.τ).loc Cert.ReferenceCmpIdeal.main_arg7) = m' ((c.tc : Thread Cert.ReferenceCmpIdeal.nD Cert.ReferenceCmpIdeal.τ).loc Cert.ReferenceCmpIdeal.main_arg7))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelPool : Cert.KernelPool.Facts) (hKernelPoolIdeal : Cert.KernelPoolIdeal.Facts) (hReferencePoolIdeal : Cert.ReferencePoolIdeal.Facts) (hKernelCmp : Cert.KernelCmp.Facts) (hKernelCmpIdeal : Cert.KernelCmpIdeal.Facts) (hReferenceCmpIdeal : Cert.ReferenceCmpIdeal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPool (hKernelPool := hKernelPool)
    ∧ quiescent_KernelPoolIdeal (hKernelPoolIdeal := hKernelPoolIdeal)
    ∧ quiescent_KernelPoolIdeal_pre_finite (hKernelPoolIdeal := hKernelPoolIdeal) (hPre_finite := hPre_finite)
    ∧ quiescent_ReferencePoolIdeal (hReferencePoolIdeal := hReferencePoolIdeal)
    ∧ quiescent_ReferencePoolIdeal_pre_finite (hReferencePoolIdeal := hReferencePoolIdeal) (hPre_finite := hPre_finite)
    ∧ quiescent_KernelCmp (hKernelCmp := hKernelCmp)
    ∧ quiescent_KernelCmpIdeal (hKernelCmpIdeal := hKernelCmpIdeal)
    ∧ quiescent_KernelCmpIdeal_pre_finite_weights (hKernelCmpIdeal := hKernelCmpIdeal) (hPre_finite_weights := hPre_finite_weights)
    ∧ quiescent_ReferenceCmpIdeal (hReferenceCmpIdeal := hReferenceCmpIdeal)
    ∧ quiescent_ReferenceCmpIdeal_pre_finite_weights (hReferenceCmpIdeal := hReferenceCmpIdeal) (hPre_finite_weights := hPre_finite_weights)
    ∧ preserves_Kernel_KernelIdeal
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
    ∧ preserves_KernelPool_KernelPoolIdeal
    ∧ algebraic_KernelPoolIdeal_ReferencePoolIdeal_pre_finite (hKernelPoolIdeal := hKernelPoolIdeal) (hReferencePoolIdeal := hReferencePoolIdeal) (hPre_finite := hPre_finite)
    ∧ preserves_KernelCmp_KernelCmpIdeal
    ∧ algebraic_KernelCmpIdeal_ReferenceCmpIdeal_pre_finite_weights (hKernelCmpIdeal := hKernelCmpIdeal) (hReferenceCmpIdeal := hReferenceCmpIdeal) (hPre_finite_weights := hPre_finite_weights)
-- ==== Pre_finite.lean ====
abbrev S16384x512 : Shape := ⟨2, ![16384, 512]⟩
abbrev S4x128x128 : Shape := ⟨3, ![4, 128, 128]⟩
abbrev S512 : Shape := ⟨1, ![512]⟩
abbrev S16384x1536 : Shape := ⟨2, ![16384, 1536]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S4x128x128 .f32) (main_arg2 : FVec F S512 .f32) (main_arg3 : FVec F S16384x1536 .bf16) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_finite_weights.lean ====
abbrev S1024x8192 : Shape := ⟨2, ![1024, 8192]⟩
abbrev S8x2048 : Shape := ⟨2, ![8, 2048]⟩
abbrev S32x64 : Shape := ⟨2, ![32, 64]⟩
abbrev S2048x128 : Shape := ⟨2, ![2048, 128]⟩
abbrev S128x64 : Shape := ⟨2, ![128, 64]⟩
abbrev S2048x1 : Shape := ⟨2, ![2048, 1]⟩
abbrev S_ : Shape := ⟨0, ![]⟩

class Facts : Prop where
  shapeCasts_S32x64_S2048x1 : S32x64.ShapeCasts S2048x1
  bcast_S_S2048x1 : S_.BroadcastsInDim S2048x1 (![] : Fin 0 → Fin S2048x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)

variable [Facts]

def fn {F : FTy → Type} [FloatOps F] (main_arg0 : FVec F S1024x8192 .bf16) (main_arg1 : IVec S8x2048 32) (main_arg2 : FVec F S32x64 .f32) (main_arg3 : FVec F S2048x128 .f32) (main_arg4 : FVec F S128x64 .f32) (main_arg5 : FVec F S32x64 .f32) (main_arg6 : FVec F S2048x128 .f32) (main_arg7 : FVec F S128x64 .f32) : IVec S2048x128 1 :=
  let main_v0 : FVec F S2048x1 .f32 := shapeCast S2048x1 main_arg2 shapeCasts_S32x64_S2048x1
  let main_v1 : FVec F S2048x1 .f32 := shapeCast S2048x1 main_arg5 shapeCasts_S32x64_S2048x1
  let main_v2 : FVec F S2048x1 .f32 := Host.absf main_v0
  let main_cst : FVec F S_ .f32 := constant S_ .f32 0x7F800000#32
  let main_v3 : FVec F S2048x1 .f32 := broadcastInDim S2048x1 ![] bcast_S_S2048x1 main_cst
  let main_v4 : IVec S2048x1 1 := cmpf .olt main_v2 main_v3
  let main_v5 : FVec F S2048x128 .f32 := Host.absf main_arg3
  let main_cst_0 : FVec F S_ .f32 := constant S_ .f32 0x7F800000#32
  let main_v6 : FVec F S2048x128 .f32 := broadcastInDim S2048x128 ![] bcast_S_S2048x128 main_cst_0
  let main_v7 : IVec S2048x128 1 := cmpf .olt main_v5 main_v6
  let main_v8 : IVec S2048x128 1 := broadcastInDim S2048x128 ![0, 1] bcast_S2048x1_S2048x128_0_1 main_v4
  let main_v9 : IVec S2048x128 1 := andi main_v8 main_v7
  let main_v10 : FVec F S2048x1 .f32 := Host.absf main_v1
  let main_cst_1 : FVec F S_ .f32 := constant S_ .f32 0x7F800000#32
  let main_v11 : FVec F S2048x1 .f32 := broadcastInDim S2048x1 ![] bcast_S_S2048x1 main_cst_1
  let main_v12 : IVec S2048x1 1 := cmpf .olt main_v10 main_v11
  let main_v13 : IVec S2048x128 1 := broadcastInDim S2048x128 ![0, 1] bcast_S2048x1_S2048x128_0_1 main_v12
  let main_v14 : IVec S2048x128 1 := andi main_v9 main_v13
  let main_v15 : FVec F S2048x128 .f32 := Host.absf main_arg6
  let main_cst_2 : FVec F S_ .f32 := constant S_ .f32 0x7F800000#32
  let main_v16 : FVec F S2048x128 .f32 := broadcastInDim S2048x128 ![] bcast_S_S2048x128 main_cst_2
  let main_v17 : IVec S2048x128 1 := cmpf .olt main_v15 main_v16
  let main_v18 : IVec S2048x128 1 := andi main_v14 main_v17
  main_v18
-- ==== Kernel.lean ====
abbrev S16384x1024 : Shape := ⟨2, ![16384, 1024]⟩
abbrev S1024 : Shape := ⟨1, ![1024]⟩
abbrev S1024x5168 : Shape := ⟨2, ![1024, 5168]⟩
abbrev S16384x1536 : Shape := ⟨2, ![16384, 1536]⟩
abbrev S1024x1024 : Shape := ⟨2, ![1024, 1024]⟩
abbrev S512x1024 : Shape := ⟨2, ![512, 1024]⟩
abbrev S5168x1024 : Shape := ⟨2, ![5168, 1024]⟩
abbrev S1x1024 : Shape := ⟨2, ![1, 1024]⟩
abbrev S2048x1024 : Shape := ⟨2, ![2048, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5168, .f32⟩
  | .hbm, ⟨3, _⟩ => ⟨S16384x1536, .bf16⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S5168x1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3120_i32 : BitVec 32 := 3120#32
  let c0_i32 : BitVec 32 := 0#32
  let c0_i32_0 : BitVec 32 := 0#32
  ![c3120_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S1024 : Shape := ⟨1, ![1024]⟩
abbrev S1024x5168 : Shape := ⟨2, ![1024, 5168]⟩
abbrev S16384x1536 : Shape := ⟨2, ![16384, 1536]⟩
abbrev S1024x1024 : Shape := ⟨2, ![1024, 1024]⟩
abbrev S512x1024 : Shape := ⟨2, ![512, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S16384x5168 : Shape := ⟨2, ![16384, 5168]⟩
abbrev S16384x2048 : Shape := ⟨2, ![16384, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5168, .f32⟩
  | .hbm, ⟨3, _⟩ => ⟨S16384x1536, .bf16⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S16384x512, .bf16⟩
  | .hbm, ⟨27, _⟩ => ⟨S16384x512, .f32⟩
  | .hbm, ⟨28, _⟩ => ⟨S16384x5168, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S3x11 : Shape := ⟨2, ![3, 11]⟩
abbrev S1x1 : Shape := ⟨2, ![1, 1]⟩
abbrev S_ : Shape := ⟨0, ![]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x2816, .f32⟩
  | .local _ .vmem, ⟨7, _⟩ => ⟨S1024x2816, .f32⟩
  | .local _ .vmem, ⟨8, _⟩ => ⟨S2816x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== KernelIn.lean ====
abbrev S16384x1024 : Shape := ⟨2, ![16384, 1024]⟩
abbrev S8x2048 : Shape := ⟨2, ![8, 2048]⟩
abbrev S1024 : Shape := ⟨1, ![1024]⟩
abbrev S1024x5168 : Shape := ⟨2, ![1024, 5168]⟩
abbrev S16384 : Shape := ⟨1, ![16384]⟩
abbrev S8 : Shape := ⟨1, ![8]⟩
abbrev S_ : Shape := ⟨0, ![]⟩
abbrev S1x16384 : Shape := ⟨2, ![1, 16384]⟩
abbrev S8x1 : Shape := ⟨2, ![8, 1]⟩
abbrev S16384x256 : Shape := ⟨2, ![16384, 256]⟩
abbrev S1x2048 : Shape := ⟨2, ![1, 2048]⟩
abbrev S2048x256 : Shape := ⟨2, ![2048, 256]⟩
abbrev S48x2048 : Shape := ⟨2, ![48, 2048]⟩
abbrev S128x2048 : Shape := ⟨2, ![128, 2048]⟩
abbrev S128x128 : Shape := ⟨2, ![128, 128]⟩
abbrev S5168x1024 : Shape := ⟨2, ![5168, 1024]⟩
abbrev S1x1024 : Shape := ⟨2, ![1, 1024]⟩
abbrev S64x320x256 : Shape := ⟨3, ![64, 320, 256]⟩
abbrev S1024x8192 : Shape := ⟨2, ![1024, 8192]⟩
abbrev S16384x128 : Shape := ⟨2, ![16384, 128]⟩
abbrev S16384x512 : Shape := ⟨2, ![16384, 512]⟩
abbrev S1024x1024 : Shape := ⟨2, ![1024, 1024]⟩
abbrev S3120x1024 : Shape := ⟨2, ![3120, 1024]⟩
abbrev S1024x256 : Shape := ⟨2, ![1024, 256]⟩
abbrev S4x320x256 : Shape := ⟨3, ![4, 320, 256]⟩
abbrev S64x8192 : Shape := ⟨2, ![64, 8192]⟩
abbrev S1024x128 : Shape := ⟨2, ![1024, 128]⟩
abbrev S1024x512 : Shape := ⟨2, ![1024, 512]⟩
abbrev S4x1024x128 : Shape := ⟨3, ![4, 1024, 128]⟩
abbrev S16x256 : Shape := ⟨2, ![16, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S512x128 : Shape := ⟨2, ![512, 128]⟩
abbrev S256x1024 : Shape := ⟨2, ![256, 1024]⟩
abbrev S1x512x128 : Shape := ⟨3, ![1, 512, 128]⟩
abbrev S32x128 : Shape := ⟨2, ![32, 128]⟩
abbrev S1x32x128 : Shape := ⟨3, ![1, 32, 128]⟩
abbrev S128x1024 : Shape := ⟨2, ![128, 1024]⟩
abbrev S256x512 : Shape := ⟨2, ![256, 512]⟩
abbrev S64x256 : Shape := ⟨2, ![64, 256]⟩
abbrev S1x64x256 : Shape := ⟨3, ![1, 64, 256]⟩
abbrev S1x16x256 : Shape := ⟨3, ![1, 16, 256]⟩

abbrev nBuf : Space → Nat
  | .hbm => 26
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S8x2048, .i32⟩
  | .hbm, ⟨2, _⟩ => ⟨S1024, .f32⟩
  | .hbm, ⟨3, _⟩ => ⟨S1024x5168, .f32⟩
  | .hbm, ⟨4, _⟩ => ⟨S16384, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S1x16384, .i32⟩
  | .hbm, ⟨14, _⟩ => ⟨S8x1, .f32⟩
  | .hbm, ⟨15, _⟩ => ⟨S16384x256, .f32⟩
  | .hbm, ⟨16, _⟩ => ⟨S5168x1024, .f32⟩
  | .hbm, ⟨17, _⟩ => ⟨S1x1024, .f32⟩
  | .hbm, ⟨18, _⟩ => ⟨S16384x1024, .bf16⟩
  | .hbm, ⟨19, _⟩ => ⟨S16384x256, .bf16⟩
  | .hbm, ⟨20, _⟩ => ⟨S16384x256, .bf16⟩
  | .hbm, ⟨21, _⟩ => ⟨S64x320x256, .bf16⟩
  | .hbm, ⟨22, _⟩ => ⟨S64x320x256, .bf16⟩
  | .hbm, ⟨23, _⟩ => ⟨S1024x8192, .bf16⟩
  | .hbm, ⟨24, _⟩ => ⟨S16384x128, .f32⟩
  | .hbm, ⟨25, _⟩ => ⟨S16384x512, .f32⟩
  | .local _ .vmem, ⟨0, _⟩ => ⟨S1x2048, .i32⟩
  | .local _ .vmem, ⟨1, _⟩ => ⟨S1x2048, .i32⟩
  | .local _ .vmem, ⟨2, _⟩ => ⟨S8x1, .f32⟩
  | .local _ .vmem, ⟨3, _⟩ => ⟨S2048x256, .f32⟩
  | .local _ .vmem, ⟨4, _⟩ => ⟨S2048x256, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S3120x1024, .f32⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S4x320x256, .bf16⟩
  | .local _ .vmem, ⟨18, _⟩ => ⟨S4x320x256, .bf16⟩
  | .local _ .vmem, ⟨19, _⟩ => ⟨S4x320x256, .bf16⟩
  | .local _ .vmem, ⟨20, _⟩ => ⟨S4x320x256, .bf16⟩
  | .local _ .vmem, ⟨21, _⟩ => ⟨S64x8192, .bf16⟩
  | .local _ .vmem, ⟨22, _⟩ => ⟨S64x8192, .bf16⟩
  | .local _ .vmem, ⟨23, _⟩ => ⟨S1024x128, .f32⟩
  | .local _ .vmem, ⟨24, _⟩ => ⟨S1024x128, .f32⟩
  | .local _ .vmem, ⟨25, _⟩ => ⟨S1024x512, .f32⟩
  | .local _ .vmem, ⟨26, _⟩ => ⟨S1024x512, .f32⟩
  | .local _ .vmem, ⟨27, _⟩ => ⟨S4x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev main_v12_6 : Ref sig .tc := ⟨.hbm, 24, rfl⟩
abbrev main_v12_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3120x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x320x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x320x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x8192 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceInIdeal.lean ====
abbrev S16384x1024 : Shape := ⟨2, ![16384, 1024]⟩
abbrev S8x2048 : Shape := ⟨2, ![8, 2048]⟩
abbrev S1024 : Shape := ⟨1, ![1024]⟩
abbrev S1024x5168 : Shape := ⟨2, ![1024, 5168]⟩
abbrev S8x2048x1024 : Shape := ⟨3, ![8, 2048, 1024]⟩
abbrev S_ : Shape := ⟨0, ![]⟩
abbrev S8x2048x1 : Shape := ⟨3, ![8, 2048, 1]⟩
abbrev S1x1x1024 : Shape := ⟨3, ![1, 1, 1024]⟩
abbrev S8x2048x5168 : Shape := ⟨3, ![8, 2048, 5168]⟩
abbrev S8x2048x256 : Shape := ⟨3, ![8, 2048, 256]⟩
abbrev S8x2048x48 : Shape := ⟨3, ![8, 2048, 48]⟩
abbrev S8x2048x512 : Shape := ⟨3, ![8, 2048, 512]⟩
abbrev S8x2048x2048 : Shape := ⟨3, ![8, 2048, 2048]⟩
abbrev S8x2048x4x4x64 : Shape := ⟨5, ![8, 2048, 4, 4, 64]⟩
abbrev S8 : Shape := ⟨1, ![8]⟩
abbrev S1x1x8 : Shape := ⟨3, ![1, 1, 8]⟩
abbrev S8x2048x8 : Shape := ⟨3, ![8, 2048, 8]⟩
abbrev S8x2048x1x1x8 : Shape := ⟨5, ![8, 2048, 1, 1, 8]⟩
abbrev S8x2048x4x4x16 : Shape := ⟨5, ![8, 2048, 4, 4, 16]⟩
abbrev S8x2048x4x4x8 : Shape := ⟨5, ![8, 2048, 4, 4, 8]⟩
abbrev S8x2048x4x4x48 : Shape := ⟨5, ![8, 2048, 4, 4, 48]⟩
abbrev S8x2048x4x64 : Shape := ⟨4, ![8, 2048, 4, 64]⟩
abbrev S8x2048x1x8 : Shape := ⟨4, ![8, 2048, 1, 8]⟩
abbrev S8x2048x4x16 : Shape := ⟨4, ![8, 2048, 4, 16]⟩
abbrev S8x2048x4x8 : Shape := ⟨4, ![8, 2048, 4, 8]⟩
abbrev S8x2048x4x48 : Shape := ⟨4, ![8, 2048, 4, 48]⟩
abbrev S16384x256 : Shape := ⟨2, ![16384, 256]⟩
abbrev S64x256x4x64 : Shape := ⟨4, ![64, 256, 4, 64]⟩
abbrev S64x4x64x256 : Shape := ⟨4, ![64, 4, 64, 256]⟩
abbrev S64x4x1x256 : Shape := ⟨4, ![64, 4, 1, 256]⟩
abbrev S64x4x15x256 : Shape := ⟨4, ![64, 4, 15, 256]⟩
abbrev S64x4x80x256 : Shape := ⟨4, ![64, 4, 80, 256]⟩
abbrev S64x320x256 : Shape := ⟨3, ![64, 320, 256]⟩
abbrev S1024x16x4x64 : Shape := ⟨4, ![1024, 16, 4, 64]⟩
abbrev S1024x4x16x64 : Shape := ⟨4, ![1024, 4, 16, 64]⟩
abbrev S1024x4096 : Shape := ⟨2, ![1024, 4096]⟩
abbrev S1024x8192 : Shape := ⟨2, ![1024, 8192]⟩
abbrev S8x2048x128 : Shape := ⟨3, ![8, 2048, 128]⟩
abbrev S16384x128 : Shape := ⟨2, ![16384, 128]⟩
abbrev S16384x512 : Shape := ⟨2, ![16384, 512]⟩

abbrev nBuf : Space → Nat
  | .hbm => 172
  | .vmem => 0
  | .smem => 0
  | _ => 0

abbrev hbmTy0_0 (i : Nat) : BufTy := match i % 128 with
  | 0 => ⟨S16384x1024, .f32⟩
  | 1 => ⟨S8x2048, .i32⟩
  | 2 => ⟨S1024, .f32⟩
  | 3 => ⟨S1024x5168, .f32⟩
  | 4 => ⟨S8x2048x1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x2048x5168, .f32⟩
  | 22 => ⟨S8x2048x1024, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .f32⟩
  | 28 => ⟨S8x2048x256, .f32⟩
  | 29 => ⟨S8x2048x48, .f32⟩
  | 30 => ⟨S8x2048x512, .f32⟩
  | 31 => ⟨S8x2048x2048, .f32⟩
  | 32 => ⟨S8x2048x4x4x64, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8x2048, .f32⟩
  | 42 => ⟨S8x2048x1, .f32⟩
  | 43 => ⟨S1x1x8, .f32⟩
  | 44 => ⟨S8x2048x8, .f32⟩
  | 45 => ⟨S8x2048x8, .f32⟩
  | 46 => ⟨S8x2048x8, .f32⟩
  | 47 => ⟨S8x2048x1x1x8, .f32⟩
  | 48 => ⟨S8x2048x1x1x8, .f32⟩
  | 49 => ⟨S8x2048x1x1x8, .f32⟩
  | 50 => ⟨S8x2048x4x4x16, .f32⟩
  | 51 => ⟨S8x2048x4x4x8, .f32⟩
  | 52 => ⟨S8x2048x4x4x8, .f32⟩
  | 53 => ⟨S8x2048x4x4x8, .f32⟩
  | 54 => ⟨S8x2048x4x4x8, .f32⟩
  | 55 => ⟨S8x2048x4x4x8, .f32⟩
  | 56 => ⟨S8x2048x4x4x8, .f32⟩
  | 57 => ⟨S8x2048x4x4x8, .f32⟩
  | 58 => ⟨S8x2048x4x4x8, .f32⟩
  | 59 => ⟨S8x2048x4x4x8, .f32⟩
  | 60 => ⟨S8x2048x4x4x8, .f32⟩
  | 61 => ⟨S8x2048x4x4x8, .f32⟩
  | 62 => ⟨S8x2048x4x4x8, .f32⟩
  | 63 => ⟨S8x2048x4x4x16, .f32⟩
  | 64 => ⟨S8x2048x4x4x48, .f32⟩
  | 65 => ⟨S8x2048x4x4x64, .f32⟩
  | 66 => ⟨S8x2048x4x64, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S8x2048, .f32⟩
  | 76 => ⟨S8x2048x1, .f32⟩
  | 77 => ⟨S1x1x8, .f32⟩
  | 78 => ⟨S8x2048x8, .f32⟩
  | 79 => ⟨S8x2048x8, .f32⟩
  | 80 => ⟨S8x2048x8, .f32⟩
  | 81 => ⟨S8x2048x1x8, .f32⟩
  | 82 => ⟨S8x2048x1x8, .f32⟩
  | 83 => ⟨S8x2048x1x8, .f32⟩
  | 84 => ⟨S8x2048x4x16, .f32⟩
  | 85 => ⟨S8x2048x4x8, .f32⟩
  | 86 => ⟨S8x2048x4x8, .f32⟩
  | 87 => ⟨S8x2048x4x8, .f32⟩
  | 88 => ⟨S8x2048x4x8, .f32⟩
  | 89 => ⟨S8x2048x4x8, .f32⟩
  | 90 => ⟨S8x2048x4x8, .f32⟩
  | 91 => ⟨S8x2048x4x8, .f32⟩
  | 92 => ⟨S8x2048x4x8, .f32⟩
  | 93 => ⟨S8x2048x4x8, .f32⟩
  | 94 => ⟨S8x2048x4x8, .f32⟩
  | 95 => ⟨S8x2048x4x8, .f32⟩
  | 96 => ⟨S8x2048x4x8, .f32⟩
  | 97 => ⟨S8x2048x4x16, .f32⟩
  | 98 => ⟨S8x2048x4x48, .f32⟩
  | 99 => ⟨S8x2048x4x64, .f32⟩
  | 100 => ⟨S8x2048x4x64, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8x2048, .f32⟩
  | 110 => ⟨S8x2048x1, .f32⟩
  | 111 => ⟨S1x1x8, .f32⟩
  | 112 => ⟨S8x2048x8, .f32⟩
  | 113 => ⟨S8x2048x8, .f32⟩
  | 114 => ⟨S8x2048x8, .f32⟩
  | 115 => ⟨S8x2048x1x8, .f32⟩
  | 116 => ⟨S8x2048x1x8, .f32⟩
  | 117 => ⟨S8x2048x1x8, .f32⟩
  | 118 => ⟨S8x2048x4x16, .f32⟩
  | 119 => ⟨S8x2048x4x8, .f32⟩
  | 120 => ⟨S8x2048x4x8, .f32⟩
  | 121 => ⟨S8x2048x4x8, .f32⟩
  | 122 => ⟨S8x2048x4x8, .f32⟩
  | 123 => ⟨S8x2048x4x8, .f32⟩
  | 124 => ⟨S8x2048x4x8, .f32⟩
  | 125 => ⟨S8x2048x4x8, .f32⟩
  | 126 => ⟨S8x2048x4x8, .f32⟩
  | 127 => ⟨S8x2048x4x8, .f32⟩
  | _ => ⟨S16384x1024, .f32⟩

abbrev hbmTy0_1 (i : Nat) : BufTy := match i % 128 with
  | 0 => ⟨S8x2048x4x8, .f32⟩
  | 1 => ⟨S8x2048x4x8, .f32⟩
  | 2 => ⟨S8x2048x4x8, .f32⟩
  | 3 => ⟨S8x2048x4x16, .f32⟩
  | 4 => ⟨S8x2048x4x48, .f32⟩
  | 5 => ⟨S8x2048x4x64, .f32⟩
  | 6 => ⟨S16384x1024, .f32⟩
  | 7 => ⟨S_, .f32⟩
  | 8 => ⟨S16384x1024, .f32⟩
  | 9 => ⟨S16384x1024, .f32⟩
  | 10 => ⟨S16384x1024, .bf16⟩
  | 11 => ⟨S16384x256, .f32⟩
  | 12 => ⟨S16384x256, .bf16⟩
  | 13 => ⟨S16384x256, .f32⟩
  | 14 => ⟨S16384x256, .bf16⟩
  | 15 => ⟨S64x256x4x64, .f32⟩
  | 16 => ⟨S64x4x64x256, .f32⟩
  | 17 => ⟨S_, .f32⟩
  | 18 => ⟨S64x4x1x256, .f32⟩
  | 19 => ⟨S_, .f32⟩
  | 20 => ⟨S64x4x15x256, .f32⟩
  | 21 => ⟨S64x4x80x256, .f32⟩
  | 22 => ⟨S64x320x256, .f32⟩
  | 23 => ⟨S64x320x256, .bf16⟩
  | 24 => ⟨S64x256x4x64, .f32⟩
  | 25 => ⟨S64x4x64x256, .f32⟩
  | 26 => ⟨S_, .f32⟩
  | 27 => ⟨S64x4x1x256, .f32⟩
  | 28 => ⟨S_, .f32⟩
  | 29 => ⟨S64x4x15x256, .f32⟩
  | 30 => ⟨S64x4x80x256, .f32⟩
  | 31 => ⟨S64x320x256, .f32⟩
  | 32 => ⟨S64x320x256, .bf16⟩
  | 33 => ⟨S1024x16x4x64, .f32⟩
  | 34 => ⟨S1024x4x16x64, .f32⟩
  | 35 => ⟨S1024x4096, .f32⟩
  | 36 => ⟨S1024x16x4x64, .f32⟩
  | 37 => ⟨S1024x4x16x64, .f32⟩
  | 38 => ⟨S1024x4096, .f32⟩
  | 39 => ⟨S1024x8192, .f32⟩
  | 40 => ⟨S1024x8192, .bf16⟩
  | 41 => ⟨S8x2048x128, .f32⟩
  | 42 => ⟨S16384x128, .f32⟩
  | 43 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_6 : Ref sig .tc := ⟨.hbm, 103, rfl⟩
abbrev main_v92 : Ref sig .tc := ⟨.hbm, 104, rfl⟩
abbrev main_v93 : Ref sig .tc := ⟨.hbm, 105, rfl⟩
abbrev main_cst_7 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_cst_8 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_cst_9 : Ref sig .tc := ⟨.hbm, 145, rfl⟩
abbrev main_v131 : Ref sig .tc := ⟨.hbm, 146, rfl⟩
abbrev main_cst_10 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_cst_11 : Ref sig .tc := ⟨.hbm, 154, rfl⟩
abbrev main_v138 : Ref sig .tc := ⟨.hbm, 155, rfl⟩
abbrev main_cst_12 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩

abbrev nD : Nat := 1
abbrev τ : Topo := Topo.v7x

variable {F : FTy → Type} [FloatOps F]
-- ==== KernelPool.lean ====
abbrev S16384x512 : Shape := ⟨2, ![16384, 512]⟩
abbrev S4x128x128 : Shape := ⟨3, ![4, 128, 128]⟩
abbrev S512 : Shape := ⟨1, ![512]⟩
abbrev S16384x1536 : Shape := ⟨2, ![16384, 1536]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S16384x1536, .bf16⟩
  | .hbm, ⟨4, _⟩ => ⟨S4x128x128, .bf16⟩
  | .hbm, ⟨5, _⟩ => ⟨S1x512, .f32⟩
  | .hbm, ⟨6, _⟩ => ⟨S16384x1536, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePoolIdeal.lean ====
abbrev S16384x512 : Shape := ⟨2, ![16384, 512]⟩
abbrev S4x128x128 : Shape := ⟨3, ![4, 128, 128]⟩
abbrev S512 : Shape := ⟨1, ![512]⟩
abbrev S16384x1536 : Shape := ⟨2, ![16384, 1536]⟩
abbrev S8x2048x512 : Shape := ⟨3, ![8, 2048, 512]⟩
abbrev S_ : Shape := ⟨0, ![]⟩
abbrev S8x2049x512 : Shape := ⟨3, ![8, 2049, 512]⟩
abbrev S2048 : Shape := ⟨1, ![2048]⟩
abbrev S8x2049x128 : Shape := ⟨3, ![8, 2049, 128]⟩
abbrev S8x2048x128 : Shape := ⟨3, ![8, 2048, 128]⟩
abbrev S2048x1 : Shape := ⟨2, ![2048, 1]⟩
abbrev S1x2048x1 : Shape := ⟨3, ![1, 2048, 1]⟩
abbrev S8x2048x1x128 : Shape := ⟨4, ![8, 2048, 1, 128]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩
abbrev S16384x1024 : Shape := ⟨2, ![16384, 1024]⟩

abbrev nBuf : Space → Nat
  | .hbm => 138
  | .vmem => 0
  | .smem => 0
  | _ => 0

abbrev hbmTy0_0 (i : Nat) : BufTy := match i % 128 with
  | 0 => ⟨S16384x512, .f32⟩
  | 1 => ⟨S4x128x128, .f32⟩
  | 2 => ⟨S512, .f32⟩
  | 3 => ⟨S16384x1536, .bf16⟩
  | 4 => ⟨S8x2048x512, .f32⟩
  | 5 => ⟨S_, .f32⟩
  | 6 => ⟨S_, .f32⟩
  | 7 => ⟨S8x2048x512, .f32⟩
  | 8 => ⟨S_, .i32⟩
  | 9 => ⟨S_, .f32⟩
  | 10 => ⟨S8x2049x512, .f32⟩
  | 11 => ⟨S2048, .i32⟩
  | 12 => ⟨S_, .i32⟩
  | 13 => ⟨S2048, .i32⟩
  | 14 => ⟨S2048, .i32⟩
  | 15 => ⟨S8x2049x128, .f32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S2048, .f32⟩
  | 26 => ⟨S8x2048x128, .f32⟩
  | 27 => ⟨S_, .i32⟩
  | 28 => ⟨S2048, .i32⟩
  | 29 => ⟨S2048, .i1⟩
  | 30 => ⟨S_, .i32⟩
  | 31 => ⟨S2048, .i32⟩
  | 32 => ⟨S2048, .i32⟩
  | 33 => ⟨S2048, .i32⟩
  | 34 => ⟨S2048x1, .i32⟩
  | 35 => ⟨S8x2048x128, .f32⟩
  | 36 => ⟨S8x2048x128, .f32⟩
  | 37 => ⟨S1x2048x1, .f32⟩
  | 38 => ⟨S8x2048x128, .f32⟩
  | 39 => ⟨S8x2048x128, .f32⟩
  | 40 => ⟨S8x2048x128, .f32⟩
  | 41 => ⟨S8x2048x128, .f32⟩
  | 42 => ⟨S8x2049x128, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S2048, .f32⟩
  | 53 => ⟨S8x2048x128, .f32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S8x2048x128, .f32⟩
  | 63 => ⟨S8x2048x128, .f32⟩
  | 64 => ⟨S1x2048x1, .f32⟩
  | 65 => ⟨S8x2048x128, .f32⟩
  | 66 => ⟨S8x2048x128, .f32⟩
  | 67 => ⟨S8x2048x128, .f32⟩
  | 68 => ⟨S8x2048x128, .f32⟩
  | 69 => ⟨S8x2049x128, .f32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .f32⟩
  | 80 => ⟨S8x2048x128, .f32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S2048x1, .i32⟩
  | 89 => ⟨S8x2048x128, .f32⟩
  | 90 => ⟨S8x2048x128, .f32⟩
  | 91 => ⟨S1x2048x1, .f32⟩
  | 92 => ⟨S8x2048x128, .f32⟩
  | 93 => ⟨S8x2048x128, .f32⟩
  | 94 => ⟨S8x2048x128, .f32⟩
  | 95 => ⟨S8x2048x128, .f32⟩
  | 96 => ⟨S8x2049x128, .f32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .f32⟩
  | 107 => ⟨S8x2048x128, .f32⟩
  | 108 => ⟨S_, .i32⟩
  | 109 => ⟨S2048, .i32⟩
  | 110 => ⟨S2048, .i1⟩
  | 111 => ⟨S_, .i32⟩
  | 112 => ⟨S2048, .i32⟩
  | 113 => ⟨S2048, .i32⟩
  | 114 => ⟨S2048, .i32⟩
  | 115 => ⟨S2048x1, .i32⟩
  | 116 => ⟨S8x2048x128, .f32⟩
  | 117 => ⟨S8x2048x128, .f32⟩
  | 118 => ⟨S1x2048x1, .f32⟩
  | 119 => ⟨S8x2048x128, .f32⟩
  | 120 => ⟨S8x2048x128, .f32⟩
  | 121 => ⟨S8x2048x128, .f32⟩
  | 122 => ⟨S8x2048x128, .f32⟩
  | 123 => ⟨S8x2048x1x128, .f32⟩
  | 124 => ⟨S8x2048x1x128, .f32⟩
  | 125 => ⟨S8x2048x1x128, .f32⟩
  | 126 => ⟨S8x2048x1x128, .f32⟩
  | 127 => ⟨S8x2048x4x128, .f32⟩
  | _ => ⟨S16384x512, .f32⟩

abbrev hbmTy0_1 (i : Nat) : BufTy := match i % 128 with
  | 0 => ⟨S4x128x8x2048, .f32⟩
  | 1 => ⟨S8x2048x4x128, .f32⟩
  | 2 => ⟨S8x2048x512, .f32⟩
  | 3 => ⟨S1x1x512, .f32⟩
  | 4 => ⟨S8x2048x512, .f32⟩
  | 5 => ⟨S8x2048x512, .f32⟩
  | 6 => ⟨S16384x1024, .bf16⟩
  | 7 => ⟨S16384x512, .f32⟩
  | 8 => ⟨S16384x512, .bf16⟩
  | 9 => ⟨S16384x1536, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_c_17 : Ref sig .tc := ⟨.hbm, 100, rfl⟩
abbrev main_v75 : Ref sig .tc := ⟨.hbm, 101, rfl⟩
abbrev main_v76 : Ref sig .tc := ⟨.hbm, 102, rfl⟩
abbrev main_c_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_19 : Ref sig .tc := ⟨.hbm, 108, rfl⟩
abbrev main_v81 : Ref sig .tc := ⟨.hbm, 109, rfl⟩
abbrev main_v82 : Ref sig .tc := ⟨.hbm, 110, rfl⟩
abbrev main_c_20 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩

abbrev nD : Nat := 1
abbrev τ : Topo := Topo.v7x

variable {F : FTy → Type} [FloatOps F]
-- ==== KernelCmp.lean ====
abbrev S1024x8192 : Shape := ⟨2, ![1024, 8192]⟩
abbrev S8x2048 : Shape := ⟨2, ![8, 2048]⟩
abbrev S32x64 : Shape := ⟨2, ![32, 64]⟩
abbrev S2048x128 : Shape := ⟨2, ![2048, 128]⟩
abbrev S128x64 : Shape := ⟨2, ![128, 64]⟩
abbrev S8x127 : Shape := ⟨2, ![8, 127]⟩
abbrev S_ : Shape := ⟨0, ![]⟩
abbrev S8x128 : Shape := ⟨2, ![8, 128]⟩
abbrev S1024 : Shape := ⟨1, ![1024]⟩
abbrev S8 : Shape := ⟨1, ![8]⟩
abbrev S1x1024 : Shape := ⟨2, ![1, 1024]⟩
abbrev S8x1 : Shape := ⟨2, ![8, 1]⟩
abbrev S1024x256 : Shape := ⟨2, ![1024, 256]⟩
abbrev S8x1024 : Shape := ⟨2, ![8, 1024]⟩
abbrev S48x1024 : Shape := ⟨2, ![48, 1024]⟩
abbrev S128x1024 : Shape := ⟨2, ![128, 1024]⟩
abbrev S128x128 : Shape := ⟨2, ![128, 128]⟩
abbrev S1024x128 : Shape := ⟨2, ![1024, 128]⟩
abbrev S1x1024x256 : Shape := ⟨3, ![1, 1024, 256]⟩
abbrev S2x1024x256 : Shape := ⟨3, ![2, 1024, 256]⟩
abbrev S1x2048x128 : Shape := ⟨3, ![1, 2048, 128]⟩
abbrev S2x2048x128 : Shape := ⟨3, ![2, 2048, 128]⟩
abbrev S1x2048 : Shape := ⟨2, ![1, 2048]⟩
abbrev S1x8x2048 : Shape := ⟨3, ![1, 8, 2048]⟩
abbrev S2x8x2048 : Shape := ⟨3, ![2, 8, 2048]⟩
abbrev S1x128x128 : Shape := ⟨3, ![1, 128, 128]⟩
abbrev S2x128x128 : Shape := ⟨3, ![2, 128, 128]⟩
abbrev S1024x1024 : Shape := ⟨2, ![1024, 1024]⟩
abbrev S1x128 : Shape := ⟨2, ![1, 128]⟩

abbrev nBuf : Space → Nat
  | .hbm => 57
  | .vmem => 16
  | .smem => 0
  | _ => 0

abbrev bufTy : (tb : Table) → Fin (tcTables nBuf tb) → BufTy
  | .hbm, ⟨0, _⟩ => ⟨S1024x8192, .bf16⟩
  | .hbm, ⟨1, _⟩ => ⟨S8x2048, .i32⟩
  | .hbm, ⟨2, _⟩ => ⟨S32x64, .f32⟩
  | .hbm, ⟨3, _⟩ => ⟨S2048x128, .f32⟩
  | .hbm, ⟨4, _⟩ => ⟨S128x64, .f32⟩
  | .hbm, ⟨5, _⟩ => ⟨S32x64, .f32⟩
  | .hbm, ⟨6, _⟩ => ⟨S2048x128, .f32⟩
  | .hbm, ⟨7, _⟩ => ⟨S128x64, .f32⟩
  | .hbm, ⟨8, _⟩ => ⟨S8x127, .i32⟩
  | .hbm, ⟨9, _⟩ => ⟨S_, .i32⟩
  | .hbm, ⟨10, _⟩ => ⟨S_, .i32⟩
  | .hbm, ⟨11, _⟩ => ⟨S8x128, .i32⟩
  | .hbm, ⟨12, _⟩ => ⟨S1024, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x1024, .i32⟩
  | .hbm, ⟨22, _⟩ => ⟨S8x1, .f32⟩
  | .hbm, ⟨23, _⟩ => ⟨S1024x256, .f32⟩
  | .hbm, ⟨24, _⟩ => ⟨S1024x128, .f32⟩
  | .hbm, ⟨25, _⟩ => ⟨S1024x128, .f32⟩
  | .hbm, ⟨26, _⟩ => ⟨S1024x256, .f32⟩
  | .hbm, ⟨27, _⟩ => ⟨S1024x128, .f32⟩
  | .hbm, ⟨28, _⟩ => ⟨S1024x128, .f32⟩
  | .hbm, ⟨29, _⟩ => ⟨S1024x256, .f32⟩
  | .hbm, ⟨30, _⟩ => ⟨S1x1024x256, .f32⟩
  | .hbm, ⟨31, _⟩ => ⟨S1x1024x256, .f32⟩
  | .hbm, ⟨32, _⟩ => ⟨S2x1024x256, .f32⟩
  | .hbm, ⟨33, _⟩ => ⟨S2x1024x256, .bf16⟩
  | .hbm, ⟨34, _⟩ => ⟨S1x2048x128, .f32⟩
  | .hbm, ⟨35, _⟩ => ⟨S1x2048x128, .f32⟩
  | .hbm, ⟨36, _⟩ => ⟨S2x2048x128, .f32⟩
  | .hbm, ⟨37, _⟩ => ⟨S2x2048x128, .bf16⟩
  | .hbm, ⟨38, _⟩ => ⟨S1x2048, .f32⟩
  | .hbm, ⟨39, _⟩ => ⟨S8x2048, .f32⟩
  | .hbm, ⟨40, _⟩ => ⟨S1x2048, .f32⟩
  | .hbm, ⟨41, _⟩ => ⟨S8x2048, .f32⟩
  | .hbm, ⟨42, _⟩ => ⟨S1x8x2048, .f32⟩
  | .hbm, ⟨43, _⟩ => ⟨S1x8x2048, .f32⟩
  | .hbm, ⟨44, _⟩ => ⟨S2x8x2048, .f32⟩
  | .hbm, ⟨45, _⟩ => ⟨S2x8x2048, .bf16⟩
  | .hbm, ⟨46, _⟩ => ⟨S_, .i32⟩
  | .hbm, ⟨47, _⟩ => ⟨S_, .f32⟩
  | .hbm, ⟨48, _⟩ => ⟨S128x128, .f32⟩
  | .hbm, ⟨49, _⟩ => ⟨S_, .i32⟩
  | .hbm, ⟨50, _⟩ => ⟨S_, .f32⟩
  | .hbm, ⟨51, _⟩ => ⟨S128x128, .f32⟩
  | .hbm, ⟨52, _⟩ => ⟨S1x128x128, .f32⟩
  | .hbm, ⟨53, _⟩ => ⟨S1x128x128, .f32⟩
  | .hbm, ⟨54, _⟩ => ⟨S2x128x128, .f32⟩
  | .hbm, ⟨55, _⟩ => ⟨S2x128x128, .bf16⟩
  | .hbm, ⟨56, _⟩ => ⟨S1024x1024, .bf16⟩
  | .local _ .vmem, ⟨0, _⟩ => ⟨S1x1024, .i32⟩
  | .local _ .vmem, ⟨1, _⟩ => ⟨S8x1, .f32⟩
  | .local _ .vmem, ⟨2, _⟩ => ⟨S1024x256, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x8x2048, .bf16⟩
  | .local _ .vmem, ⟨8, _⟩ => ⟨S1x8x2048, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x128x128, .bf16⟩
  | .local _ .vmem, ⟨12, _⟩ => ⟨S1x128x128, .bf16⟩
  | .local _ .vmem, ⟨13, _⟩ => ⟨S1024x256, .f32⟩
  | .local _ .vmem, ⟨14, _⟩ => ⟨S1024x128, .bf16⟩
  | .local _ .vmem, ⟨15, _⟩ => ⟨S1024x128, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_1 : Ref sig .tc := ⟨.hbm, 46, rfl⟩
abbrev main_call1_v0 : Ref sig .tc := ⟨.hbm, 47, rfl⟩
abbrev main_v34 : Ref sig .tc := ⟨.hbm, 48, rfl⟩
abbrev main_c_2 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceCmpIdeal.lean ====
abbrev S1024x8192 : Shape := ⟨2, ![1024, 8192]⟩
abbrev S8x2048 : Shape := ⟨2, ![8, 2048]⟩
abbrev S32x64 : Shape := ⟨2, ![32, 64]⟩
abbrev S2048x128 : Shape := ⟨2, ![2048, 128]⟩
abbrev S128x64 : Shape := ⟨2, ![128, 64]⟩
abbrev S1024x8x16x64 : Shape := ⟨4, ![1024, 8, 16, 64]⟩
abbrev S1024x16x8x64 : Shape := ⟨4, ![1024, 16, 8, 64]⟩
abbrev S1x16384x8x64 : Shape := ⟨4, ![1, 16384, 8, 64]⟩
abbrev S1x16x8x64 : Shape := ⟨4, ![1, 16, 8, 64]⟩
abbrev S1x16400x8x64 : Shape := ⟨4, ![1, 16400, 8, 64]⟩
abbrev S127 : Shape := ⟨1, ![127]⟩
abbrev S_ : Shape := ⟨0, ![]⟩
abbrev S127x1 : Shape := ⟨2, ![127, 1]⟩
abbrev S8x127 : Shape := ⟨2, ![8, 127]⟩
abbrev S8x128 : Shape := ⟨2, ![8, 128]⟩
abbrev S1x1024 : Shape := ⟨2, ![1, 1024]⟩
abbrev S1x16400x4x64 : Shape := ⟨4, ![1, 16400, 4, 64]⟩
abbrev S1024 : Shape := ⟨1, ![1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1024x32x1 : Shape := ⟨3, ![1024, 32, 1]⟩
abbrev S1x1024x32x4x64 : Shape := ⟨5, ![1, 1024, 32, 4, 64]⟩
abbrev S32x1x64 : Shape := ⟨3, ![32, 1, 64]⟩
abbrev S1x1x32x1x64 : Shape := ⟨5, ![1, 1, 32, 1, 64]⟩
abbrev S1x1024x4x32x64 : Shape := ⟨5, ![1, 1024, 4, 32, 64]⟩
abbrev S1x1024x4x2048 : Shape := ⟨4, ![1, 1024, 4, 2048]⟩
abbrev S1x1024x4x128 : Shape := ⟨4, ![1, 1024, 4, 128]⟩
abbrev S1x1024x4x64 : Shape := ⟨4, ![1, 1024, 4, 64]⟩
abbrev S8 : Shape := ⟨1, ![8]⟩
abbrev S1x1024x1 : Shape := ⟨3, ![1, 1024, 1]⟩
abbrev S1x1x8 : Shape := ⟨3, ![1, 1, 8]⟩
abbrev S1x1024x8 : Shape := ⟨3, ![1, 1024, 8]⟩
abbrev S1x1024x1x8 : Shape := ⟨4, ![1, 1024, 1, 8]⟩
abbrev S1x1024x4x16 : Shape := ⟨4, ![1, 1024, 4, 16]⟩
abbrev S1x1024x4x8 : Shape := ⟨4, ![1, 1024, 4, 8]⟩
abbrev S1x1024x4x48 : Shape := ⟨4, ![1, 1024, 4, 48]⟩
abbrev S1x1024x8x64 : Shape := ⟨4, ![1, 1024, 8, 64]⟩
abbrev S1x1024x8x128 : Shape := ⟨4, ![1, 1024, 8, 128]⟩
abbrev S1024x1024 : Shape := ⟨2, ![1024, 1024]⟩

abbrev nBuf : Space → Nat
  | .hbm => 166
  | .vmem => 0
  | .smem => 0
  | _ => 0

abbrev hbmTy0_0 (i : Nat) : BufTy := match i % 128 with
  | 0 => ⟨S1024x8192, .bf16⟩
  | 1 => ⟨S8x2048, .i32⟩
  | 2 => ⟨S32x64, .f32⟩
  | 3 => ⟨S2048x128, .f32⟩
  | 4 => ⟨S128x64, .f32⟩
  | 5 => ⟨S32x64, .f32⟩
  | 6 => ⟨S2048x128, .f32⟩
  | 7 => ⟨S128x64, .f32⟩
  | 8 => ⟨S1024x8192, .f32⟩
  | 9 => ⟨S1024x8x16x64, .f32⟩
  | 10 => ⟨S1024x16x8x64, .f32⟩
  | 11 => ⟨S1x16384x8x64, .f32⟩
  | 12 => ⟨S1x16x8x64, .f32⟩
  | 13 => ⟨S1x16400x8x64, .f32⟩
  | 14 => ⟨S127, .i32⟩
  | 15 => ⟨S_, .i32⟩
  | 16 => ⟨S127, .i32⟩
  | 17 => ⟨S127, .i32⟩
  | 18 => ⟨S_, .i32⟩
  | 19 => ⟨S127, .i32⟩
  | 20 => ⟨S127, .i32⟩
  | 21 => ⟨S_, .i32⟩
  | 22 => ⟨S127, .i32⟩
  | 23 => ⟨S127, .i32⟩
  | 24 => ⟨S_, .i32⟩
  | 25 => ⟨S127, .i32⟩
  | 26 => ⟨S127, .i1⟩
  | 27 => ⟨S_, .i32⟩
  | 28 => ⟨S127, .i32⟩
  | 29 => ⟨S127, .i32⟩
  | 30 => ⟨S127, .i32⟩
  | 31 => ⟨S127x1, .i32⟩
  | 32 => ⟨S8x127, .i32⟩
  | 33 => ⟨S_, .i32⟩
  | 34 => ⟨S_, .i32⟩
  | 35 => ⟨S8x128, .i32⟩
  | 36 => ⟨S1x1024, .i32⟩
  | 37 => ⟨S1x16400x4x64, .f32⟩
  | 38 => ⟨S1024, .i32⟩
  | 39 => ⟨S1024x1, .i32⟩
  | 40 => ⟨S_, .i32⟩
  | 41 => ⟨S1024x1, .i32⟩
  | 42 => ⟨S1024x1, .i32⟩
  | 43 => ⟨S32, .i32⟩
  | 44 => ⟨S1x32, .i32⟩
  | 45 => ⟨S1024x32, .i32⟩
  | 46 => ⟨S1024x32, .i32⟩
  | 47 => ⟨S1024x32, .i32⟩
  | 48 => ⟨S_, .i32⟩
  | 49 => ⟨S1024x32, .i32⟩
  | 50 => ⟨S1024x32, .i1⟩
  | 51 => ⟨S_, .i32⟩
  | 52 => ⟨S1024x32, .i32⟩
  | 53 => ⟨S1024x32, .i32⟩
  | 54 => ⟨S1024x32, .i32⟩
  | 55 => ⟨S1024x32x1, .i32⟩
  | 56 => ⟨S1x1024x32x4x64, .f32⟩
  | 57 => ⟨S32x1x64, .f32⟩
  | 58 => ⟨S1x1x32x1x64, .f32⟩
  | 59 => ⟨S1x1024x32x4x64, .f32⟩
  | 60 => ⟨S1x1024x32x4x64, .f32⟩
  | 61 => ⟨S1x1024x4x32x64, .f32⟩
  | 62 => ⟨S1x1024x4x2048, .f32⟩
  | 63 => ⟨S1x1024x4x128, .f32⟩
  | 64 => ⟨S1x1024x4x128, .f32⟩
  | 65 => ⟨S1x1024x4x128, .f32⟩
  | 66 => ⟨S_, .f32⟩
  | 67 => ⟨S1x1024x4x128, .f32⟩
  | 68 => ⟨S1x1024x4x128, .f32⟩
  | 69 => ⟨S1x1024x4x128, .f32⟩
  | 70 => ⟨S_, .f32⟩
  | 71 => ⟨S1x1024x4x128, .f32⟩
  | 72 => ⟨S1x1024x4x128, .f32⟩
  | 73 => ⟨S1x1024x4x128, .f32⟩
  | 74 => ⟨S_, .f32⟩
  | 75 => ⟨S1x1024x4x128, .f32⟩
  | 76 => ⟨S1x1024x4x128, .f32⟩
  | 77 => ⟨S_, .f32⟩
  | 78 => ⟨S1x1024x4x128, .f32⟩
  | 79 => ⟨S1x1024x4x128, .f32⟩
  | 80 => ⟨S1x1024x4x128, .f32⟩
  | 81 => ⟨S1x1024x4x64, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S1x1024, .f32⟩
  | 91 => ⟨S1x1024x1, .f32⟩
  | 92 => ⟨S1x1x8, .f32⟩
  | 93 => ⟨S1x1024x8, .f32⟩
  | 94 => ⟨S1x1024x8, .f32⟩
  | 95 => ⟨S1x1024x8, .f32⟩
  | 96 => ⟨S1x1024x1x8, .f32⟩
  | 97 => ⟨S1x1024x1x8, .f32⟩
  | 98 => ⟨S1x1024x1x8, .f32⟩
  | 99 => ⟨S1x1024x4x16, .f32⟩
  | 100 => ⟨S1x1024x4x8, .f32⟩
  | 101 => ⟨S1x1024x4x8, .f32⟩
  | 102 => ⟨S1x1024x4x8, .f32⟩
  | 103 => ⟨S1x1024x4x8, .f32⟩
  | 104 => ⟨S1x1024x4x8, .f32⟩
  | 105 => ⟨S1x1024x4x8, .f32⟩
  | 106 => ⟨S1x1024x4x8, .f32⟩
  | 107 => ⟨S1x1024x4x8, .f32⟩
  | 108 => ⟨S1x1024x4x8, .f32⟩
  | 109 => ⟨S1x1024x4x8, .f32⟩
  | 110 => ⟨S1x1024x4x8, .f32⟩
  | 111 => ⟨S1x1024x4x8, .f32⟩
  | 112 => ⟨S1x1024x4x16, .f32⟩
  | 113 => ⟨S1x1024x4x48, .f32⟩
  | 114 => ⟨S1x1024x4x64, .f32⟩
  | 115 => ⟨S1x16400x4x64, .f32⟩
  | 116 => ⟨S1024, .i32⟩
  | 117 => ⟨S1024x1, .i32⟩
  | 118 => ⟨S_, .i32⟩
  | 119 => ⟨S1024x1, .i32⟩
  | 120 => ⟨S1024x1, .i32⟩
  | 121 => ⟨S32, .i32⟩
  | 122 => ⟨S1x32, .i32⟩
  | 123 => ⟨S1024x32, .i32⟩
  | 124 => ⟨S1024x32, .i32⟩
  | 125 => ⟨S1024x32, .i32⟩
  | 126 => ⟨S_, .i32⟩
  | 127 => ⟨S1024x32, .i32⟩
  | _ => ⟨S1024x8192, .bf16⟩

abbrev hbmTy0_1 (i : Nat) : BufTy := match i % 128 with
  | 0 => ⟨S1024x32, .i1⟩
  | 1 => ⟨S_, .i32⟩
  | 2 => ⟨S1024x32, .i32⟩
  | 3 => ⟨S1024x32, .i32⟩
  | 4 => ⟨S1024x32, .i32⟩
  | 5 => ⟨S1024x32x1, .i32⟩
  | 6 => ⟨S1x1024x32x4x64, .f32⟩
  | 7 => ⟨S32x1x64, .f32⟩
  | 8 => ⟨S1x1x32x1x64, .f32⟩
  | 9 => ⟨S1x1024x32x4x64, .f32⟩
  | 10 => ⟨S1x1024x32x4x64, .f32⟩
  | 11 => ⟨S1x1024x4x32x64, .f32⟩
  | 12 => ⟨S1x1024x4x2048, .f32⟩
  | 13 => ⟨S1x1024x4x128, .f32⟩
  | 14 => ⟨S1x1024x4x128, .f32⟩
  | 15 => ⟨S1x1024x4x128, .f32⟩
  | 16 => ⟨S_, .f32⟩
  | 17 => ⟨S1x1024x4x128, .f32⟩
  | 18 => ⟨S1x1024x4x128, .f32⟩
  | 19 => ⟨S1x1024x4x128, .f32⟩
  | 20 => ⟨S_, .f32⟩
  | 21 => ⟨S1x1024x4x128, .f32⟩
  | 22 => ⟨S1x1024x4x128, .f32⟩
  | 23 => ⟨S1x1024x4x128, .f32⟩
  | 24 => ⟨S_, .f32⟩
  | 25 => ⟨S1x1024x4x128, .f32⟩
  | 26 => ⟨S1x1024x4x128, .f32⟩
  | 27 => ⟨S_, .f32⟩
  | 28 => ⟨S1x1024x4x128, .f32⟩
  | 29 => ⟨S1x1024x4x128, .f32⟩
  | 30 => ⟨S1x1024x4x128, .f32⟩
  | 31 => ⟨S1x1024x4x64, .f32⟩
  | 32 => ⟨S1x1024x8x64, .f32⟩
  | 33 => ⟨S_, .i32⟩
  | 34 => ⟨S_, .f32⟩
  | 35 => ⟨S1x1024x8x128, .f32⟩
  | 36 => ⟨S1024x1024, .f32⟩
  | 37 => ⟨S1024x1024, .bf16⟩
  | _ => ⟨S1024x8192, .bf16⟩

abbrev hbmTy (i : Nat) : BufTy := match i / 128 with
  | 0 => hbmTy0_0 i
  | 1 => hbmTy0_1 i
  | _ => ⟨S1024x8192, .bf16⟩

abbrev bufTy : (tb : Table) → Fin (tcTables nBuf tb) → BufTy
  | .hbm, ⟨i, _⟩ => hbmTy i
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_13 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_c_14 : Ref sig .tc := ⟨.hbm, 126, rfl⟩
abbrev main_v101 : Ref sig .tc := ⟨.hbm, 127, rfl⟩
abbrev main_v102 : Ref sig .tc := ⟨.hbm, 128, rfl⟩
abbrev main_c_15 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_16 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_17 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_18 : Ref sig .tc := ⟨.hbm, 152, rfl⟩
abbrev main_v123 : Ref sig .tc := ⟨.hbm, 153, rfl⟩
abbrev main_v124 : Ref sig .tc := ⟨.hbm, 154, rfl⟩
abbrev main_cst_19 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_c_20 : Ref sig .tc := ⟨.hbm, 161, rfl⟩
abbrev main_call1_v0 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩

abbrev nD : Nat := 1
abbrev τ : Topo := Topo.v7x

variable {F : FTy → Type} [FloatOps F]
-- ==== Proof.Norm.lean ====
/- Root-mean-square normalisation of one row of 1024 numbers, over the extended reals: the function both programs of
   each pair apply to a row of the residual stream and to a row of what a block adds to it. -/
module

public import Idealize.ShloMosaic.Lib.Pointwise

@[expose] public section

noncomputable section

open Idealize.ShloMosaic

namespace Cert.Norm

/-- One over the root of a row's mean square, with the printed epsilon: the mean is the sum of squares divided by the
    printed constant 1024. -/
def inv (x : Fin 1024 → EReal) : EReal :=
  Ideal.rsqrt (Ideal.div (∑ k, x k * x k) (Ideal.ofBits .f32 0x44800000#32) + Ideal.ofBits .f32 0x358637BD#32)

/-- The normalised row, scaled entry by entry by the gain `g`. -/
def rms (x g : Fin 1024 → EReal) (k : Fin 1024) : EReal := x k * inv x * g k

end Cert.Norm

end
-- ==== Proof.Mixed.lean ====
/- The merge of the mixer's two branches, one token at a time, over the extended reals: what both programs of the
   merge's claim compute at each entry of the result. -/
module

public import proofs.«01_k».proof.Proof.Norm

@[expose] public section

noncomputable section

open Idealize.ShloMosaic

namespace Cert.Mixed

/-- Entry `c` of one token's gated sum of its two branches: each branch's projection (the attention's 1024 entries `a`
    through `va`, the pooling's 512 entries `p` through `vp`), weighted by the logistic of that branch's gate, which is
    the product of the normalised token `h` with the gate's weights (`wa c`, `wb c`). -/
def mix (h : Fin 1024 → EReal) (wa wb : Fin 1024 → Fin 1024 → EReal) (a : Fin 1024 → EReal)
    (va : Fin 1024 → Fin 1024 → EReal) (p : Fin 512 → EReal) (vp : Fin 512 → Fin 1024 → EReal) (c : Fin 1024) : EReal :=
  Ideal.logistic (∑ k, h k * wa c k) * ∑ j, a j * va j c + Ideal.logistic (∑ k, h k * wb c k) * ∑ j, p j * vp j c

/-- Entry `d` of one token's row after the merge: the token plus the normalised output projection of its gated sum. -/
def row (x g : Fin 1024 → EReal) (wa wb : Fin 1024 → Fin 1024 → EReal) (a : Fin 1024 → EReal)
    (va : Fin 1024 → Fin 1024 → EReal) (p : Fin 512 → EReal) (vp : Fin 512 → Fin 1024 → EReal)
    (wo : Fin 1024 → Fin 1024 → EReal) (g' : Fin 1024 → EReal) (d : Fin 1024) : EReal :=
  x d + Norm.rms (fun d => ∑ c, mix (Norm.rms x g) wa wb a va p vp c * wo c d) g' d

/-- Rows of equal operands are equal. -/
theorem row_congr {x x' g g' : Fin 1024 → EReal} {wa wa' wb wb' : Fin 1024 → Fin 1024 → EReal} {a a' : Fin 1024 → EReal}
    {va va' : Fin 1024 → Fin 1024 → EReal} {p p' : Fin 512 → EReal} {vp vp' : Fin 512 → Fin 1024 → EReal}
    {wo wo' : Fin 1024 → Fin 1024 → EReal} {f f' : Fin 1024 → EReal} {d d' : Fin 1024}
    (hx : ∀ k, x k = x' k) (hg : ∀ k, g k = g' k) (hwa : ∀ c k, wa c k = wa' c k) (hwb : ∀ c k, wb c k = wb' c k)
    (ha : ∀ k, a k = a' k) (hva : ∀ k c, va k c = va' k c) (hp : ∀ k, p k = p' k) (hvp : ∀ k c, vp k c = vp' k c)
    (hwo : ∀ c d, wo c d = wo' c d) (hf : ∀ k, f k = f' k) (hd : d = d') :
    row x g wa wb a va p vp wo f d = row x' g' wa' wb' a' va' p' vp' wo' f' d' := by
  obtain rfl : x = x' := funext hx
  obtain rfl : g = g' := funext hg
  obtain rfl : wa = wa' := funext fun c => funext (hwa c)
  obtain rfl : wb = wb' := funext fun c => funext (hwb c)
  obtain rfl : a = a' := funext ha
  obtain rfl : va = va' := funext fun k => funext (hva k)
  obtain rfl : p = p' := funext hp
  obtain rfl : vp = vp' := funext fun k => funext (hvp k)
  obtain rfl : wo = wo' := funext fun c => funext (hwo c)
  obtain rfl : f = f' := funext hf
  rw [hd]

end Cert.Mixed

end
-- ==== Proof.Merge.lean ====
/- The values of the merge's two programs: what the kernel leaves in its result array and what the reference computes are
   the same function of the arguments, row by row. -/
module

public import proofs.«01_k».proof.Proof.Mixed
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mixed

/-- What the body stores for the first half of a block, at row `r` and column `d`: that token's merged row. -/
theorem first_at (x : FVec Ideal S512x1024 .f32) (g : FVec Ideal S1x1024 .f32) (wa wb : FVec Ideal S1024x1024 .f32)
    (a : FVec Ideal S512x1024 .bf16) (va : FVec Ideal S1024x1024 .f32) (p : FVec Ideal S512x512 .bf16)
    (vp : FVec Ideal S512x1024 .f32) (wo : FVec Ideal S1024x1024 .f32) (g' : FVec Ideal S1x1024 .f32)
    (r : Fin 512) (d : Fin 1024) :
    k0_pay3 (F := Ideal) x (k0_pay2 x g wa wb a va p vp) wo g' (ix2 r d)
      = row (fun k => x (ix2 r k)) (fun k => g (ix2 0 k)) (fun c k => wa (ix2 c k)) (fun c k => wb (ix2 c k))
          (fun k => a (ix2 r k)) (fun k c => va (ix2 k c)) (fun k => p (ix2 r k)) (fun k c => vp (ix2 k c))
          (fun c d => wo (ix2 c d)) (fun k => g' (ix2 0 k)) d := by
  pointwise [k0_pay3, k0_pay2]
  rfl

/-- What the body stores for the second half of a block is the same function of the second half's rows. -/
theorem second_at (x : FVec Ideal S512x1024 .f32) (g : FVec Ideal S1x1024 .f32) (wa wb : FVec Ideal S1024x1024 .f32)
    (a : FVec Ideal S512x1024 .bf16) (va : FVec Ideal S1024x1024 .f32) (p : FVec Ideal S512x512 .bf16)
    (vp : FVec Ideal S512x1024 .f32) (wo : FVec Ideal S1024x1024 .f32) (g' : FVec Ideal S1x1024 .f32)
    (r : Fin 512) (d : Fin 1024) :
    k0_pay1 (F := Ideal) x (k0_pay4 x g) (k0_pay5 x g wa) (k0_pay6 wb) a va p vp wo g' (ix2 r d)
      = row (fun k => x (ix2 r k)) (fun k => g (ix2 0 k)) (fun c k => wa (ix2 c k)) (fun c k => wb (ix2 c k))
          (fun k => a (ix2 r k)) (fun k c => va (ix2 k c)) (fun k => p (ix2 r k)) (fun k c => vp (ix2 k c))
          (fun c d => wo (ix2 c d)) (fun k => g' (ix2 0 k)) d := by
  pointwise [k0_pay1, k0_pay4, k0_pay5, k0_pay6]
  rfl

/-- Where each window's block stands at each grid point, in blocks; for the gates' weights, in elements. -/
theorem idx : ∀ t : Fin cfg0.N, win0_0.index t = ![t.val, 0] ∧ win0_1.index t = ![0, 0] ∧ win0_2.index t = ![3120, 0]
    ∧ win0_3.index t = ![t.val, 0] ∧ win0_4.index t = ![0, 0] ∧ win0_5.index t = ![t.val, 2] ∧ win0_6.index t = ![0, 0]
    ∧ win0_7.index t = ![0, 0] ∧ win0_8.index t = ![0, 0] ∧ win0_9.index t = ![t.val, 0] ∧ t.val < 16 :=
  (by decide +kernel : ∀ t : Fin grid0.N, _)

/-- The merged array as a function of the arguments: each token's row, its operands read off the argument arrays. The
    gates' weights are the last 2048 columns of the input projection, from column 3120 on. -/
def merged (x : FVec Ideal S16384x1024 .f32) (g : FVec Ideal S1024 .f32) (w : FVec Ideal S1024x5168 .f32)
    (b : FVec Ideal S16384x1536 .bf16) (va : FVec Ideal S1024x1024 .f32) (vp : FVec Ideal S512x1024 .f32)
    (wo : FVec Ideal S1024x1024 .f32) (g' : FVec Ideal S1024 .f32) (r : Fin 16384) (d : Fin 1024) : EReal :=
  row (fun k => x (ix2 r k)) (fun k => g (ix1 k)) (fun c k => w (ix2 k ⟨3120 + c.val, by omega⟩))
    (fun c k => w (ix2 k ⟨3120 + (1024 + c.val), by omega⟩)) (fun k => b (ix2 r ⟨k.val, by omega⟩))
    (fun k c => va (ix2 k c)) (fun k => b (ix2 r ⟨1024 + k.val, by omega⟩)) (fun k c => vp (ix2 k c))
    (fun c d => wo (ix2 c d)) (fun k => g' (ix1 k)) d

variable (m : (ℓ : Loc nD τ sig) → Buf (Elt Ideal) ℓ)

/-- The gains before the mixer, as the kernel holds them: the argument as one row. -/
theorem gain_at (c : Dev nD) (t : Fin cfg0.N) (k : Fin 1024) :
    iblk m c 1 t (ix2 0 k : S1x1024.Idx) = m ((c : Thread nD τ).loc main_arg1) (ix1 k : S1024.Idx) := by
  blk_point [iblk, idx t]

/-- The gains after the mixer. -/
theorem gain'_at (c : Dev nD) (t : Fin cfg0.N) (k : Fin 1024) :
    iblk m c 8 t (ix2 0 k : S1x1024.Idx) = m ((c : Thread nD τ).loc main_arg7) (ix1 k : S1024.Idx) := by
  blk_point [iblk, idx t]

/-- The block of the gates' weights: rows of the transposed input projection from row 3120 on. -/
theorem gate_at (c : Dev nD) (t : Fin cfg0.N) (n : Fin 2048) (k : Fin 1024) :
    iblk m c 2 t (ix2 n k : S2048x1024.Idx)
      = m ((c : Thread nD τ).loc main_arg2) (ix2 k ⟨3120 + n.val, by omega⟩ : S1024x5168.Idx) := by
  have h0 : ((((cfg0.win 2).blk t).view.emb (ix2 n k : S2048x1024.Idx) 0 : Fin _) : ℕ) = 3120 + n.val := by
    refine (Pipeline.Window.rect_emb_val_off win0_2 t _ 0).trans ?_
    rw [(idx t).2.2.1]; rfl
  have h1 : ((((cfg0.win 2).blk t).view.emb (ix2 n k : S2048x1024.Idx) 1 : Fin _) : ℕ) = k.val := by
    refine (Pipeline.Window.rect_emb_val_off win0_2 t _ 1).trans ?_
    rw [(idx t).2.2.1]; exact Nat.zero_add _
  have e : ((cfg0.win 2).blk t).view.emb (ix2 n k : S2048x1024.Idx) = (ix2 ⟨3120 + n.val, by omega⟩ k : S5168x1024.Idx) := by
    funext a
    fin_cases a
    · exact Fin.ext h0
    · exact Fin.ext h1
  show V m c main_v0 (((cfg0.win 2).blk t).view.emb (ix2 n k : S2048x1024.Idx)) = _
  rw [e]
  entry_read
  pointwise

/-- The block of the attention's columns. -/
theorem attn_at (c : Dev nD) (t : Fin cfg0.N) (r k : Fin 1024) (h : t.val * 1024 + r.val < 16384) :
    X0_3 m c t (ix2 r k : S1024x1024.Idx)
      = m ((c : Thread nD τ).loc main_arg3) (ix2 ⟨t.val * 1024 + r.val, h⟩ ⟨k.val, by omega⟩ : S16384x1536.Idx) := by
  unfold X0_3 Pipeline.Window.fill
  rw [dif_pos (moved0_3 t _)]
  show V m c main_arg3 _ = _
  rw [V_main_arg3]
  refine congrArg _ (funext fun a => ?_)
  have h0 : ((((cfg0.win 3).blk t).view.emb (fun a => ⟨(ix2 r k : S1024x1024.Idx) a, lt_of_lt_of_eq ((ix2 r k : S1024x1024.Idx) a).isLt (xsize0_3 t a).symm⟩) 0 : Fin _) : ℕ) = t.val * 1024 + r.val := by
    refine (Pipeline.Window.rect_emb_val_off win0_3 t _ 0).trans ?_
    rw [(idx t).2.2.2.1]; rfl
  have h1 : ((((cfg0.win 3).blk t).view.emb (fun a => ⟨(ix2 r k : S1024x1024.Idx) a, lt_of_lt_of_eq ((ix2 r k : S1024x1024.Idx) a).isLt (xsize0_3 t a).symm⟩) 1 : Fin _) : ℕ) = k.val := by
    refine (Pipeline.Window.rect_emb_val_off win0_3 t _ 1).trans ?_
    rw [(idx t).2.2.2.1]; exact Nat.zero_add _
  fin_cases a
  · exact Fin.ext h0
  · exact Fin.ext h1

/-- After the run the kernel's result array holds the merged rows. -/
theorem final (c : Dev nD) : (dats m 0 c).arrAt 9 cfg0.N = fun i => merged (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (i 0) (i 1) := by
  refine (dats m 0 c).arrAt_eq_of_covers 9 _ (by decide +kernel) fun t hf y => ?_
  blk_simp
  rw [after0_9]
  unfold outsAt0
  frame_out
  unfold merged
  have ht : t.val < 16 := (idx t).2.2.2.2.2.2.2.2.2.2
  canon_tiles x h
  · idx_vars x
    refine (second_at _ _ _ _ _ _ _ _ _ _ x0 x1).trans (row_congr ?_ ?_ ?_ ?_ ?_ ?_ ?_ ?_ ?_ ?_ ?_)
    · intro k; pointwise; blk_point [iblk, V, idx t]
    · intro k; exact gain_at m c t k
    · intro j k; pointwise; exact gate_at m c t _ k
    · intro j k; pointwise; exact gate_at m c t _ k
    · intro k; pointwise; rw [attn_at m c t _ k (by dsimp only; omega)]; blk_ext [idx t]
    · intro k j; blk_point [iblk, V, idx t]
    · intro k; pointwise; blk_point [iblk, V, idx t]
    · intro k j; blk_point [iblk, V, idx t]
    · intro k j; blk_point [iblk, V, idx t]
    · intro k; exact gain'_at m c t k
    · refine Fin.ext ?_; blk_simp [idx t]; omega
  · idx_vars x
    refine (first_at _ _ _ _ _ _ _ _ _ _ x0 x1).trans (row_congr ?_ ?_ ?_ ?_ ?_ ?_ ?_ ?_ ?_ ?_ ?_)
    · intro k; pointwise; blk_point [iblk, V, idx t]
    · intro k; exact gain_at m c t k
    · intro j k; pointwise; exact gate_at m c t _ k
    · intro j k; pointwise; exact gate_at m c t _ k
    · intro k; pointwise; rw [attn_at m c t _ k (by dsimp only; omega)]; blk_ext [idx t]
    · intro k j; blk_point [iblk, V, idx t]
    · intro k; pointwise; blk_point [iblk, V, idx t]
    · intro k j; blk_point [iblk, V, idx t]
    · intro k j; blk_point [iblk, V, idx t]
    · intro k; exact gain'_at m c t k
    · refine Fin.ext ?_; blk_simp [idx t]; omega

end Cert.KernelIdeal.Value

namespace Cert.ReferenceIdeal.Value

open Cert.ReferenceIdeal Cert.Mixed

variable (m : (ℓ : Loc nD τ sig) → Buf (Elt Ideal) ℓ)

/-- The reference's result, entry by entry, is the same merged row of its arguments. -/
theorem merged_at (c : Dev nD) (r : Fin 16384) (d : Fin 1024) : res_main_v46 m c (ix2 r d : S16384x1024.Idx)
    = (Cert.KernelIdeal.Value.merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        r d : EReal) := by
  unfold res_main_v46
  clean_types
  pointwise
  simp only [Cert.KernelIdeal.Value.merged, row, mix, Norm.rms, Norm.inv, Ideal.logistic]

end Cert.ReferenceIdeal.Value

end
-- ==== Proof.Gated.lean ====
/- The gated feed-forward block, one token at a time, over the extended reals: what both programs of the feed-forward
   claim compute at each entry of the result. -/
module

public import proofs.«01_k».proof.Proof.Norm

@[expose] public section

noncomputable section

open Idealize.ShloMosaic

namespace Cert.Gated

/-- One hidden unit of a normalised token `h`: the product with the unit's gate weights, times the logistic of that
    product, times the product with the unit's other weights. -/
def hidden (h wg wu : Fin 1024 → EReal) : EReal :=
  (∑ k, h k * wg k) * Ideal.logistic (∑ k, h k * wg k) * ∑ k, h k * wu k

/-- Entry `d` of what the block makes of a normalised token: its 2816 hidden units through the second weight. -/
def out (h : Fin 1024 → EReal) (wg wu : Fin 1024 → Fin 2816 → EReal) (wd : Fin 2816 → Fin 1024 → EReal) (d : Fin 1024) : EReal :=
  ∑ j, hidden h (fun k => wg k j) (fun k => wu k j) * wd j d

/-- Entry `d` of one token's row after the block: the token plus half of the normalised output. -/
def row (x g : Fin 1024 → EReal) (wg wu : Fin 1024 → Fin 2816 → EReal) (wd : Fin 2816 → Fin 1024 → EReal)
    (g' : Fin 1024 → EReal) (d : Fin 1024) : EReal :=
  x d + Ideal.ofBits .f32 0x3F000000#32 * Norm.rms (out (Norm.rms x g) wg wu wd) g' d

/-- The part of the output that hidden units `256 a` to `256 a + 255` make. -/
def part (h : Fin 1024 → EReal) (wg wu : Fin 1024 → Fin 2816 → EReal) (wd : Fin 2816 → Fin 1024 → EReal) (d : Fin 1024)
    (a : Fin 11) : EReal :=
  ∑ j : Fin 256, hidden h (fun k => wg k ⟨a.val * 256 + j.val, by omega⟩) (fun k => wu k ⟨a.val * 256 + j.val, by omega⟩)
    * wd ⟨a.val * 256 + j.val, by omega⟩ d

/-- The output is the sum of its eleven parts, in order. -/
theorem out_parts (h : Fin 1024 → EReal) (wg wu : Fin 1024 → Fin 2816 → EReal) (wd : Fin 2816 → Fin 1024 → EReal)
    (d : Fin 1024) (p : Fin 11 → EReal) (hp : ∀ a, p a = part h wg wu wd d a) :
    p 0 + p 1 + p 2 + p 3 + p 4 + p 5 + p 6 + p 7 + p 8 + p 9 + p 10 = out h wg wu wd d := by
  unfold out
  rw [Fin.sum_univ_tiles 11 256 rfl]
  simp only [Fin.sum_univ_castSucc (n := 10), Fin.sum_univ_eight, Fin.sum_univ_castSucc (n := 9), Fin.sum_univ_castSucc (n := 8), hp]
  rfl

end Cert.Gated

end
-- ==== Proof.Ffn.lean ====
/- The feed-forward kernel and its reference compute the same array: every entry of the kernel's result, read off the
   body's eleven chunks at each grid point, is the spec row of `Gated`, and so is every entry of the reference's
   result. The weights the first grid point copies are kept for all the later ones. -/
module

public import proofs.«01_k».proof.Proof.Gated
public import proofs.«01_k».proof.Proof.Gen.KernelFfnIdeal.Value
public import proofs.«01_k».proof.Proof.Gen.ReferenceFfnIdeal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.Gated

/-- The body normalises its block of tokens row by row. -/
theorem norm_at (x : FVec Ideal S512x1024 .f32) (g : FVec Ideal S1x1024 .f32) (r : Fin 512) (k : Fin 1024) :
    k0_pay27 (F := Ideal) x g (ix2 r k) = Norm.rms (fun k => x (ix2 r k)) (fun k => g (ix2 0 k)) k := by
  pointwise [k0_pay27]
  rfl

/-- What the first chunk stores: its part of the product with the second weight. -/
theorem first_at (x : FVec Ideal S512x1024 .f32) (g : FVec Ideal S1x1024 .f32) (G U : FVec Ideal S1024x256 .f32)
    (D : FVec Ideal S256x1024 .f32) (r : Fin 512) (d : Fin 1024) :
    k0_pay28 (F := Ideal) x g G U D (ix2 r d)
      = ∑ j, hidden (Norm.rms (fun k => x (ix2 r k)) (fun k => g (ix2 0 k))) (fun k => G (ix2 k j)) (fun k => U (ix2 k j))
          * D (ix2 j d) := by
  pointwise [k0_pay28]
  simp only [norm_at]
  rfl

/-- What a later chunk stores: its part added to what is already there. -/
theorem step_at (h : FVec Ideal S512x1024 .f32) (G U : FVec Ideal S1024x256 .f32) (D : FVec Ideal S256x1024 .f32)
    (acc : FVec Ideal S512x1024 .f32) (r : Fin 512) (d : Fin 1024) :
    k0_pay41 (F := Ideal) h G U D acc (ix2 r d)
      = acc (ix2 r d) + ∑ j, hidden (fun k => h (ix2 r k)) (fun k => G (ix2 k j)) (fun k => U (ix2 k j)) * D (ix2 j d) := by
  pointwise [k0_pay41]
  rfl

/-- What the body stores last: the token plus half the normalised sum. -/
theorem last_at (x y : FVec Ideal S512x1024 .f32) (g : FVec Ideal S1x1024 .f32) (r : Fin 512) (d : Fin 1024) :
    k0_pay3 (F := Ideal) x y g (ix2 r d)
      = x (ix2 r d) + Ideal.ofBits .f32 0x3F000000#32 * Norm.rms (fun k => y (ix2 r k)) (fun k => g (ix2 0 k)) d := by
  pointwise [k0_pay3]
  rfl

variable (x h acc : FVec Ideal S512x1024 .f32) (g : FVec Ideal S1x1024 .f32) (G U : FVec Ideal S1024x256 .f32)
  (D : FVec Ideal S256x1024 .f32)

/-- However the first point's body is cut into values, each of its chunks after the first is the same step. -/
theorem steps_first : k0_pay7 (F := Ideal) h (k0_pay6 h G) U D acc = k0_pay41 h G U D acc
    ∧ k0_pay9 (F := Ideal) h (k0_pay8 h G) U D acc = k0_pay41 h G U D acc
    ∧ k0_pay11 (F := Ideal) h (k0_pay10 h G) U D acc = k0_pay41 h G U D acc
    ∧ k0_pay13 (F := Ideal) h (k0_pay12 h G) U D acc = k0_pay41 h G U D acc
    ∧ k0_pay15 (F := Ideal) h (k0_pay14 h G) U D acc = k0_pay41 h G U D acc
    ∧ k0_pay17 (F := Ideal) h (k0_pay16 h G) U D acc = k0_pay41 h G U D acc
    ∧ k0_pay19 (F := Ideal) h (k0_pay18 h G) U D acc = k0_pay41 h G U D acc
    ∧ k0_pay21 (F := Ideal) h (k0_pay20 h G) U D acc = k0_pay41 h G U D acc
    ∧ k0_pay23 (F := Ideal) h (k0_pay22 h G) U D acc = k0_pay41 h G U D acc
    ∧ k0_pay25 (F := Ideal) h (k0_pay24 h G) U D acc = k0_pay41 h G U D acc :=
  ⟨rfl, rfl, rfl, rfl, rfl, rfl, rfl, rfl, rfl, rfl⟩

/-- The first point normalises as the later ones do. -/
theorem norm_first : k0_pay4 (F := Ideal) x g = k0_pay27 x g := rfl

/-- The first point's first chunk is the later points' first chunk. -/
theorem chunk_first : k0_pay5 (F := Ideal) (k0_pay27 x g) G U D = k0_pay28 x g G U D := rfl

/-- The first point's last store is the later points' last store. -/
theorem last_first : k0_pay1 (F := Ideal) x (k0_pay26 acc g) = k0_pay3 x acc g := rfl

/-- However a later point's body is cut into values, each of its chunks after the first two is the same step. -/
theorem steps_later : k0_pay31 (F := Ideal) h G U D acc = k0_pay41 h G U D acc
    ∧ k0_pay34 (F := Ideal) (k0_pay32 h G U D) (k0_pay33 acc) = k0_pay41 h G U D acc
    ∧ k0_pay35 (F := Ideal) h G U D acc = k0_pay41 h G U D acc
    ∧ k0_pay36 (F := Ideal) h G U D acc = k0_pay41 h G U D acc
    ∧ k0_pay37 (F := Ideal) h G U D acc = k0_pay41 h G U D acc
    ∧ k0_pay38 (F := Ideal) h G U D acc = k0_pay41 h G U D acc
    ∧ k0_pay40 (F := Ideal) h (k0_pay39 h G) U D acc = k0_pay41 h G U D acc
    ∧ k0_pay2 (F := Ideal) (k0_pay42 h G U) D acc = k0_pay41 h G U D acc :=
  ⟨rfl, rfl, rfl, rfl, rfl, rfl, rfl, rfl⟩

/-- So is the second chunk. -/
theorem second_later : k0_pay30 (F := Ideal) (k0_pay29 x g G U) D acc = k0_pay41 (k0_pay27 x g) G U D acc := rfl

/-- Where each window's block stands at each grid point, in blocks. -/
theorem idx : ∀ t : Fin cfg0.N, win0_0.index t = ![t.val, 0] ∧ win0_1.index t = ![0, 0] ∧ win0_2.index t = ![0, 0]
    ∧ win0_3.index t = ![t.val, 0] ∧ t.val < 32 :=
  (by decide +kernel : ∀ t : Fin grid0.N, _)

variable (m : (ℓ : Loc nD τ sig) → Buf (Elt Ideal) ℓ)

/-- The gains before the block, as the kernel holds them: the argument as one row. -/
theorem gain_at (c : Dev nD) (t : Fin cfg0.N) (k : Fin 1024) :
    iblk m c 1 t (ix2 0 k : S1x1024.Idx) = m ((c : Thread nD τ).loc main_arg1) (ix1 k : S1024.Idx) := by
  blk_point [iblk, idx t]

/-- The gains after the block. -/
theorem gain'_at (c : Dev nD) (t : Fin cfg0.N) (k : Fin 1024) :
    iblk m c 2 t (ix2 0 k : S1x1024.Idx) = m ((c : Thread nD τ).loc main_arg5) (ix1 k : S1024.Idx) := by
  blk_point [iblk, idx t]

/-- The block's own tokens. -/
theorem token_at (c : Dev nD) (t : Fin cfg0.N) (r : Fin 512) (k : Fin 1024) (h : t.val * 512 + r.val < 16384) :
    iblk m c 0 t (ix2 r k : S512x1024.Idx) = m ((c : Thread nD τ).loc main_arg0) (ix2 ⟨t.val * 512 + r.val, h⟩ k : S16384x1024.Idx) := by
  blk_point [iblk, V, idx t]

/-- A copied piece of the first weight, read where it was put, is the weight there. -/
theorem piece0 (c : Dev nD) (o : ℕ) (inb) (x : S1024x256.Idx) (y : S1024x2816.Idx) (h0 : (y 0).val = (x 0).val)
    (h1 : (y 1).val = o + (x 1).val) :
    ((View.whole main_arg2).slice (Rect.unit (s := S1024x2816) ![0, o] ![1024, 256] inb)).read (Elt Ideal) (V m c main_arg2) x
      = m ((c : Thread nD τ).loc main_arg2) y := by
  rw [V_main_arg2]
  refine congrArg (m ((c : Thread nD τ).loc main_arg2)) (funext fun a => Fin.ext ?_)
  fin_cases a
  · refine Eq.trans ?_ h0.symm
    show 0 + 1 * (x 0).val = _
    omega
  · refine Eq.trans ?_ h1.symm
    show o + 1 * (x 1).val = _
    omega

/-- A copied piece of the second weight. -/
theorem piece1 (c : Dev nD) (o : ℕ) (inb) (x : S1024x256.Idx) (y : S1024x2816.Idx) (h0 : (y 0).val = (x 0).val)
    (h1 : (y 1).val = o + (x 1).val) :
    ((View.whole main_arg3).slice (Rect.unit (s := S1024x2816) ![0, o] ![1024, 256] inb)).read (Elt Ideal) (V m c main_arg3) x
      = m ((c : Thread nD τ).loc main_arg3) y := by
  rw [V_main_arg3]
  refine congrArg (m ((c : Thread nD τ).loc main_arg3)) (funext fun a => Fin.ext ?_)
  fin_cases a
  · refine Eq.trans ?_ h0.symm
    show 0 + 1 * (x 0).val = _
    omega
  · refine Eq.trans ?_ h1.symm
    show o + 1 * (x 1).val = _
    omega

/-- A copied piece of the third weight: it is cut by rows. -/
theorem piece2 (c : Dev nD) (o : ℕ) (inb) (x : S256x1024.Idx) (y : S2816x1024.Idx) (h0 : (y 0).val = o + (x 0).val)
    (h1 : (y 1).val = (x 1).val) :
    ((View.whole main_arg4).slice (Rect.unit (s := S2816x1024) ![o, 0] ![256, 1024] inb)).read (Elt Ideal) (V m c main_arg4) x
      = m ((c : Thread nD τ).loc main_arg4) y := by
  rw [V_main_arg4]
  refine congrArg (m ((c : Thread nD τ).loc main_arg4)) (funext fun a => Fin.ext ?_)
  fin_cases a
  · refine Eq.trans ?_ h0.symm
    show o + 1 * (x 0).val = _
    omega
  · refine Eq.trans ?_ h1.symm
    show 0 + 1 * (x 1).val = _
    omega

/-- One chunk's part of the output, from blocks that hold that chunk's columns and rows of the weights. -/
theorem part_of (h : Fin 1024 → EReal) (wg wu : Fin 1024 → Fin 2816 → EReal) (wd : Fin 2816 → Fin 1024 → EReal) (d : Fin 1024)
    (a : Fin 11) (G U : FVec Ideal S1024x256 .f32) (D : FVec Ideal S256x1024 .f32)
    (hG : ∀ k (j : Fin 256), G (ix2 k j) = wg k ⟨a.val * 256 + j.val, by omega⟩)
    (hU : ∀ k (j : Fin 256), U (ix2 k j) = wu k ⟨a.val * 256 + j.val, by omega⟩)
    (hD : ∀ (j : Fin 256) d, D (ix2 j d) = wd ⟨a.val * 256 + j.val, by omega⟩ d) :
    ∑ j : Fin 256, hidden h (fun k => G (ix2 k j)) (fun k => U (ix2 k j)) * D (ix2 j d) = part h wg wu wd d a := by
  simp only [hG, hU, hD, part]

/-- A later chunk adds that chunk's part to what is there. -/
theorem step_part {h acc : FVec Ideal S512x1024 .f32} {G U : FVec Ideal S1024x256 .f32} {D : FVec Ideal S256x1024 .f32}
    {r : Fin 512} {d : Fin 1024} {n : Fin 1024 → EReal} {wg wu : Fin 1024 → Fin 2816 → EReal} {wd : Fin 2816 → Fin 1024 → EReal}
    {a : Fin 11} {s : EReal} (hs : acc (ix2 r d) = s) (hn : ∀ k, h (ix2 r k) = n k)
    (hG : ∀ k (j : Fin 256), G (ix2 k j) = wg k ⟨a.val * 256 + j.val, by omega⟩)
    (hU : ∀ k (j : Fin 256), U (ix2 k j) = wu k ⟨a.val * 256 + j.val, by omega⟩)
    (hD : ∀ (j : Fin 256) d, D (ix2 j d) = wd ⟨a.val * 256 + j.val, by omega⟩ d) :
    k0_pay41 (F := Ideal) h G U D acc (ix2 r d) = s + part n wg wu wd d a := by
  rw [step_at, hs, part_of _ wg wu wd d a G U D hG hU hD, funext hn]

/-- The first chunk stores its part. -/
theorem first_part {x : FVec Ideal S512x1024 .f32} {g : FVec Ideal S1x1024 .f32} {G U : FVec Ideal S1024x256 .f32}
    {D : FVec Ideal S256x1024 .f32} {r : Fin 512} {d : Fin 1024} {x' g' : Fin 1024 → EReal}
    {wg wu : Fin 1024 → Fin 2816 → EReal} {wd : Fin 2816 → Fin 1024 → EReal} {a : Fin 11}
    (hx : ∀ k, x (ix2 r k) = x' k) (hg : ∀ k, g (ix2 0 k) = g' k)
    (hG : ∀ k (j : Fin 256), G (ix2 k j) = wg k ⟨a.val * 256 + j.val, by omega⟩)
    (hU : ∀ k (j : Fin 256), U (ix2 k j) = wu k ⟨a.val * 256 + j.val, by omega⟩)
    (hD : ∀ (j : Fin 256) d, D (ix2 j d) = wd ⟨a.val * 256 + j.val, by omega⟩ d) :
    k0_pay28 (F := Ideal) x g G U D (ix2 r d) = part (Norm.rms x' g') wg wu wd d a := by
  rw [first_at, part_of _ wg wu wd d a G U D hG hU hD, funext hx, funext hg]

set_option maxHeartbeats 1000000 in
/-- What the first grid point leaves in the kept weights are the three weights. -/
theorem kept_first (c : Dev nD) (t : Fin cfg0.N) (h0 : t.val % 32 = 0) (h1 : ¬1 ≤ t.val) :
    (outsAt0 m c t.val t.isLt).2 = (m ((c : Thread nD τ).loc main_arg2), m ((c : Thread nD τ).loc main_arg3),
      m ((c : Thread nD τ).loc main_arg4)) := by
  rw [outsAt0_A m c t h0 h1]
  refine Prod.ext ?_ (Prod.ext ?_ ?_)
  all_goals dsimp only
  all_goals frame_out
  all_goals funext y
  · canon_tiles x h
    all_goals exact piece0 m c _ _ x y (by omega) (by omega)
  · canon_tiles x h
    all_goals exact piece1 m c _ _ x y (by omega) (by omega)
  · canon_tiles x h
    all_goals exact piece2 m c _ _ x y (by omega) (by omega)

/-- Every grid point leaves the three weights in the kept ones: the first copies them, the others do not write. -/
theorem kept (c : Dev nD) (n : ℕ) (hn : n < cfg0.N) : (outsAt0 m c n hn).2 = (m ((c : Thread nD τ).loc main_arg2),
    m ((c : Thread nD τ).loc main_arg3), m ((c : Thread nD τ).loc main_arg4)) := by
  induction n with
  | zero => exact kept_first m c ⟨0, hn⟩ rfl (Nat.not_succ_le_zero 0)
  | succ n ih =>
    have h : n + 1 < 32 := hn
    refine Eq.trans ?_ (ih (Nat.lt_of_succ_lt hn))
    refine (congrArg Prod.snd (outsAt0_B m c ⟨n + 1, hn⟩ (by dsimp only; omega) (by dsimp only; omega))).trans ?_
    refine Prod.ext rfl (Prod.ext rfl rfl)

/-- The feed-forward block's array as a function of the arguments: each token's row. -/
def gated (x : FVec Ideal S16384x1024 .f32) (g : FVec Ideal S1024 .f32) (wg wu : FVec Ideal S1024x2816 .f32)
    (wd : FVec Ideal S2816x1024 .f32) (g' : FVec Ideal S1024 .f32) (r : Fin 16384) (d : Fin 1024) : EReal :=
  row (fun k => x (ix2 r k)) (fun k => g (ix1 k)) (fun k j => wg (ix2 k j)) (fun k j => wu (ix2 k j))
    (fun j d => wd (ix2 j d)) (fun k => g' (ix1 k)) d

/-- The body normalises this block's tokens. -/
theorem normed_at (c : Dev nD) (t : Fin cfg0.N) (r : Fin 512) (k : Fin 1024) (hr : t.val * 512 + r.val < 16384) :
    k0_pay27 (F := Ideal) (iblk m c 0 t) (iblk m c 1 t) (ix2 r k)
      = Norm.rms (fun k => m ((c : Thread nD τ).loc main_arg0) (ix2 ⟨t.val * 512 + r.val, hr⟩ k : S16384x1024.Idx))
          (fun k => m ((c : Thread nD τ).loc main_arg1) (ix1 k : S1024.Idx)) k := by
  rw [norm_at]
  simp only [token_at m c t r _ hr, gain_at]

/-- The eleven parts of a token's output, each added to the ones before it. -/
theorem parts (h : Fin 1024 → EReal) (wg wu : Fin 1024 → Fin 2816 → EReal) (wd : Fin 2816 → Fin 1024 → EReal) (d : Fin 1024) :
    part h wg wu wd d 0 + part h wg wu wd d 1 + part h wg wu wd d 2 + part h wg wu wd d 3 + part h wg wu wd d 4
      + part h wg wu wd d 5 + part h wg wu wd d 6 + part h wg wu wd d 7 + part h wg wu wd d 8 + part h wg wu wd d 9
      + part h wg wu wd d 10 = out h wg wu wd d :=
  out_parts h wg wu wd d (part h wg wu wd d) fun _ => rfl

/-- Chunk `a` of the first weight, as the first point copies it. -/
theorem cols0 (c : Dev nD) (a : Fin 11) (o : ℕ) (inb) (ho : o = a.val * 256) (k : Fin 1024) (j : Fin 256) :
    ReadAs.same.apply (((View.whole main_arg2).slice (Rect.unit (s := S1024x2816) ![0, o] ![1024, 256] inb)).read (Elt Ideal) (V m c main_arg2))
      (ix2 k j : S1024x256.Idx)
      = m ((c : Thread nD τ).loc main_arg2) (ix2 k ⟨a.val * 256 + j.val, by omega⟩ : S1024x2816.Idx) :=
  piece0 m c o inb _ _ rfl (by subst ho; rfl)

/-- Chunk `a` of the second weight. -/
theorem cols1 (c : Dev nD) (a : Fin 11) (o : ℕ) (inb) (ho : o = a.val * 256) (k : Fin 1024) (j : Fin 256) :
    ReadAs.same.apply (((View.whole main_arg3).slice (Rect.unit (s := S1024x2816) ![0, o] ![1024, 256] inb)).read (Elt Ideal) (V m c main_arg3))
      (ix2 k j : S1024x256.Idx)
      = m ((c : Thread nD τ).loc main_arg3) (ix2 k ⟨a.val * 256 + j.val, by omega⟩ : S1024x2816.Idx) :=
  piece1 m c o inb _ _ rfl (by subst ho; rfl)

/-- Chunk `a` of the third weight. -/
theorem rows2 (c : Dev nD) (a : Fin 11) (o : ℕ) (inb) (ho : o = a.val * 256) (k : Fin 256) (j : Fin 1024) :
    ReadAs.same.apply (((View.whole main_arg4).slice (Rect.unit (s := S2816x1024) ![o, 0] ![256, 1024] inb)).read (Elt Ideal) (V m c main_arg4))
      (ix2 k j : S256x1024.Idx)
      = m ((c : Thread nD τ).loc main_arg4) (ix2 ⟨a.val * 256 + k.val, by omega⟩ j : S2816x1024.Idx) :=
  piece2 m c o inb _ _ (by subst ho; rfl) rfl

set_option maxHeartbeats 1000000 in
/-- What a grid point leaves in the output block, entry by entry: that token's row. -/
theorem point (c : Dev nD) (t : Fin cfg0.N) (r : Fin 512) (d : Fin 1024) (hr : t.val * 512 + r.val < 16384) :
    (outsAt0 m c t.val t.isLt).1 (ix2 r d : S512x1024.Idx)
      = gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨t.val * 512 + r.val, hr⟩ d := by
  have ht : t.val < 32 := (idx t).2.2.2.2
  unfold gated row
  by_cases h1 : 1 ≤ t.val
  · rw [outsAt0_B m c t (by omega) h1]
    dsimp only
    frame_out
    simp only [read_unread_whole, kept m c (t.val - 1), steps_later, second_later]
    refine (last_at _ _ _ r d).trans ?_
    simp only [token_at m c t r _ hr, gain'_at]
    refine congrArg (fun Y => _ + _ * Norm.rms Y _ d) (funext fun e => ?_)
    refine Eq.trans ?_ (out_parts _ _ _ _ e _ fun _ => rfl)
    simp only [step_at, first_at, norm_at, token_at m c t r _ hr, gain_at, part]
    pointwise
  · rw [outsAt0_A m c t (by omega) h1]
    dsimp only
    frame_out
    simp (disch := decide) only [↓View.readCov_skip, View.readCov_cons_toLoadRect, norm_first, chunk_first, last_first,
      steps_first]
    refine (last_at _ _ _ r d).trans ?_
    simp only [token_at m c t r _ hr, gain'_at]
    refine congrArg (fun Y => _ + _ * Norm.rms Y _ d) (funext fun e => ?_)
    refine Eq.trans ?_ (parts _ _ _ _ e)
    iterate 10 refine step_part ?_ ?_ ?_ ?_ ?_
    · refine first_part ?_ ?_ ?_ ?_ ?_
      · intro k; exact token_at m c t r k hr
      · intro k; exact gain_at m c t k
      · exact cols0 m c _ _ _ (by rfl)
      · exact cols1 m c _ _ _ (by rfl)
      · exact rows2 m c _ _ _ (by rfl)
    all_goals first
      | (intro k; exact normed_at m c t r k hr)
      | exact cols0 m c _ _ _ (by rfl)
      | exact cols1 m c _ _ _ (by rfl)
      | exact rows2 m c _ _ _ (by rfl)

/-- After the run the kernel's result array holds the block's rows. -/
theorem final (c : Dev nD) : (dats m 0 c).arrAt 3 cfg0.N = fun i => gated (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) := by
  refine (dats m 0 c).arrAt_eq_of_covers 3 _ (by decide +kernel) fun t hf y => ?_
  have ht : t.val < 32 := (idx t).2.2.2.2
  blk_simp
  rw [after0_3]
  idx_vars y
  have hr : t.val * 512 + y0.val < 16384 := by have := y0.isLt; omega
  refine (point m c t y0 y1 hr).trans (congrArg₂ (gated _ _ _ _ _ _) ?_ ?_)
  · refine Fin.ext ?_
    blk_simp [idx t]
  · refine Fin.ext ?_
    blk_simp [idx t]

end Cert.KernelFfnIdeal.Value

namespace Cert.ReferenceFfnIdeal.Value

open Cert.ReferenceFfnIdeal Cert.Gated

variable (m : (ℓ : Loc nD τ sig) → Buf (Elt Ideal) ℓ)

/-- The reference's result, entry by entry, is the same row of its arguments. -/
theorem gated_at (c : Dev nD) (r : Fin 16384) (d : Fin 1024) : res_main_v33 m c (ix2 r d : S16384x1024.Idx)
    = (Cert.KernelFfnIdeal.Value.gated (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) r d : EReal) := by
  unfold res_main_v33
  clean_types
  pointwise
  simp only [Cert.KernelFfnIdeal.Value.gated, row, out, Gated.hidden, Norm.rms, Norm.inv, Ideal.logistic]

end Cert.ReferenceFfnIdeal.Value

end
-- ==== Proof.Turn.lean ====
/- The rotary turn of one head's first coordinates, over the extended reals: the function both programs of the input
   projection apply to a token's queries and keys, with the table of cosines and sines the kernel turns by. -/
module

public import Idealize.ShloMosaic.Lib.Pointwise

@[expose] public section

noncomputable section

open Idealize.ShloMosaic

namespace Cert.Turn

/-- The table's cosine at column `d` of a head: of the angle `d mod 8` in the first sixteen columns, one after them. -/
def cosAt (a : Fin 8 → EReal) (d : ℕ) : EReal :=
  if d % 64 < 16 then Ideal.cos (a ⟨d % 8, Nat.mod_lt _ (by decide)⟩) else 1

/-- The table's signed sine at column `d` of a head: minus the sine in the first eight columns, the sine in the next
    eight, nothing after them. -/
def sinAt (a : Fin 8 → EReal) (d : ℕ) : EReal :=
  if d % 64 < 8 then - Ideal.sin (a ⟨d % 8, Nat.mod_lt _ (by decide)⟩)
  else if d % 64 < 16 then Ideal.sin (a ⟨d % 8, Nat.mod_lt _ (by decide)⟩) else 0

/-- The cosine's entry in the first sixteen columns. -/
theorem cosAt_turned (a : Fin 8 → EReal) (d : ℕ) (j : Fin 8) (h : d % 64 < 16) (hj : j.val = d % 8) :
    Ideal.cos (a j) = cosAt a d := by
  rw [cosAt, if_pos h, show j = ⟨d % 8, Nat.mod_lt _ (by decide)⟩ from Fin.ext hj]

/-- The cosine's entry after them. -/
theorem cosAt_plain (a : Fin 8 → EReal) (d : ℕ) (h : ¬ d % 64 < 16) : 1 = cosAt a d := by
  rw [cosAt, if_neg h]

/-- The signed sine's entry in the first eight columns. -/
theorem sinAt_low (a : Fin 8 → EReal) (d : ℕ) (j : Fin 8) (h : d % 64 < 8) (hj : j.val = d % 8) :
    0 - Ideal.sin (a j) = sinAt a d := by
  rw [sinAt, if_pos h, show j = ⟨d % 8, Nat.mod_lt _ (by decide)⟩ from Fin.ext hj, zero_sub]

/-- The signed sine's entry in the next eight. -/
theorem sinAt_high (a : Fin 8 → EReal) (d : ℕ) (j : Fin 8) (h : ¬ d % 64 < 8) (h' : d % 64 < 16) (hj : j.val = d % 8) :
    Ideal.sin (a j) = sinAt a d := by
  rw [sinAt, if_neg h, if_pos h', show j = ⟨d % 8, Nat.mod_lt _ (by decide)⟩ from Fin.ext hj]

/-- The signed sine's entry after them. -/
theorem sinAt_plain (a : Fin 8 → EReal) (d : ℕ) (h : ¬ d % 64 < 16) : 0 = sinAt a d := by
  rw [sinAt, if_neg (by omega), if_neg h]

/-- Both tables, side by side. -/
def tabAt (a : Fin 8 → EReal) (d : ℕ) : EReal := if d < 128 then cosAt a d else sinAt a (d - 128)

/-- Column `d` of a row `v` of heads, turned: the first eight columns of a head against the next eight. -/
def turn (a : Fin 8 → EReal) (v : ℕ → EReal) (d : ℕ) : EReal :=
  if d % 64 < 8 then v d * Ideal.cos (a ⟨d % 8, Nat.mod_lt _ (by decide)⟩) - v (d + 8) * Ideal.sin (a ⟨d % 8, Nat.mod_lt _ (by decide)⟩)
  else if d % 64 < 16 then v d * Ideal.cos (a ⟨d % 8, Nat.mod_lt _ (by decide)⟩) + v (d - 8) * Ideal.sin (a ⟨d % 8, Nat.mod_lt _ (by decide)⟩)
  else v d

/-- The turn by the table: the column times the cosine, and its partner times the signed sine. -/
theorem turn_eq (a : Fin 8 → EReal) (v : ℕ → EReal) (d : ℕ) :
    v d * cosAt a d + (if d % 64 < 8 then v (d + 8) else v (d - 8)) * sinAt a d = turn a v d := by
  unfold cosAt sinAt turn
  by_cases h8 : d % 64 < 8
  · simp only [h8, if_true, (by omega : d % 64 < 16)]
    rw [mul_neg, sub_eq_add_neg]
  · by_cases h16 : d % 64 < 16
    · simp only [h8, h16, if_true, if_false]
    · simp only [h8, h16, if_false, mul_one, mul_zero, add_zero]

/-- The turn by a table scaled beforehand is the scaled turn, for a finite scale that is not negative. -/
theorem turn_scaled (κ : EReal) (h0 : 0 ≤ κ) (hT : κ ≠ ⊤) (a : Fin 8 → EReal) (v : ℕ → EReal) (d : ℕ) :
    v d * (cosAt a d * κ) + (if d % 64 < 8 then v (d + 8) else v (d - 8)) * (sinAt a d * κ) = turn a v d * κ := by
  rw [← turn_eq, ← mul_assoc, ← mul_assoc, EReal.right_distrib_of_nonneg_of_ne_top h0 hT]

end Cert.Turn

end
-- ==== Proof.Projected.lean ====
/- The input projection's results as functions of the layer's arguments: rows normalised and multiplied by the weight,
   and the columns of queries and keys turned by their position's angles. -/
module

public import proofs.«01_k».proof.Proof.Norm
public import proofs.«01_k».proof.Proof.Turn

@[expose] public section

noncomputable section

open Idealize.ShloMosaic

namespace Cert.Projected

/-- The speed of the j-th pair of columns: the printed 500000 to the power minus j times the printed eighth. -/
def speed (j : Fin 8) : EReal :=
  Ideal.pow (Ideal.ofBits .f32 0x48F42400#32)
    (-FloatOps.sitofp (F := Ideal) .f32 (BitVec.ofNat 32 j.val) * Ideal.ofBits .f32 0x3E000000#32)

/-- The angles at one position. -/
def angles (p : BitVec 32) (j : Fin 8) : EReal := FloatOps.sitofp (F := Ideal) .f32 p * speed j

/-- Column `e` of a token's projection, for the token's row, the gains and the weight. -/
def column (x g : Fin 1024 → EReal) (w : Fin 1024 → Fin 5168 → EReal) (e : ℕ) : EReal :=
  ∑ k, Norm.rms x g k * (if h : e < 5168 then w k ⟨e, h⟩ else 0)

/-- The columns below 128 of the table: cosines by the column's place in its head. -/
theorem tabAt_cos (a : Fin 8 → EReal) (e : ℕ) : Turn.tabAt a (e % 128) = Turn.cosAt a e := by
  have h : e % 128 % 64 = e % 64 := by omega
  have h' : e % 128 % 8 = e % 8 := by omega
  unfold Turn.tabAt Turn.cosAt
  rw [if_pos (by omega), h]
  simp only [h']

/-- The columns from 128 on: signed sines. -/
theorem tabAt_sin (a : Fin 8 → EReal) (e : ℕ) : Turn.tabAt a (128 + e % 128) = Turn.sinAt a e := by
  have h : (128 + e % 128 - 128) % 64 = e % 64 := by omega
  have h' : (128 + e % 128 - 128) % 8 = e % 8 := by omega
  unfold Turn.tabAt Turn.sinAt
  rw [if_neg (by omega), h]
  simp only [h']

end Cert.Projected

end
-- ==== Proof.Table.lean ====
/- What the rotary-table call leaves: at each token, the cosines and signed sines of its position's angles, laid out
   over the columns of a head. -/
module

public import proofs.«01_k».proof.Proof.Turn
public import proofs.«01_k».proof.Proof.Gen.KernelInIdeal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

/-- The angles of one position: the position times each speed. -/
def angles (p : BitVec 32) (f : Fin 8 → EReal) (j : Fin 8) : EReal := FloatOps.sitofp (F := Ideal) .f32 p * f j

/-- The body's angles. -/
theorem angle_at (p : IVec S1x2048 32) (f : FVec Ideal S8x1 .f32) (j : Fin 8) (r : Fin 2048) :
    k0_pay7 (F := Ideal) p f (ix2 j r) = angles (p (ix2 0 r)) (fun j => f (ix2 j 0)) j := by
  pointwise [k0_pay7]
  rfl

/-- The rows of cosines. -/
theorem cos_rows (p : IVec S1x2048 32) (f : FVec Ideal S8x1 .f32) (d : Fin 128) (r : Fin 2048) :
    k0_pay8 (F := Ideal) p f (ix2 d r) = cosAt (angles (p (ix2 0 r)) (fun j => f (ix2 j 0))) d.val := by
  pointwise [k0_pay8]
  simp only [angle_at]
  split_ifs <;> first
    | exact cosAt_turned _ _ _ (by omega) (by dsimp only; omega)
    | exact cosAt_plain _ _ (by omega)

/-- The rows of signed sines. -/
theorem sin_rows (p : IVec S1x2048 32) (f : FVec Ideal S8x1 .f32) (d : Fin 128) (r : Fin 2048) :
    k0_pay9 (F := Ideal) p f (ix2 d r) = sinAt (angles (p (ix2 0 r)) (fun j => f (ix2 j 0))) d.val := by
  pointwise [k0_pay9]
  simp only [angle_at]
  split_ifs <;> first
    | exact sinAt_low _ _ _ (by omega) (by dsimp only; omega)
    | exact sinAt_high _ _ _ (by omega) (by omega) (by dsimp only; omega)
    | exact sinAt_plain _ _ (by omega)

/-- Where each window's block stands at each grid point, in blocks. -/
theorem idx0 : ∀ t : Fin cfg0.N, win0_0.index t = ![0, t.val] ∧ win0_1.index t = ![0, 0] ∧ win0_2.index t = ![t.val, 0]
    ∧ t.val < 8 :=
  (by decide +kernel : ∀ t : Fin grid0.N, _)

variable (V : (c : Dev nD) → (b : Ref sig .tc) → Buf (Elt Ideal) ((c : Thread nD τ).loc b))

/-- One entry of the table from the buffers the call reads. -/
def tableAt (p : (⟨S1x16384, .i32⟩ : BufTy).Contents (Elt Ideal)) (f : (⟨S8x1, .f32⟩ : BufTy).Contents (Elt Ideal))
    (r : Fin 16384) (d : ℕ) : EReal :=
  tabAt (angles (p (ix2 0 r)) (fun j => f (ix2 j 0))) d

/-- A row of cosines, read where the call leaves it. -/
theorem cos_at (c : Dev nD) (t : Fin cfg0.N) (d : Fin 128) (r : Fin 2048) (i : Fin 16384) (e : ℕ)
    (hi : i.val = t.val * 2048 + r.val) (he : e = d.val) :
    k0_pay8 (F := Ideal) (iblk0 V c 0 t) (iblk0 V c 1 t) (ix2 d r) = tableAt (V c main_v7) (V c main_v8) i e := by
  subst he
  refine (cos_rows _ _ d r).trans ?_
  unfold tableAt tabAt
  rw [if_pos d.isLt]
  refine congrArg₂ (fun p f => cosAt (angles p f) d.val) ?_ (funext fun j => ?_)
  · blk_point [iblk0, idx0 t]
  · blk_point [iblk0, idx0 t]

/-- A row of signed sines, read where the call leaves it. -/
theorem sin_at (c : Dev nD) (t : Fin cfg0.N) (d : Fin 128) (r : Fin 2048) (i : Fin 16384) (e : ℕ)
    (hi : i.val = t.val * 2048 + r.val) (he : e = 128 + d.val) :
    k0_pay9 (F := Ideal) (iblk0 V c 0 t) (iblk0 V c 1 t) (ix2 d r) = tableAt (V c main_v7) (V c main_v8) i e := by
  subst he
  refine (sin_rows _ _ d r).trans ?_
  unfold tableAt tabAt
  rw [if_neg (by omega), Nat.add_sub_cancel_left]
  refine congrArg₂ (fun p f => sinAt (angles p f) d.val) ?_ (funext fun j => ?_)
  · blk_point [iblk0, idx0 t]
  · blk_point [iblk0, idx0 t]

/-- A stored block of cosines: a slice of the rows, transposed. -/
theorem cos_piece (c : Dev nD) (t : Fin cfg0.N) (o : ℕ) (ho) (r d : Fin 128) (i : Fin 16384) (e : ℕ)
    (hi : i.val = t.val * 2048 + (o + r.val)) (he : e = d.val) :
    transpose S128x128 [1, 0] (extractStridedSlice S128x128 ![0, o] (k0_pay8 (F := Ideal) (iblk0 V c 0 t) (iblk0 V c 1 t)) ho)
        transposes_S128x128_p1_0_S128x128 (ix2 r d) = tableAt (V c main_v7) (V c main_v8) i e := by
  have ho1 : o + 128 ≤ 2048 := ho.2 1
  refine Eq.trans ?_ (cos_at V c t d ⟨o + r.val, by omega⟩ i e hi he)
  pointwise

/-- A stored block of signed sines: a slice of the rows, transposed. -/
theorem sin_piece (c : Dev nD) (t : Fin cfg0.N) (o : ℕ) (ho) (r d : Fin 128) (i : Fin 16384) (e : ℕ)
    (hi : i.val = t.val * 2048 + (o + r.val)) (he : e = 128 + d.val) :
    transpose S128x128 [1, 0] (extractStridedSlice S128x128 ![0, o] (k0_pay9 (F := Ideal) (iblk0 V c 0 t) (iblk0 V c 1 t)) ho)
        transposes_S128x128_p1_0_S128x128 (ix2 r d) = tableAt (V c main_v7) (V c main_v8) i e := by
  have ho1 : o + 128 ≤ 2048 := ho.2 1
  refine Eq.trans ?_ (sin_at V c t d ⟨o + r.val, by omega⟩ i e hi he)
  pointwise

set_option maxHeartbeats 2000000 in
/-- The table the call leaves. -/
theorem table (c : Dev nD) : (dat0 V c).arrAt 2 cfg0.N
    = fun i => tableAt (V c main_v7) (V c main_v8) (i 0) (i 1).val := by
  refine (dat0 V c).arrAt_eq_of_covers 2 _ (by decide +kernel) fun t hf y => ?_
  blk_simp
  rw [after0_2]
  unfold_out out0_2
  frame_out
  canon_tiles x h
  · idx_vars x
    exact sin_piece V c t 1920 slices_S128x2048_o0_1920_S128x128 x0 x1 _ _ (by blk_simp [idx0 t]; omega) (by blk_simp [idx0 t]; omega)
  · idx_vars x
    exact cos_piece V c t 1920 slices_S128x2048_o0_1920_S128x128 x0 x1 _ _ (by blk_simp [idx0 t]; omega) (by blk_simp [idx0 t]; omega)
  · idx_vars x
    exact sin_piece V c t 1792 slices_S128x2048_o0_1792_S128x128 x0 x1 _ _ (by blk_simp [idx0 t]; omega) (by blk_simp [idx0 t]; omega)
  · idx_vars x
    exact cos_piece V c t 1792 slices_S128x2048_o0_1792_S128x128 x0 x1 _ _ (by blk_simp [idx0 t]; omega) (by blk_simp [idx0 t]; omega)
  · idx_vars x
    exact sin_piece V c t 1664 slices_S128x2048_o0_1664_S128x128 x0 x1 _ _ (by blk_simp [idx0 t]; omega) (by blk_simp [idx0 t]; omega)
  · idx_vars x
    exact cos_piece V c t 1664 slices_S128x2048_o0_1664_S128x128 x0 x1 _ _ (by blk_simp [idx0 t]; omega) (by blk_simp [idx0 t]; omega)
  · idx_vars x
    exact sin_piece V c t 1536 slices_S128x2048_o0_1536_S128x128 x0 x1 _ _ (by blk_simp [idx0 t]; omega) (by blk_simp [idx0 t]; omega)
  · idx_vars x
    exact cos_piece V c t 1536 slices_S128x2048_o0_1536_S128x128 x0 x1 _ _ (by blk_simp [idx0 t]; omega) (by blk_simp [idx0 t]; omega)
  · idx_vars x
    exact sin_piece V c t 1408 slices_S128x2048_o0_1408_S128x128 x0 x1 _ _ (by blk_simp [idx0 t]; omega) (by blk_simp [idx0 t]; omega)
  · idx_vars x
    exact cos_piece V c t 1408 slices_S128x2048_o0_1408_S128x128 x0 x1 _ _ (by blk_simp [idx0 t]; omega) (by blk_simp [idx0 t]; omega)
  · idx_vars x
    exact sin_piece V c t 1280 slices_S128x2048_o0_1280_S128x128 x0 x1 _ _ (by blk_simp [idx0 t]; omega) (by blk_simp [idx0 t]; omega)
  · idx_vars x
    exact cos_piece V c t 1280 slices_S128x2048_o0_1280_S128x128 x0 x1 _ _ (by blk_simp [idx0 t]; omega) (by blk_simp [idx0 t]; omega)
  · idx_vars x
    exact sin_piece V c t 1152 slices_S128x2048_o0_1152_S128x128 x0 x1 _ _ (by blk_simp [idx0 t]; omega) (by blk_simp [idx0 t]; omega)
  · idx_vars x
    exact cos_piece V c t 1152 slices_S128x2048_o0_1152_S128x128 x0 x1 _ _ (by blk_simp [idx0 t]; omega) (by blk_simp [idx0 t]; omega)
  · idx_vars x
    exact sin_piece V c t 1024 slices_S128x2048_o0_1024_S128x128 x0 x1 _ _ (by blk_simp [idx0 t]; omega) (by blk_simp [idx0 t]; omega)
  · idx_vars x
    exact cos_piece V c t 1024 slices_S128x2048_o0_1024_S128x128 x0 x1 _ _ (by blk_simp [idx0 t]; omega) (by blk_simp [idx0 t]; omega)
  · idx_vars x
    exact sin_piece V c t 896 slices_S128x2048_o0_896_S128x128 x0 x1 _ _ (by blk_simp [idx0 t]; omega) (by blk_simp [idx0 t]; omega)
  · idx_vars x
    exact cos_piece V c t 896 slices_S128x2048_o0_896_S128x128 x0 x1 _ _ (by blk_simp [idx0 t]; omega) (by blk_simp [idx0 t]; omega)
  · idx_vars x
    exact sin_piece V c t 768 slices_S128x2048_o0_768_S128x128 x0 x1 _ _ (by blk_simp [idx0 t]; omega) (by blk_simp [idx0 t]; omega)
  · idx_vars x
    exact cos_piece V c t 768 slices_S128x2048_o0_768_S128x128 x0 x1 _ _ (by blk_simp [idx0 t]; omega) (by blk_simp [idx0 t]; omega)
  · idx_vars x
    exact sin_piece V c t 640 slices_S128x2048_o0_640_S128x128 x0 x1 _ _ (by blk_simp [idx0 t]; omega) (by blk_simp [idx0 t]; omega)
  · idx_vars x
    exact cos_piece V c t 640 slices_S128x2048_o0_640_S128x128 x0 x1 _ _ (by blk_simp [idx0 t]; omega) (by blk_simp [idx0 t]; omega)
  · idx_vars x
    exact sin_piece V c t 512 slices_S128x2048_o0_512_S128x128 x0 x1 _ _ (by blk_simp [idx0 t]; omega) (by blk_simp [idx0 t]; omega)
  · idx_vars x
    exact cos_piece V c t 512 slices_S128x2048_o0_512_S128x128 x0 x1 _ _ (by blk_simp [idx0 t]; omega) (by blk_simp [idx0 t]; omega)
  · idx_vars x
    exact sin_piece V c t 384 slices_S128x2048_o0_384_S128x128 x0 x1 _ _ (by blk_simp [idx0 t]; omega) (by blk_simp [idx0 t]; omega)
  · idx_vars x
    exact cos_piece V c t 384 slices_S128x2048_o0_384_S128x128 x0 x1 _ _ (by blk_simp [idx0 t]; omega) (by blk_simp [idx0 t]; omega)
  · idx_vars x
    exact sin_piece V c t 256 slices_S128x2048_o0_256_S128x128 x0 x1 _ _ (by blk_simp [idx0 t]; omega) (by blk_simp [idx0 t]; omega)
  · idx_vars x
    exact cos_piece V c t 256 slices_S128x2048_o0_256_S128x128 x0 x1 _ _ (by blk_simp [idx0 t]; omega) (by blk_simp [idx0 t]; omega)
  · idx_vars x
    exact sin_piece V c t 128 slices_S128x2048_o0_128_S128x128 x0 x1 _ _ (by blk_simp [idx0 t]; omega) (by blk_simp [idx0 t]; omega)
  · idx_vars x
    exact cos_piece V c t 128 slices_S128x2048_o0_128_S128x128 x0 x1 _ _ (by blk_simp [idx0 t]; omega) (by blk_simp [idx0 t]; omega)
  · idx_vars x
    exact sin_piece V c t 0 slices_S128x2048_o0_0_S128x128 x0 x1 _ _ (by blk_simp [idx0 t]; omega) (by blk_simp [idx0 t]; omega)
  · idx_vars x
    exact cos_piece V c t 0 slices_S128x2048_o0_0_S128x128 x0 x1 _ _ (by blk_simp [idx0 t]; omega) (by blk_simp [idx0 t]; omega)

end Cert.KernelInIdeal.Value

end
-- ==== Proof.Slot.lean ====
/- The input projection's body, value by value: the normalised tokens, a chunk of their products with the weight, the
   turn of one slot of a chunk, and each of them at an entry. -/
module

public import proofs.«01_k».proof.Proof.Norm
public import proofs.«01_k».proof.Proof.Turn
public import proofs.«01_k».proof.Proof.Gen.KernelInIdeal.Skeleton
public import Idealize.ShloMosaic.Lib.Pointwise

@[expose] public section

set_option maxRecDepth 16384

noncomputable section

open Idealize.ShloMosaic Idealize.ShloMosaic.TcCoe

namespace Cert.KernelInIdeal.Value

open Cert.KernelInIdeal Cert.KernelInIdeal.Gen Cert.Turn

/-- The scale of the queries, as printed. -/
abbrev κ : EReal := Ideal.ofBits .f32 0x3E38AA3B#32

/-- Half a block of tokens, normalised row by row. -/
theorem norm_at (x : FVec Ideal S512x1024 .f32) (g : FVec Ideal S1x1024 .f32) (r : Fin 512) (k : Fin 1024) :
    k1_pay4 (F := Ideal) x g (ix2 r k) = Norm.rms (fun k => x (ix2 r k)) (fun k => g (ix2 0 k)) k := by
  pointwise [k1_pay4]
  rfl

/-- The products of half a block with 512 rows of the weight. -/
theorem prod_at (x : FVec Ideal S512x1024 .f32) (g : FVec Ideal S1x1024 .f32) (w : FVec Ideal S512x1024 .f32)
    (r : Fin 512) (j : Fin 512) : k1_pay7 (F := Ideal) x g w (ix2 r j)
      = ∑ k, Norm.rms (fun k => x (ix2 r k)) (fun k => g (ix2 0 k)) k * w (ix2 j k) := by
  pointwise [k1_pay7]
  simp only [norm_at]

/-- One slot of 128 columns turned by a table of cosines and signed sines. -/
def slot (y : FVec Ideal S512x128 .f32) (tab : FVec Ideal S512x256 .f32) : FVec Ideal S512x128 .bf16 :=
  truncf .bf16 (addf (mulf y (extractStridedSlice S512x128 ![0, 0] tab slices_S512x256_o0_0_S512x128))
    (mulf (select (cmpi .slt (andi (iota .tc S512x128 32 [1] iota_S512x128_d1_w32) (broadcast S512x128 63#32)) (broadcast S512x128 8#32))
        (dynamicRotate 1 120#32 none y rotates_S512x128_d1) (dynamicRotate 1 8#32 none y rotates_S512x128_d1))
      (extractStridedSlice S512x128 ![0, 128] tab slices_S512x256_o0_128_S512x128))) bitsLt_bf16_f32

/-- The lane's place within its head is below eight where the mask says so. -/
theorem lane : ∀ d : Fin 128, IntOp.cmpi CmpIPredicate.slt (IntOp.andi (BitVec.ofNat 32 d.val) 63#32) 8#32
    = if d.val % 64 < 8 then 1#1 else 0#1 := by decide +kernel

/-- The slot's entry: the column times the cosine, and its partner times the signed sine. -/
theorem slot_at (y : FVec Ideal S512x128 .f32) (tab : FVec Ideal S512x256 .f32) (r : Fin 512) (d : Fin 128) :
    slot y tab (ix2 r d) = y (ix2 r d) * tab (ix2 r ⟨d.val, by omega⟩)
      + (if d.val % 64 < 8 then y (ix2 r ⟨(d.val + 8) % 128, Nat.mod_lt _ (by decide)⟩)
          else y (ix2 r ⟨(d.val + 120) % 128, Nat.mod_lt _ (by decide)⟩)) * tab (ix2 r ⟨128 + d.val, by omega⟩) := by
  pointwise [slot]
  rw [lane d]
  have e1 : (⟨(d.val + 128 - 120) % 128, Nat.mod_lt _ (by decide)⟩ : Fin 128) = ⟨(d.val + 8) % 128, Nat.mod_lt _ (by decide)⟩ :=
    Fin.ext (by dsimp only; omega)
  have e2 : (⟨(d.val + 128 - 8) % 128, Nat.mod_lt _ (by decide)⟩ : Fin 128) = ⟨(d.val + 120) % 128, Nat.mod_lt _ (by decide)⟩ :=
    Fin.ext (by dsimp only; omega)
  rw [← e1, ← e2]
  split_ifs <;> rfl

/-- The scaled table's entry. -/
theorem scaled_at (tab : FVec Ideal S512x256 .f32) (r : Fin 512) (d : Fin 256) :
    k1_pay6 (F := Ideal) tab (ix2 r d) = tab (ix2 r d) * κ := by
  pointwise [k1_pay6, k1_pay5]

/-- The products with 256 rows of the weight. -/
theorem prod256_at (x : FVec Ideal S512x1024 .f32) (g : FVec Ideal S1x1024 .f32) (w : FVec Ideal S256x1024 .f32)
    (r : Fin 512) (j : Fin 256) : k1_pay32 (F := Ideal) (k1_pay4 x g) w (ix2 r j)
      = ∑ k, Norm.rms (fun k => x (ix2 r k)) (fun k => g (ix2 0 k)) k * w (ix2 j k) := by
  pointwise [k1_pay32]
  simp only [norm_at]

/-- The products with 128 rows of the weight. -/
theorem prod128_at (x : FVec Ideal S512x1024 .f32) (g : FVec Ideal S1x1024 .f32) (w : FVec Ideal S128x1024 .f32)
    (r : Fin 512) (j : Fin 128) : k1_pay183 (F := Ideal) (k1_pay4 x g) w (ix2 r j)
      = ∑ k, Norm.rms (fun k => x (ix2 r k)) (fun k => g (ix2 0 k)) k * w (ix2 j k) := by
  pointwise [k1_pay183]
  simp only [norm_at]

/-- The products with 256 rows of the weight, the rows first. -/
theorem prodT_at (x : FVec Ideal S512x1024 .f32) (g : FVec Ideal S1x1024 .f32) (w : FVec Ideal S256x1024 .f32)
    (r : Fin 512) (j : Fin 256) : k1_pay185 (F := Ideal) (k1_pay4 x g) w (ix2 j r)
      = ∑ k, w (ix2 j k) * Norm.rms (fun k => x (ix2 r k)) (fun k => g (ix2 0 k)) k := by
  pointwise [k1_pay185]
  simp only [norm_at]

/-- The rows under a head's values: ones, then zeros. -/
theorem aux_at (a : Fin 16) (d : Fin 256) : k1_pay3 (F := Ideal) (ix2 a d) = if a.val = 0 then 1 else 0 := by
  pointwise [k1_pay3]
  have h : ∀ a : Fin 16, BitVec.setWidth 32 (IntOp.cmpi CmpIPredicate.eq (BitVec.ofNat 32 a.val) 0#32)
      = if a.val = 0 then 1#32 else 0#32 := by decide +kernel
  rw [h a]
  split_ifs
  · show (((1#32 : BitVec 32).toInt : ℝ) : EReal) = 1
    norm_num
  · show (((0#32 : BitVec 32).toInt : ℝ) : EReal) = 0
    norm_num

end Cert.KernelInIdeal.Value

end
-- ==== Proof.Block.lean ====
/- The input projection's blocks, read off the buffers the call finds, and the entries each part of the body computes
   from them. -/
module

public import proofs.«01_k».proof.Proof.Slot
public import proofs.«01_k».proof.Proof.Gen.KernelInIdeal.Frame
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

/-- Where each window's block stands at each grid point, in blocks. -/
theorem idx1 : ∀ t : Fin cfg1.N, win1_0.index t = ![t.val, 0] ∧ win1_1.index t = ![0, 0] ∧ win1_2.index t = ![0, 0]
    ∧ win1_3.index t = ![t.val, 0] ∧ win1_4.index t = ![t.val, 0] ∧ win1_5.index t = ![t.val, 0] ∧ win1_6.index t = ![t.val, 0]
    ∧ win1_7.index t = ![t.val, 0, 0] ∧ win1_8.index t = ![t.val, 0, 0] ∧ win1_9.index t = ![t.val, 0]
    ∧ win1_10.index t = ![t.val, 0] ∧ win1_11.index t = ![t.val, 0] ∧ t.val < 16 :=
  (by decide +kernel : ∀ t : Fin grid1.N, _)

/-- The grid has sixteen points. -/
theorem t_lt (t : Fin cfg1.N) : t.val < 16 := (idx1 t).2.2.2.2.2.2.2.2.2.2.2.2

variable (V : (c : Dev nD) → (b : Ref sig .tc) → Buf (Elt Ideal) ((c : Thread nD τ).loc b))

/-- The block's own tokens. -/
theorem token_at (c : Dev nD) (t : Fin cfg1.N) (b : ℕ) (hb) (r : Fin 512) (k : Fin 1024) (i : Fin 16384)
    (hi : i.val = t.val * 1024 + (b + r.val)) :
    View.ld (iblk1 V c 0 t) (Rect.unit (s := S1024x1024) ![b, 0] ![512, 1024] hb) (ix2 r k : S512x1024.Idx)
      = V c main_arg0 (ix2 i k : S16384x1024.Idx) := by
  have hb0 : b + 512 ≤ 1024 := hb 0
  refine Eq.trans (b := iblk1 V c 0 t (ix2 ⟨b + r.val, by omega⟩ k : S1024x1024.Idx)) ?_ ?_
  · refine congrArg (iblk1 V c 0 t) (funext fun a => ?_)
    fin_cases a
    · exact Fin.ext (show b + 1 * r.val = b + r.val by omega)
    · exact Fin.ext (show 0 + 1 * k.val = k.val by omega)
  · blk_point [iblk1, idx1 t]

/-- The gains, as one row. -/
theorem gain_at (c : Dev nD) (t : Fin cfg1.N) (k : Fin 1024) :
    iblk1 V c 1 t (ix2 0 k : S1x1024.Idx) = V c main_v11 (ix2 0 k : S1x1024.Idx) := by
  blk_point [iblk1, idx1 t]

/-- The table's rows of the block. -/
theorem tab_at (c : Dev nD) (t : Fin cfg1.N) (b : ℕ) (hb) (r : Fin 512) (d : Fin 256) (i : Fin 16384)
    (hi : i.val = t.val * 1024 + (b + r.val)) :
    View.ld (iblk1 V c 3 t) (Rect.unit (s := S1024x256) ![b, 0] ![512, 256] hb) (ix2 r d : S512x256.Idx)
      = V c main_v9 (ix2 i d : S16384x256.Idx) := by
  have hb0 : b + 512 ≤ 1024 := hb 0
  refine Eq.trans (b := iblk1 V c 3 t (ix2 ⟨b + r.val, by omega⟩ d : S1024x256.Idx)) ?_ ?_
  · refine congrArg (iblk1 V c 3 t) (funext fun a => ?_)
    fin_cases a
    · exact Fin.ext (show b + 1 * r.val = b + r.val by omega)
    · exact Fin.ext (show 0 + 1 * d.val = d.val by omega)
  · blk_point [iblk1, idx1 t]

/-- The first rows of the transposed weight: the call's window of them, where they stand in the array. -/
theorem weight_at (c : Dev nD) (t : Fin cfg1.N) (n : Fin 3120) (k : Fin 1024) :
    iblk1 V c 2 t (ix2 n k : S3120x1024.Idx) = V c main_v10 (ix2 ⟨n.val, by omega⟩ k : S5168x1024.Idx) := by
  have h0 : ((((cfg1.win 2).blk t).view.emb (ix2 n k : S3120x1024.Idx) 0 : Fin _) : ℕ) = n.val := by
    refine (Pipeline.Window.rect_emb_val_off win1_2 t _ 0).trans ?_
    rw [(idx1 t).2.2.1]; exact Nat.zero_add _
  have h1 : ((((cfg1.win 2).blk t).view.emb (ix2 n k : S3120x1024.Idx) 1 : Fin _) : ℕ) = k.val := by
    refine (Pipeline.Window.rect_emb_val_off win1_2 t _ 1).trans ?_
    rw [(idx1 t).2.2.1]; exact Nat.zero_add _
  have e : ((cfg1.win 2).blk t).view.emb (ix2 n k : S3120x1024.Idx) = (ix2 ⟨n.val, by omega⟩ k : S5168x1024.Idx) := by
    funext a
    fin_cases a
    · exact Fin.ext h0
    · exact Fin.ext h1
  show V c main_v10 (((cfg1.win 2).blk t).view.emb (ix2 n k : S3120x1024.Idx)) = _
  rw [e]

/-- Some of those rows. -/
theorem rows_at (c : Dev nD) (t : Fin cfg1.N) (o n : ℕ) (hb) (j : Fin n) (k : Fin 1024) (h : o + j.val < 5168) :
    View.ld (iblk1 V c 2 t) (Rect.unit (s := S3120x1024) ![o, 0] ![n, 1024] hb) (ix2 j k : (⟨2, ![n, 1024]⟩ : Shape).Idx)
      = V c main_v10 (ix2 ⟨o + j.val, h⟩ k : S5168x1024.Idx) := by
  have h3 : o + j.val < 3120 := by
    have : o + n ≤ 3120 := hb 0
    omega
  refine Eq.trans ?_ (weight_at V c t ⟨o + j.val, h3⟩ k)
  show iblk1 V c 2 t _ = _
  refine congrArg (iblk1 V c 2 t) (funext fun a => ?_)
  fin_cases a
  · exact Fin.ext (show o + 1 * j.val = o + j.val by omega)
  · exact Fin.ext (show 0 + 1 * k.val = k.val by omega)

/-- One entry of the projection: the normalised token `i` against row `e` of the transposed weight. -/
def proj (x : (⟨S16384x1024, .f32⟩ : BufTy).Contents (Elt Ideal)) (g : (⟨S1x1024, .f32⟩ : BufTy).Contents (Elt Ideal))
    (w : (⟨S5168x1024, .f32⟩ : BufTy).Contents (Elt Ideal)) (i : Fin 16384) (e : ℕ) : EReal :=
  ∑ k, Norm.rms (fun k => x (ix2 i k)) (fun k => g (ix2 0 k)) k * (if h : e < 5168 then w (ix2 ⟨e, h⟩ k) else 0)

/-- The tokens of a block's half. -/
abbrev xs (c : Dev nD) (t : Fin cfg1.N) (b : ℕ) (hb : ∀ a, (![b, 0] : Fin 2 → ℕ) a + ![512, 1024] a ≤ S1024x1024.size a) : FVec Ideal S512x1024 .f32 :=
  View.ld (iblk1 V c 0 t) (Rect.unit (s := S1024x1024) ![b, 0] ![512, 1024] hb)

/-- Rows of the weight's window. -/
abbrev ws (c : Dev nD) (t : Fin cfg1.N) (o n : ℕ) (hb : ∀ a, (![o, 0] : Fin 2 → ℕ) a + ![n, 1024] a ≤ S3120x1024.size a) : FVec Ideal (⟨2, ![n, 1024]⟩ : Shape) .f32 :=
  View.ld (iblk1 V c 2 t) (Rect.unit (s := S3120x1024) ![o, 0] ![n, 1024] hb)

/-- The table's rows of a block's half. -/
abbrev tb (c : Dev nD) (t : Fin cfg1.N) (b : ℕ) (hb : ∀ a, (![b, 0] : Fin 2 → ℕ) a + ![512, 256] a ≤ S1024x256.size a) : FVec Ideal S512x256 .f32 :=
  View.ld (iblk1 V c 3 t) (Rect.unit (s := S1024x256) ![b, 0] ![512, 256] hb)

/-- A product of the body, term by term, is the projection's entry. -/
theorem sum_proj (c : Dev nD) (t : Fin cfg1.N) (b : ℕ) (hb) (o n : ℕ) (ho) (r : Fin 512) (j : Fin n) (i : Fin 16384)
    (e : ℕ) (hi : i.val = t.val * 1024 + (b + r.val)) (he : e = o + j.val) :
    ∑ k, Norm.rms (fun k => xs V c t b hb (ix2 r k)) (fun k => iblk1 V c 1 t (ix2 0 k : S1x1024.Idx)) k
        * ws V c t o n ho (ix2 j k)
      = proj (V c main_arg0) (V c main_v11) (V c main_v10) i e := by
  have h : e < 5168 := by
    have : o + n ≤ 3120 := ho 0
    omega
  subst he
  unfold proj
  refine Finset.sum_congr rfl fun k _ => ?_
  rw [dif_pos h, show ws V c t o n ho (ix2 j k) = _ from rows_at V c t o n ho j k h,
    show (fun k => xs V c t b hb (ix2 r k)) = fun k => V c main_arg0 (ix2 i k : S16384x1024.Idx)
      from funext fun k => token_at V c t b hb r k i hi,
    show (fun k => iblk1 V c 1 t (ix2 0 k : S1x1024.Idx)) = fun k => V c main_v11 (ix2 0 k : S1x1024.Idx)
      from funext fun k => gain_at V c t k]

/-- One entry of a turned part: column `e` of the projection and its partner, by the table's entries. -/
def turnedAt (x : (⟨S16384x1024, .f32⟩ : BufTy).Contents (Elt Ideal)) (g : (⟨S1x1024, .f32⟩ : BufTy).Contents (Elt Ideal))
    (w : (⟨S5168x1024, .f32⟩ : BufTy).Contents (Elt Ideal)) (tab : (⟨S16384x256, .f32⟩ : BufTy).Contents (Elt Ideal))
    (s : EReal → EReal) (i : Fin 16384) (e : ℕ) : EReal :=
  proj x g w i e * s (tab (ix2 i ⟨e % 128, by omega⟩))
    + (if e % 64 < 8 then proj x g w i (e + 8) else proj x g w i (e - 8)) * s (tab (ix2 i ⟨128 + e % 128, by omega⟩))

/-- A slot of the queries. -/
theorem q_piece (c : Dev nD) (t : Fin cfg1.N) (b n o : ℕ) (hb) (hb') (hn) (ho) (r : Fin 512) (d : Fin 128) (i : Fin 16384)
    (e : ℕ) (hi : i.val = t.val * 1024 + (b + r.val)) (he : e = n + o + d.val) (h128 : (n + o) % 128 = 0) :
    slot (extractStridedSlice S512x128 ![0, o] (k1_pay7 (F := Ideal) (xs V c t b hb) (iblk1 V c 1 t) (ws V c t n 512 hn)) ho)
        (k1_pay6 (tb V c t b hb')) (ix2 r d)
      = turnedAt (V c main_arg0) (V c main_v11) (V c main_v10) (V c main_v9) (· * κ) i e := by
  have hP : ∀ (d' : Fin 128) (e' : ℕ), e' = n + o + d'.val →
      extractStridedSlice S512x128 ![0, o] (k1_pay7 (F := Ideal) (xs V c t b hb) (iblk1 V c 1 t) (ws V c t n 512 hn)) ho (ix2 r d')
        = proj (V c main_arg0) (V c main_v11) (V c main_v10) i e' := fun d' e' h' => by
    have ho1 : o + 128 ≤ 512 := ho.2 1
    refine Eq.trans ?_ (sum_proj V c t b hb n 512 hn r ⟨o + d'.val, by omega⟩ i e' hi (by dsimp only; omega))
    refine Eq.trans ?_ (prod_at _ _ _ r ⟨o + d'.val, by omega⟩)
    pointwise
  refine (slot_at _ _ r d).trans ?_
  have hT : ∀ d', k1_pay6 (F := Ideal) (tb V c t b hb') (ix2 r d') = @HMul.hMul EReal EReal EReal _ (V c main_v9 (ix2 i d' : S16384x256.Idx)) κ := fun d' =>
    (scaled_at _ r d').trans (congrArg (· * κ) (tab_at V c t b hb' r d' i hi))
  rw [hT, hT]
  unfold turnedAt
  have ed : e % 128 = d.val := by omega
  have e64 : e % 64 = d.val % 64 := by omega
  rw [hP d e he]
  simp only [ed, e64]
  by_cases h : d.val % 64 < 8
  · rw [if_pos h, if_pos h, hP _ (e + 8) (by dsimp only; omega)]
  · rw [if_neg h, if_neg h, hP _ (e - 8) (by dsimp only; omega)]

/-- A slot of the keys. -/
theorem k_piece (c : Dev nD) (t : Fin cfg1.N) (b n o : ℕ) (hb) (hb') (hn) (ho) (r : Fin 512) (d : Fin 128) (i : Fin 16384)
    (e : ℕ) (hi : i.val = t.val * 1024 + (b + r.val)) (he : e = n + o + d.val) (h128 : (n + o) % 128 = 0) :
    slot (extractStridedSlice S512x128 ![0, o] (k1_pay32 (F := Ideal) (k1_pay4 (xs V c t b hb) (iblk1 V c 1 t)) (ws V c t n 256 hn)) ho)
        (k1_pay5 (tb V c t b hb')) (ix2 r d)
      = turnedAt (V c main_arg0) (V c main_v11) (V c main_v10) (V c main_v9) (fun s => s) i e := by
  have hP : ∀ (d' : Fin 128) (e' : ℕ), e' = n + o + d'.val →
      extractStridedSlice S512x128 ![0, o] (k1_pay32 (F := Ideal) (k1_pay4 (xs V c t b hb) (iblk1 V c 1 t)) (ws V c t n 256 hn)) ho (ix2 r d')
        = proj (V c main_arg0) (V c main_v11) (V c main_v10) i e' := fun d' e' h' => by
    have ho1 : o + 128 ≤ 256 := ho.2 1
    refine Eq.trans ?_ (sum_proj V c t b hb n 256 hn r ⟨o + d'.val, by omega⟩ i e' hi (by dsimp only; omega))
    refine Eq.trans ?_ (prod256_at _ _ _ r ⟨o + d'.val, by omega⟩)
    pointwise
  refine (slot_at _ _ r d).trans ?_
  have hT : ∀ d', k1_pay5 (F := Ideal) (tb V c t b hb') (ix2 r d') = V c main_v9 (ix2 i d' : S16384x256.Idx) := fun d' =>
    Eq.trans (b := tb V c t b hb' (ix2 r d')) (by pointwise [k1_pay5]) (tab_at V c t b hb' r d' i hi)
  rw [hT, hT]
  unfold turnedAt
  have ed : e % 128 = d.val := by omega
  have e64 : e % 64 = d.val % 64 := by omega
  rw [hP d e he]
  simp only [ed, e64]
  by_cases h : d.val % 64 < 8
  · rw [if_pos h, if_pos h, hP _ (e + 8) (by dsimp only; omega)]
  · rw [if_neg h, if_neg h, hP _ (e - 8) (by dsimp only; omega)]

end Cert.KernelInIdeal.Value

end
-- ==== Proof.Entry.lean ====
/- What the input projection's two calls are given: the host's lines before each, entry by entry, and the projection
   and the turned columns as functions of the program's arguments. -/
module

public import proofs.«01_k».proof.Proof.Projected
public import proofs.«01_k».proof.Proof.Table
public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

section Host

variable (σ : Valuation τ sig (Elt Ideal))

/-- The weight is given transposed. -/
theorem weights_entry (e : Fin 5168) (k : Fin 1024) :
    StableHlo.after hostOps1 σ (Proc.devRef .tc main_v10) (ix2 e k : S5168x1024.Idx)
      = σ (Proc.devRef .tc main_arg3) (ix2 k e : S1024x5168.Idx) := by
  entry_read
  pointwise

/-- The gains are given as one row. -/
theorem gain_entry (k : Fin 1024) :
    StableHlo.after hostOps1 σ (Proc.devRef .tc main_v11) (ix2 0 k : S1x1024.Idx)
      = σ (Proc.devRef .tc main_arg2) (ix1 k : S1024.Idx) := by
  entry_read
  pointwise

/-- The positions are given as one row, sequence after sequence. -/
theorem position_entry (r : Fin 16384) :
    StableHlo.after hostOps0 σ (Proc.devRef .tc main_v7) (ix2 0 r : S1x16384.Idx)
      = σ (Proc.devRef .tc main_arg1) (ix2 ⟨r.val / 2048, by omega⟩ ⟨r.val % 2048, by omega⟩ : S8x2048.Idx) := by
  entry_read
  pointwise

/-- The speeds are given as one column. -/
theorem speed_entry (j : Fin 8) :
    StableHlo.after hostOps0 σ (Proc.devRef .tc main_v8) (ix2 j 0 : S8x1.Idx) = Projected.speed j := by
  entry_read
  pointwise
  rfl

end Host

variable (m : (ℓ : Loc nD τ sig) → Buf (Elt Ideal) ℓ) (ρ : Dev nD → PrngReg)

/-- Column `e` of token `i`'s projection, of the program's arguments. -/
def col (c : Dev nD) (i : Fin 16384) (e : ℕ) : EReal :=
  Projected.column (fun k => m ((c : Thread nD τ).loc main_arg0) (ix2 i k : S16384x1024.Idx))
    (fun k => m ((c : Thread nD τ).loc main_arg2) (ix1 k : S1024.Idx))
    (fun k e => m ((c : Thread nD τ).loc main_arg3) (ix2 k e : S1024x5168.Idx)) e

/-- Token `i`'s angles, of the program's arguments. -/
def angle (c : Dev nD) (i : Fin 16384) : Fin 8 → EReal :=
  Projected.angles (m ((c : Thread nD τ).loc main_arg1) (ix2 ⟨i.val / 2048, by omega⟩ ⟨i.val % 2048, by omega⟩ : S8x2048.Idx))

/-- The second call's first input is the first argument. -/
theorem x_in (c : Dev nD) : V3 m ρ c main_arg0 = m ((c : Thread nD τ).loc main_arg0) :=
  W3_args m ρ c main_arg0 (by decide)

/-- Its gains. -/
theorem g_in (c : Dev nD) (k : Fin 1024) :
    V3 m ρ c main_v11 (ix2 0 k : S1x1024.Idx) = m ((c : Thread nD τ).loc main_arg2) (ix1 k : S1024.Idx) :=
  (gain_entry (W2 m ρ c) k).trans (congrFun (W2_args m ρ c main_arg2 (by decide)) _)

/-- Its weight. -/
theorem w_in (c : Dev nD) (e : Fin 5168) (k : Fin 1024) :
    V3 m ρ c main_v10 (ix2 e k : S5168x1024.Idx) = m ((c : Thread nD τ).loc main_arg3) (ix2 k e : S1024x5168.Idx) :=
  (weights_entry (W2 m ρ c) e k).trans (congrFun (W2_args m ρ c main_arg3 (by decide)) _)

/-- The table, of positions and speeds known entry by entry. -/
theorem table_of (p : (⟨S1x16384, .i32⟩ : BufTy).Contents (Elt Ideal)) (f : (⟨S8x1, .f32⟩ : BufTy).Contents (Elt Ideal))
    (i : Fin 16384) (d : ℕ) (q : BitVec 32) (hp : p (ix2 0 i) = q) (hf : ∀ j, f (ix2 j 0) = Projected.speed j) :
    tableAt p f i d = tabAt (Projected.angles q) d := by
  unfold tableAt
  congr 1
  funext j
  unfold angles Projected.angles
  rw [hp]
  exact congrArg _ (hf j)

/-- Its table is what the first call leaves. -/
theorem tab_in (c : Dev nD) (i : Fin 16384) (d : Fin 256) :
    V3 m ρ c main_v9 (ix2 i d : S16384x256.Idx) = tabAt (angle m c i) d.val :=
  (congrFun ((W3_of m ρ c main_v9 (by decide)).trans ((W2_arr m ρ c 2).trans (table (V1 m ρ) c))) _).trans
    (table_of _ _ i d.val _ (position_entry (W0 m ρ c) i) (speed_entry (W0 m ρ c)))

/-- The projection, of inputs known entry by entry. -/
theorem proj_of (x : (⟨S16384x1024, .f32⟩ : BufTy).Contents (Elt Ideal)) (g : (⟨S1x1024, .f32⟩ : BufTy).Contents (Elt Ideal))
    (w : (⟨S5168x1024, .f32⟩ : BufTy).Contents (Elt Ideal)) (i : Fin 16384) (e : ℕ) (X G : Fin 1024 → EReal)
    (W : Fin 1024 → Fin 5168 → EReal) (hx : ∀ k, x (ix2 i k) = X k) (hg : ∀ k, g (ix2 0 k) = G k)
    (hw : ∀ e k, w (ix2 e k) = W k e) : proj x g w i e = Projected.column X G W e := by
  unfold proj Projected.column
  simp only [hx, hg, hw]

/-- The turned columns, of inputs known entry by entry. -/
theorem turned_of (x : (⟨S16384x1024, .f32⟩ : BufTy).Contents (Elt Ideal)) (g : (⟨S1x1024, .f32⟩ : BufTy).Contents (Elt Ideal))
    (w : (⟨S5168x1024, .f32⟩ : BufTy).Contents (Elt Ideal)) (tab : (⟨S16384x256, .f32⟩ : BufTy).Contents (Elt Ideal))
    (s : EReal → EReal) (i : Fin 16384) (e : ℕ) (a : Fin 8 → EReal) (v : ℕ → EReal) (hv : ∀ e, proj x g w i e = v e)
    (ht : ∀ d, tab (ix2 i d) = tabAt a d.val) :
    turnedAt x g w tab s i e = v e * s (cosAt a e) + (if e % 64 < 8 then v (e + 8) else v (e - 8)) * s (sinAt a e) := by
  unfold turnedAt
  simp only [hv, ht, Projected.tabAt_cos, Projected.tabAt_sin]

/-- The projection of the second call's inputs is the projection of the arguments. -/
theorem proj_in (c : Dev nD) (i : Fin 16384) (e : ℕ) :
    proj (V3 m ρ c main_arg0) (V3 m ρ c main_v11) (V3 m ρ c main_v10) i e = col m c i e :=
  proj_of _ _ _ i e _ _ _ (fun _ => congrFun (x_in m ρ c) _) (g_in m ρ c) (w_in m ρ c)

/-- Columns turned by the table are turned by the angles. -/
theorem turned_in (c : Dev nD) (i : Fin 16384) (e : ℕ) :
    turnedAt (V3 m ρ c main_arg0) (V3 m ρ c main_v11) (V3 m ρ c main_v10) (V3 m ρ c main_v9) (fun v => v) i e
      = turn (angle m c i) (col m c i) e :=
  (turned_of _ _ _ _ _ i e _ _ (proj_in m ρ c i) (tab_in m ρ c i)).trans (turn_eq _ _ _)

/-- The printed scale of the queries. -/
theorem κ_eq : κ = ((12102203 / 67108864 : ℝ) : EReal) := by
  unfold κ
  simp [Ideal.ofBits, Ideal.ieee, -EReal.coe_mul]
  norm_num

/-- It is a number that is not negative. -/
theorem κ_pos : 0 ≤ κ ∧ κ ≠ ⊤ := by
  rw [κ_eq]
  exact ⟨EReal.coe_nonneg.2 (by norm_num), EReal.coe_ne_top _⟩

/-- And turned by a table of the scale's multiples they are the turned columns' multiples. -/
theorem scaled_in (c : Dev nD) (i : Fin 16384) (e : ℕ) :
    turnedAt (V3 m ρ c main_arg0) (V3 m ρ c main_v11) (V3 m ρ c main_v10) (V3 m ρ c main_v9) (fun v => v * κ) i e
      = turn (angle m c i) (col m c i) e * κ :=
  (turned_of _ _ _ _ _ i e _ _ (proj_in m ρ c i) (tab_in m ρ c i)).trans (turn_scaled κ κ_pos.1 κ_pos.2 _ _ _)

end Cert.KernelInIdeal.Value

end
-- ==== Proof.Keys.lean ====
/- What the input projection leaves of the queries and of the two sets of keys: at every grid point each stored slot is
   the turn of its columns of the projection. -/
module

public import proofs.«01_k».proof.Proof.Block

@[expose] public section

set_option maxRecDepth 16384
set_option maxHeartbeats 2000000

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

variable (V : (c : Dev nD) → (b : Ref sig .tc) → Buf (Elt Ideal) ((c : Thread nD τ).loc b))

/-- The queries, turned by the scaled table. -/
theorem queries (c : Dev nD) : (dat1 V c).arrAt 4 cfg1.N
    = fun i => turnedAt (V c main_arg0) (V c main_v11) (V c main_v10) (V c main_v9) (· * κ) (i 0) (i 1).val := by
  refine (dat1 V c).arrAt_eq_of_covers 4 _ (by decide +kernel) fun t hf y => ?_
  blk_simp
  rw [after1_4]
  unfold outsAt1
  frame_out
  canon_tiles x h
  · idx_vars x
    exact q_piece V c t 512 512 384 inb_S1024x1024_S512x1024_512_0 inb_S1024x256_S512x256_512_0 inb_S3120x1024_S512x1024_512_0 slices_S512x512_o0_384_S512x128 x0 x1 _ _
      (by blk_simp [idx1 t]; omega) (by blk_simp [idx1 t]; omega) (by decide)
  · idx_vars x
    exact q_piece V c t 512 512 256 inb_S1024x1024_S512x1024_512_0 inb_S1024x256_S512x256_512_0 inb_S3120x1024_S512x1024_512_0 slices_S512x512_o0_256_S512x128 x0 x1 _ _
      (by blk_simp [idx1 t]; omega) (by blk_simp [idx1 t]; omega) (by decide)
  · idx_vars x
    exact q_piece V c t 512 512 128 inb_S1024x1024_S512x1024_512_0 inb_S1024x256_S512x256_512_0 inb_S3120x1024_S512x1024_512_0 slices_S512x512_o0_128_S512x128 x0 x1 _ _
      (by blk_simp [idx1 t]; omega) (by blk_simp [idx1 t]; omega) (by decide)
  · idx_vars x
    exact q_piece V c t 512 512 0 inb_S1024x1024_S512x1024_512_0 inb_S1024x256_S512x256_512_0 inb_S3120x1024_S512x1024_512_0 slices_S512x512_o0_0_S512x128 x0 x1 _ _
      (by blk_simp [idx1 t]; omega) (by blk_simp [idx1 t]; omega) (by decide)
  · idx_vars x
    exact q_piece V c t 512 0 384 inb_S1024x1024_S512x1024_512_0 inb_S1024x256_S512x256_512_0 inb_S3120x1024_S512x1024_0_0 slices_S512x512_o0_384_S512x128 x0 x1 _ _
      (by blk_simp [idx1 t]; omega) (by blk_simp [idx1 t]; omega) (by decide)
  · idx_vars x
    exact q_piece V c t 512 0 256 inb_S1024x1024_S512x1024_512_0 inb_S1024x256_S512x256_512_0 inb_S3120x1024_S512x1024_0_0 slices_S512x512_o0_256_S512x128 x0 x1 _ _
      (by blk_simp [idx1 t]; omega) (by blk_simp [idx1 t]; omega) (by decide)
  · idx_vars x
    exact q_piece V c t 512 0 128 inb_S1024x1024_S512x1024_512_0 inb_S1024x256_S512x256_512_0 inb_S3120x1024_S512x1024_0_0 slices_S512x512_o0_128_S512x128 x0 x1 _ _
      (by blk_simp [idx1 t]; omega) (by blk_simp [idx1 t]; omega) (by decide)
  · idx_vars x
    exact q_piece V c t 512 0 0 inb_S1024x1024_S512x1024_512_0 inb_S1024x256_S512x256_512_0 inb_S3120x1024_S512x1024_0_0 slices_S512x512_o0_0_S512x128 x0 x1 _ _
      (by blk_simp [idx1 t]; omega) (by blk_simp [idx1 t]; omega) (by decide)
  · idx_vars x
    exact q_piece V c t 0 512 384 inb_S1024x1024_S512x1024_0_0 inb_S1024x256_S512x256_0_0 inb_S3120x1024_S512x1024_512_0 slices_S512x512_o0_384_S512x128 x0 x1 _ _
      (by blk_simp [idx1 t]; omega) (by blk_simp [idx1 t]; omega) (by decide)
  · idx_vars x
    exact q_piece V c t 0 512 256 inb_S1024x1024_S512x1024_0_0 inb_S1024x256_S512x256_0_0 inb_S3120x1024_S512x1024_512_0 slices_S512x512_o0_256_S512x128 x0 x1 _ _
      (by blk_simp [idx1 t]; omega) (by blk_simp [idx1 t]; omega) (by decide)
  · idx_vars x
    exact q_piece V c t 0 512 128 inb_S1024x1024_S512x1024_0_0 inb_S1024x256_S512x256_0_0 inb_S3120x1024_S512x1024_512_0 slices_S512x512_o0_128_S512x128 x0 x1 _ _
      (by blk_simp [idx1 t]; omega) (by blk_simp [idx1 t]; omega) (by decide)
  · idx_vars x
    exact q_piece V c t 0 512 0 inb_S1024x1024_S512x1024_0_0 inb_S1024x256_S512x256_0_0 inb_S3120x1024_S512x1024_512_0 slices_S512x512_o0_0_S512x128 x0 x1 _ _
      (by blk_simp [idx1 t]; omega) (by blk_simp [idx1 t]; omega) (by decide)
  · idx_vars x
    exact q_piece V c t 0 0 384 inb_S1024x1024_S512x1024_0_0 inb_S1024x256_S512x256_0_0 inb_S3120x1024_S512x1024_0_0 slices_S512x512_o0_384_S512x128 x0 x1 _ _
      (by blk_simp [idx1 t]; omega) (by blk_simp [idx1 t]; omega) (by decide)
  · idx_vars x
    exact q_piece V c t 0 0 256 inb_S1024x1024_S512x1024_0_0 inb_S1024x256_S512x256_0_0 inb_S3120x1024_S512x1024_0_0 slices_S512x512_o0_256_S512x128 x0 x1 _ _
      (by blk_simp [idx1 t]; omega) (by blk_simp [idx1 t]; omega) (by decide)
  · idx_vars x
    exact q_piece V c t 0 0 128 inb_S1024x1024_S512x1024_0_0 inb_S1024x256_S512x256_0_0 inb_S3120x1024_S512x1024_0_0 slices_S512x512_o0_128_S512x128 x0 x1 _ _
      (by blk_simp [idx1 t]; omega) (by blk_simp [idx1 t]; omega) (by decide)
  · idx_vars x
    exact q_piece V c t 0 0 0 inb_S1024x1024_S512x1024_0_0 inb_S1024x256_S512x256_0_0 inb_S3120x1024_S512x1024_0_0 slices_S512x512_o0_0_S512x128 x0 x1 _ _
      (by blk_simp [idx1 t]; omega) (by blk_simp [idx1 t]; omega) (by decide)

/-- The keys of the selected blocks. -/
theorem keys_s (c : Dev nD) : (dat1 V c).arrAt 5 cfg1.N
    = fun i => turnedAt (V c main_arg0) (V c main_v11) (V c main_v10) (V c main_v9) (fun s => s) (i 0) (1536 + (i 1).val) := by
  refine (dat1 V c).arrAt_eq_of_covers 5 _ (by decide +kernel) fun t hf y => ?_
  blk_simp
  rw [after1_5]
  unfold outsAt1
  frame_out
  canon_tiles x h
  · idx_vars x
    exact k_piece V c t 512 1536 128 inb_S1024x1024_S512x1024_512_0 inb_S1024x256_S512x256_512_0 inb_S3120x1024_S256x1024_1536_0 slices_S512x256_o0_128_S512x128 x0 x1 _ _
      (by blk_simp [idx1 t]; omega) (by blk_simp [idx1 t]; omega) (by decide)
  · idx_vars x
    exact k_piece V c t 512 1536 0 inb_S1024x1024_S512x1024_512_0 inb_S1024x256_S512x256_512_0 inb_S3120x1024_S256x1024_1536_0 slices_S512x256_o0_0_S512x128 x0 x1 _ _
      (by blk_simp [idx1 t]; omega) (by blk_simp [idx1 t]; omega) (by decide)
  · idx_vars x
    exact k_piece V c t 0 1536 128 inb_S1024x1024_S512x1024_0_0 inb_S1024x256_S512x256_0_0 inb_S3120x1024_S256x1024_1536_0 slices_S512x256_o0_128_S512x128 x0 x1 _ _
      (by blk_simp [idx1 t]; omega) (by blk_simp [idx1 t]; omega) (by decide)
  · idx_vars x
    exact k_piece V c t 0 1536 0 inb_S1024x1024_S512x1024_0_0 inb_S1024x256_S512x256_0_0 inb_S3120x1024_S256x1024_1536_0 slices_S512x256_o0_0_S512x128 x0 x1 _ _
      (by blk_simp [idx1 t]; omega) (by blk_simp [idx1 t]; omega) (by decide)

/-- The keys of the window. -/
theorem keys_w (c : Dev nD) : (dat1 V c).arrAt 6 cfg1.N
    = fun i => turnedAt (V c main_arg0) (V c main_v11) (V c main_v10) (V c main_v9) (fun s => s) (i 0) (2048 + (i 1).val) := by
  refine (dat1 V c).arrAt_eq_of_covers 6 _ (by decide +kernel) fun t hf y => ?_
  blk_simp
  rw [after1_6]
  unfold outsAt1
  frame_out
  canon_tiles x h
  · idx_vars x
    exact k_piece V c t 512 2048 128 inb_S1024x1024_S512x1024_512_0 inb_S1024x256_S512x256_512_0 inb_S3120x1024_S256x1024_2048_0 slices_S512x256_o0_128_S512x128 x0 x1 _ _
      (by blk_simp [idx1 t]; omega) (by blk_simp [idx1 t]; omega) (by decide)
  · idx_vars x
    exact k_piece V c t 512 2048 0 inb_S1024x1024_S512x1024_512_0 inb_S1024x256_S512x256_512_0 inb_S3120x1024_S256x1024_2048_0 slices_S512x256_o0_0_S512x128 x0 x1 _ _
      (by blk_simp [idx1 t]; omega) (by blk_simp [idx1 t]; omega) (by decide)
  · idx_vars x
    exact k_piece V c t 0 2048 128 inb_S1024x1024_S512x1024_0_0 inb_S1024x256_S512x256_0_0 inb_S3120x1024_S256x1024_2048_0 slices_S512x256_o0_128_S512x128 x0 x1 _ _
      (by blk_simp [idx1 t]; omega) (by blk_simp [idx1 t]; omega) (by decide)
  · idx_vars x
    exact k_piece V c t 0 2048 0 inb_S1024x1024_S512x1024_0_0 inb_S1024x256_S512x256_0_0 inb_S3120x1024_S256x1024_2048_0 slices_S512x256_o0_0_S512x128 x0 x1 _ _
      (by blk_simp [idx1 t]; omega) (by blk_simp [idx1 t]; omega) (by decide)

end Cert.KernelInIdeal.Value

end
-- ==== Proof.Slabs.lean ====
/- What the input projection leaves of the gates, of the pooled columns and of the two sets of values: rows of the
   projection as they are, and slabs of transposed values, each head's over a row of ones and rows of zeros. -/
module

public import proofs.«01_k».proof.Proof.Block

@[expose] public section

set_option maxRecDepth 16384
set_option maxHeartbeats 2000000

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

variable (V : (c : Dev nD) → (b : Ref sig .tc) → Buf (Elt Ideal) ((c : Thread nD τ).loc b))

/-- The products with 512 rows of the weight, as the call stores them. -/
theorem wide_piece (c : Dev nD) (t : Fin cfg1.N) (b n : ℕ) (hb) (hn) (r d : Fin 512) (i : Fin 16384) (e : ℕ)
    (hi : i.val = t.val * 1024 + (b + r.val)) (he : e = n + d.val) :
    k1_pay7 (F := Ideal) (xs V c t b hb) (iblk1 V c 1 t) (ws V c t n 512 hn) (ix2 r d)
      = proj (V c main_arg0) (V c main_v11) (V c main_v10) i e :=
  (prod_at _ _ _ r d).trans (sum_proj V c t b hb n 512 hn r d i e hi he)

/-- The products with 128 rows of the weight, as the call stores them. -/
theorem narrow_piece (c : Dev nD) (t : Fin cfg1.N) (b n : ℕ) (hb) (hn) (r : Fin 512) (d : Fin 128) (i : Fin 16384) (e : ℕ)
    (hi : i.val = t.val * 1024 + (b + r.val)) (he : e = n + d.val) :
    k1_pay183 (F := Ideal) (k1_pay4 (xs V c t b hb) (iblk1 V c 1 t)) (ws V c t n 128 hn) (ix2 r d)
      = proj (V c main_arg0) (V c main_v11) (V c main_v10) i e :=
  (prod128_at _ _ _ r d).trans (sum_proj V c t b hb n 128 hn r d i e hi he)

/-- The gates' columns, and those after them up to 128. -/
theorem gates (c : Dev nD) : (dat1 V c).arrAt 10 cfg1.N
    = fun i => proj (V c main_arg0) (V c main_v11) (V c main_v10) (i 0) (2560 + (i 1).val) := by
  refine (dat1 V c).arrAt_eq_of_covers 10 _ (by decide +kernel) fun t hf y => ?_
  blk_simp
  rw [after1_10]
  unfold outsAt1
  frame_out
  canon_tiles x h
  · idx_vars x
    exact narrow_piece V c t 512 2560 inb_S1024x1024_S512x1024_512_0 inb_S3120x1024_S128x1024_2560_0 x0 x1 _ _
      (by blk_simp [idx1 t]; omega) (by blk_simp [idx1 t]; omega)
  · idx_vars x
    exact narrow_piece V c t 0 2560 inb_S1024x1024_S512x1024_0_0 inb_S3120x1024_S128x1024_2560_0 x0 x1 _ _
      (by blk_simp [idx1 t]; omega) (by blk_simp [idx1 t]; omega)

/-- The pooled columns. -/
theorem pooled (c : Dev nD) : (dat1 V c).arrAt 11 cfg1.N
    = fun i => proj (V c main_arg0) (V c main_v11) (V c main_v10) (i 0) (2608 + (i 1).val) := by
  refine (dat1 V c).arrAt_eq_of_covers 11 _ (by decide +kernel) fun t hf y => ?_
  blk_simp
  rw [after1_11]
  unfold outsAt1
  frame_out
  canon_tiles x h
  · idx_vars x
    exact wide_piece V c t 512 2608 inb_S1024x1024_S512x1024_512_0 inb_S3120x1024_S512x1024_2608_0 x0 x1 _ _
      (by blk_simp [idx1 t]; omega) (by blk_simp [idx1 t]; omega)
  · idx_vars x
    exact wide_piece V c t 0 2608 inb_S1024x1024_S512x1024_0_0 inb_S3120x1024_S512x1024_2608_0 x0 x1 _ _
      (by blk_simp [idx1 t]; omega) (by blk_simp [idx1 t]; omega)

/-- One entry of a slab of values: row `s` holds the head `s / 80`'s column `s mod 80` of the tile's tokens, then a one,
    then zeros. -/
def slabAt (x : (⟨S16384x1024, .f32⟩ : BufTy).Contents (Elt Ideal)) (g : (⟨S1x1024, .f32⟩ : BufTy).Contents (Elt Ideal))
    (w : (⟨S5168x1024, .f32⟩ : BufTy).Contents (Elt Ideal)) (n : ℕ) (q : Fin 64) (s : ℕ) (k : Fin 256) : EReal :=
  if s % 80 < 64 then proj x g w ⟨q.val * 256 + k.val, by omega⟩ (n + (s / 80 * 64 + s % 80))
  else if s % 80 = 64 then 1 else 0

/-- A stored block of a head's values. -/
theorem value_piece (c : Dev nD) (t : Fin cfg1.N) (b n o o' : ℕ) (hb) (hn) (ho) (z : Fin 1) (a : Fin 64) (d : Fin 256)
    (q : Fin 64) (s : ℕ) (k : Fin 256) (hq : q.val * 256 + k.val = t.val * 1024 + (b + (o' + d.val)))
    (hs : s = o / 64 * 80 + a.val) (h64 : o % 64 = 0) :
    shapeCast S1x64x256 (extractStridedSlice S64x256 ![o, o'] (k1_pay185 (F := Ideal) (k1_pay4 (xs V c t b hb) (iblk1 V c 1 t))
        (ws V c t n 256 hn)) ho) shapeCasts_S64x256_S1x64x256 (ix3 z a d)
      = slabAt (V c main_arg0) (V c main_v11) (V c main_v10) n q s k := by
  have ho0 : o + 64 ≤ 256 := ho.2 0
  have ho1 : o' + 256 ≤ 512 := ho.2 1
  unfold slabAt
  rw [if_pos (by omega)]
  refine Eq.trans ?_ (sum_proj V c t b hb n 256 hn ⟨o' + d.val, by omega⟩ ⟨o + a.val, by omega⟩ ⟨q.val * 256 + k.val, by omega⟩ _
    (by dsimp only; omega) (by dsimp only; omega))
  refine Eq.trans ?_ ((prodT_at _ _ _ ⟨o' + d.val, by omega⟩ ⟨o + a.val, by omega⟩).trans
    (Finset.sum_congr rfl fun k _ => mul_comm _ _))
  pointwise

/-- A stored block of ones and zeros. -/
theorem aux_piece (x g w n) (z : Fin 1) (a : Fin 16) (d : Fin 256) (q : Fin 64) (s : ℕ) (k : Fin 256) (hs : s % 80 = 64 + a.val) :
    shapeCast S1x16x256 (k1_pay3 (F := Ideal)) shapeCasts_S16x256_S1x16x256 (ix3 z a d) = slabAt x g w n q s k := by
  unfold slabAt
  rw [if_neg (by omega)]
  refine Eq.trans (b := k1_pay3 (F := Ideal) (ix2 a d)) (by pointwise) ((aux_at a d).trans ?_)
  by_cases h : a.val = 0
  · rw [if_pos h, if_pos (by omega)]
  · rw [if_neg h, if_neg (by omega)]

/-- The values of the selected blocks. -/
theorem values_s (c : Dev nD) : (dat1 V c).arrAt 7 cfg1.N
    = fun i => slabAt (V c main_arg0) (V c main_v11) (V c main_v10) 1792 (i 0) (i 1).val (i 2) := by
  refine (dat1 V c).arrAt_eq_of_covers 7 _ (by decide +kernel) fun t hf y => ?_
  blk_simp
  rw [after1_7]
  unfold outsAt1
  frame_out
  canon_tiles x h using View.cover_of_tiledBy (s := S4x320x256) _ ![1, 16, 256] (by sl_kernel_rfl) _
  · idx_vars x
    exact aux_piece _ _ _ _ x0 x1 x2 _ _ _ (by blk_simp [idx1 t]; omega)
  · idx_vars x
    exact value_piece V c t 512 1792 192 256 inb_S1024x1024_S512x1024_512_0 inb_S3120x1024_S256x1024_1792_0 slices_S256x512_o192_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 128 256 inb_S1024x1024_S512x1024_512_0 inb_S3120x1024_S256x1024_1792_0 slices_S256x512_o128_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 64 256 inb_S1024x1024_S512x1024_512_0 inb_S3120x1024_S256x1024_1792_0 slices_S256x512_o64_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 0 256 inb_S1024x1024_S512x1024_512_0 inb_S3120x1024_S256x1024_1792_0 slices_S256x512_o0_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 192 0 inb_S1024x1024_S512x1024_512_0 inb_S3120x1024_S256x1024_1792_0 slices_S256x512_o192_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 128 0 inb_S1024x1024_S512x1024_512_0 inb_S3120x1024_S256x1024_1792_0 slices_S256x512_o128_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 64 0 inb_S1024x1024_S512x1024_512_0 inb_S3120x1024_S256x1024_1792_0 slices_S256x512_o64_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 1792 0 0 inb_S1024x1024_S512x1024_512_0 inb_S3120x1024_S256x1024_1792_0 slices_S256x512_o0_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 192 256 inb_S1024x1024_S512x1024_0_0 inb_S3120x1024_S256x1024_1792_0 slices_S256x512_o192_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 128 256 inb_S1024x1024_S512x1024_0_0 inb_S3120x1024_S256x1024_1792_0 slices_S256x512_o128_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 64 256 inb_S1024x1024_S512x1024_0_0 inb_S3120x1024_S256x1024_1792_0 slices_S256x512_o64_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 0 256 inb_S1024x1024_S512x1024_0_0 inb_S3120x1024_S256x1024_1792_0 slices_S256x512_o0_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 192 0 inb_S1024x1024_S512x1024_0_0 inb_S3120x1024_S256x1024_1792_0 slices_S256x512_o192_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 128 0 inb_S1024x1024_S512x1024_0_0 inb_S3120x1024_S256x1024_1792_0 slices_S256x512_o128_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 64 0 inb_S1024x1024_S512x1024_0_0 inb_S3120x1024_S256x1024_1792_0 slices_S256x512_o64_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 1792 0 0 inb_S1024x1024_S512x1024_0_0 inb_S3120x1024_S256x1024_1792_0 slices_S256x512_o0_0_S64x256 x0 x1 x2 _ _ _
      (by blk_simp [idx1 t]; omega) (by blk_simp [idx1 t]; omega) (by decide)

/-- The values of the window. -/
theorem values_w (c : Dev nD) : (dat1 V c).arrAt 8 cfg1.N
    = fun i => slabAt (V c main_arg0) (V c main_v11) (V c main_v10) 2304 (i 0) (i 1).val (i 2) := by
  refine (dat1 V c).arrAt_eq_of_covers 8 _ (by decide +kernel) fun t hf y => ?_
  blk_simp
  rw [after1_8]
  unfold outsAt1
  frame_out
  canon_tiles x h using View.cover_of_tiledBy (s := S4x320x256) _ ![1, 16, 256] (by sl_kernel_rfl) _
  · idx_vars x
    exact aux_piece _ _ _ _ x0 x1 x2 _ _ _ (by blk_simp [idx1 t]; omega)
  · idx_vars x
    exact value_piece V c t 512 2304 192 256 inb_S1024x1024_S512x1024_512_0 inb_S3120x1024_S256x1024_2304_0 slices_S256x512_o192_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 128 256 inb_S1024x1024_S512x1024_512_0 inb_S3120x1024_S256x1024_2304_0 slices_S256x512_o128_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 64 256 inb_S1024x1024_S512x1024_512_0 inb_S3120x1024_S256x1024_2304_0 slices_S256x512_o64_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 0 256 inb_S1024x1024_S512x1024_512_0 inb_S3120x1024_S256x1024_2304_0 slices_S256x512_o0_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 192 0 inb_S1024x1024_S512x1024_512_0 inb_S3120x1024_S256x1024_2304_0 slices_S256x512_o192_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 128 0 inb_S1024x1024_S512x1024_512_0 inb_S3120x1024_S256x1024_2304_0 slices_S256x512_o128_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 64 0 inb_S1024x1024_S512x1024_512_0 inb_S3120x1024_S256x1024_2304_0 slices_S256x512_o64_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 512 2304 0 0 inb_S1024x1024_S512x1024_512_0 inb_S3120x1024_S256x1024_2304_0 slices_S256x512_o0_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 192 256 inb_S1024x1024_S512x1024_0_0 inb_S3120x1024_S256x1024_2304_0 slices_S256x512_o192_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 128 256 inb_S1024x1024_S512x1024_0_0 inb_S3120x1024_S256x1024_2304_0 slices_S256x512_o128_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 64 256 inb_S1024x1024_S512x1024_0_0 inb_S3120x1024_S256x1024_2304_0 slices_S256x512_o64_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 0 256 inb_S1024x1024_S512x1024_0_0 inb_S3120x1024_S256x1024_2304_0 slices_S256x512_o0_256_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 192 0 inb_S1024x1024_S512x1024_0_0 inb_S3120x1024_S256x1024_2304_0 slices_S256x512_o192_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 128 0 inb_S1024x1024_S512x1024_0_0 inb_S3120x1024_S256x1024_2304_0 slices_S256x512_o128_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 64 0 inb_S1024x1024_S512x1024_0_0 inb_S3120x1024_S256x1024_2304_0 slices_S256x512_o64_0_S64x256 x0 x1 x2 _ _ _
      (by blk_simp [idx1 t]; omega) (by blk_simp [idx1 t]; omega) (by decide)
  · idx_vars x
    exact aux_piece _ _ _ _ x0 x1 x2 _ _ _ (by blk_simp [idx1 t]; omega)
  · idx_vars x
    exact value_piece V c t 0 2304 0 0 inb_S1024x1024_S512x1024_0_0 inb_S3120x1024_S256x1024_2304_0 slices_S256x512_o0_0_S64x256 x0 x1 x2 _ _ _
      (by blk_simp [idx1 t]; omega) (by blk_simp [idx1 t]; omega) (by decide)

end Cert.KernelInIdeal.Value

end
-- ==== Proof.Chunks.lean ====
/- What the input projection leaves of the compression's columns: chunks of sixteen tokens, laid out head by head in
   one row, read back from a buffer of the call's own with a stride of sixteen rows. -/
module

public import proofs.«01_k».proof.Proof.Block
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.KernelInIdeal.Value

open Cert.KernelInIdeal Cert.KernelInIdeal.Gen Cert.Turn

variable (V : (c : Dev nD) → (b : Ref sig .tc) → Buf (Elt Ideal) ((c : Thread nD τ).loc b))

/-- What the call's own buffer holds at a grid point: four slabs of 128 columns of the projection, a row for each of the
    point's tokens. -/
def stash (c : Dev nD) (t : Fin cfg1.N) : Vec Ideal S4x1024x128 .f32 := fun z =>
  proj (V c main_arg0) (V c main_v11) (V c main_v10) ⟨t.val * 1024 + (z 1).val, by have := t_lt t; have : (z 1).val < 1024 := (z 1).isLt; omega⟩
    (1024 + (128 * (z 0).val + (z 2).val))

/-- A block stored in that buffer. -/
theorem stash_piece (c : Dev nD) (t : Fin cfg1.N) (b o : ℕ) (hb) (hn) (ho) (x : S1x512x128.Idx) (z : S4x1024x128.Idx)
    (h0 : 128 * (z 0).val = o) (h1 : (z 1).val = b + (x 1).val) (h2 : (z 2).val = (x 2).val) :
    shapeCast S1x512x128 (extractStridedSlice S512x128 ![0, o] (k1_pay7 (F := Ideal) (xs V c t b hb) (iblk1 V c 1 t)
        (ws V c t 1024 512 hn)) ho) shapeCasts_S512x128_S1x512x128 x
      = stash V c t z := by
  have ho1 : o + 128 ≤ 512 := ho.2 1
  idx_vars x
  have h2' : x2.val < 128 := x2.isLt
  unfold stash
  refine Eq.trans ?_ ((prod_at _ _ _ x1 ⟨o + x2.val, by omega⟩).trans
    (sum_proj V c t b hb 1024 512 hn x1 ⟨o + x2.val, by omega⟩ _ _ (by dsimp only; omega) (by dsimp only; omega)))
  pointwise

/-- A list of stores that leaves the buffer as `stash` says on the rows below `n`. -/
def Fills (c : Dev nD) (t : Fin cfg1.N) (n : ℕ) (L : List (View.Piece (Elt Ideal) S4x1024x128 .f32)) : Prop :=
  ∀ z : S4x1024x128.Idx, (z 1).val < n → View.canon L z = stash V c t z

/-- A row of the buffer read back. -/
theorem stash_read (c : Dev nD) (t : Fin cfg1.N) (n : ℕ) (L) (hL : Fills V c t n L) (j s : ℕ) (hj : j < 4) (hs : s + 496 < n)
    (hn : n ≤ 1024) (hi) (r : Fin 32) (l : Fin 128) :
    (View.whole cc1_scratch0).readCov L { off := ![j, s, 0], size := ![1, 32, 128], stride := ![1, 16, 1], inb := hi } (ix3 (0 : Fin 1) r l)
      = stash V c t (ix3 ⟨j, hj⟩ ⟨s + 16 * r.val, by omega⟩ l) := by
  rw [View.readCov_eq_canon']
  refine Eq.trans (hL _ ?_) (congrArg _ ?_)
  · show s + 16 * r.val < n
    omega
  · funext a
    fin_cases a
    · exact Fin.ext (by show j + 1 * 0 = j; omega)
    · exact Fin.ext rfl
    · exact Fin.ext (by show 0 + 1 * l.val = l.val; omega)

/-- Whether a lane lies in the lower half. -/
theorem half : ∀ d : Fin 128, IntOp.cmpi CmpIPredicate.slt (BitVec.ofNat 32 d.val) 64#32 = if d.val < 64 then 1#1 else 0#1 := by
  decide +kernel

/-- Two rows of tokens' columns, the lower half of the lanes of the first and of the second. -/
theorem even_at (u v : Vec Ideal S1x32x128 .f32) (r : Fin 32) (l : Fin 128) :
    k1_pay393 (F := Ideal) k1_pay260 u v (ix2 r l)
      = if l.val < 64 then u (ix3 0 r l) else v (ix3 0 r ⟨(l.val + 64) % 128, Nat.mod_lt _ (by omega)⟩) := by
  unfold k1_pay393 k1_pay392 k1_pay391 k1_pay260
  pointwise
  simp only [half]
  by_cases h : l.val < 64
  · simp only [h, if_true]
    rfl
  · simp only [h, if_false]
    rfl

/-- And the upper half of the lanes of the first and of the second. -/
theorem odd_at (u v : Vec Ideal S1x32x128 .f32) (r : Fin 32) (l : Fin 128) :
    k1_pay394 (F := Ideal) k1_pay260 u v (ix2 r l)
      = if l.val < 64 then u (ix3 0 r ⟨(l.val + 64) % 128, Nat.mod_lt _ (by omega)⟩) else v (ix3 0 r l) := by
  unfold k1_pay394 k1_pay392 k1_pay391 k1_pay260
  pointwise
  simp only [half]
  by_cases h : l.val < 64
  · simp only [h, if_true]
    rfl
  · simp only [h, if_false]
    rfl

/-- One entry of the chunks: in row `R` the columns of sixteen tokens, head by head. -/
def chunkAt (x : (⟨S16384x1024, .f32⟩ : BufTy).Contents (Elt Ideal)) (g : (⟨S1x1024, .f32⟩ : BufTy).Contents (Elt Ideal))
    (w : (⟨S5168x1024, .f32⟩ : BufTy).Contents (Elt Ideal)) (R : Fin 1024) (C : ℕ) : EReal :=
  proj x g w ⟨R.val * 16 + C % 1024 / 64, by omega⟩ (1024 + (C / 1024 * 64 + C % 64))

/-- A stored block of the lower halves. -/
theorem even_piece (c : Dev nD) (t : Fin cfg1.N) (f : Vec Ideal S1x32x128 .f32 → Vec Ideal S1x32x128 .f32 → FVec Ideal S32x128 .bf16)
    (hf : ∀ u v, f u v = k1_pay393 (F := Ideal) k1_pay260 u v) (n : ℕ) (L) (hL : Fills V c t n L) (j s s' : ℕ) (hj : j < 4) (hs : s + 497 < n)
    (hn : n ≤ 1024) (hi) (hi') (r : Fin 32) (l : Fin 128) (R : Fin 1024) (C : ℕ) (h2 : s % 2 = 0) (h1 : s' = s + 1)
    (hR : R.val = t.val * 64 + (s / 512 * 32 + r.val)) (hC : C = 2 * j * 1024 + (s % 16 / 2 * 128 + l.val)) (hs' : s % 512 < 16) :
    f
        ((View.whole cc1_scratch0).readCov L { off := ![j, s, 0], size := ![1, 32, 128], stride := ![1, 16, 1], inb := hi })
        ((View.whole cc1_scratch0).readCov L { off := ![j, s', 0], size := ![1, 32, 128], stride := ![1, 16, 1], inb := hi' }) (ix2 r l)
      = chunkAt (V c main_arg0) (V c main_v11) (V c main_v10) R C := by
  subst h1
  refine (congrFun (hf _ _) _).trans ((even_at _ _ r l).trans ?_)
  have ht := t_lt t
  unfold chunkAt
  by_cases h : l.val < 64
  · rw [if_pos h]
    refine (stash_read V c t n L hL j s hj (by omega) hn hi r l).trans ?_
    unfold stash
    dsimp only
    congr 1
    · exact Fin.ext (by show t.val * 1024 + (s + 16 * r.val) = _; dsimp only; omega)
    · show 1024 + (128 * j + l.val) = _
      omega
  · rw [if_neg h]
    refine (stash_read V c t n L hL j (s + 1) hj (by omega) hn hi' r _).trans ?_
    unfold stash
    dsimp only
    congr 1
    · exact Fin.ext (by show t.val * 1024 + (s + 1 + 16 * r.val) = _; dsimp only; omega)
    · show 1024 + (128 * j + (l.val + 64) % 128) = _
      omega

/-- A stored block of the upper halves. -/
theorem odd_piece (c : Dev nD) (t : Fin cfg1.N) (f : Vec Ideal S1x32x128 .f32 → Vec Ideal S1x32x128 .f32 → FVec Ideal S32x128 .bf16)
    (hf : ∀ u v, f u v = k1_pay394 (F := Ideal) k1_pay260 u v) (n : ℕ) (L) (hL : Fills V c t n L) (j s s' : ℕ) (hj : j < 4) (hs : s + 497 < n)
    (hn : n ≤ 1024) (hi) (hi') (r : Fin 32) (l : Fin 128) (R : Fin 1024) (C : ℕ) (h2 : s % 2 = 0) (h1 : s' = s + 1)
    (hR : R.val = t.val * 64 + (s / 512 * 32 + r.val)) (hC : C = (2 * j + 1) * 1024 + (s % 16 / 2 * 128 + l.val)) (hs' : s % 512 < 16) :
    f
        ((View.whole cc1_scratch0).readCov L { off := ![j, s, 0], size := ![1, 32, 128], stride := ![1, 16, 1], inb := hi })
        ((View.whole cc1_scratch0).readCov L { off := ![j, s', 0], size := ![1, 32, 128], stride := ![1, 16, 1], inb := hi' }) (ix2 r l)
      = chunkAt (V c main_arg0) (V c main_v11) (V c main_v10) R C := by
  subst h1
  refine (congrFun (hf _ _) _).trans ((odd_at _ _ r l).trans ?_)
  have ht := t_lt t
  unfold chunkAt
  by_cases h : l.val < 64
  · rw [if_pos h]
    refine (stash_read V c t n L hL j s hj (by omega) hn hi r _).trans ?_
    unfold stash
    dsimp only
    congr 1
    · exact Fin.ext (by show t.val * 1024 + (s + 16 * r.val) = _; dsimp only; omega)
    · show 1024 + (128 * j + (l.val + 64) % 128) = _
      omega
  · rw [if_neg h]
    refine (stash_read V c t n L hL j (s + 1) hj (by omega) hn hi' r l).trans ?_
    unfold stash
    dsimp only
    congr 1
    · exact Fin.ext (by show t.val * 1024 + (s + 1 + 16 * r.val) = _; dsimp only; omega)
    · show 1024 + (128 * j + l.val) = _
      omega

/-- The four blocks stored from half of a grid point's tokens. -/
abbrev quarter (c : Dev nD) (t : Fin cfg1.N) (b : ℕ)
    (hb : ∀ a, (![b, 0] : Fin 2 → ℕ) a + ![512, 1024] a ≤ S1024x1024.size a)
    (hn : ∀ a, (![1024, 0] : Fin 2 → ℕ) a + ![512, 1024] a ≤ S3120x1024.size a) (o : ℕ) (ho : S512x512.Slices ![0, o] S512x128) :
    Vec Ideal S1x512x128 .f32 :=
  shapeCast S1x512x128 (extractStridedSlice S512x128 ![0, o] (k1_pay7 (F := Ideal) (xs V c t b hb) (iblk1 V c 1 t)
        (ws V c t 1024 512 hn)) ho) shapeCasts_S512x128_S1x512x128

/-- The stores of the first half of a grid point. -/
abbrev lower (c : Dev nD) (t : Fin cfg1.N) : List (View.Piece (Elt Ideal) S4x1024x128 .f32) :=
  [⟨Rect.unit ![3, 0, 0] ![1, 512, 128] inb_S4x1024x128_S1x512x128_3_0_0,
      quarter V c t 0 inb_S1024x1024_S512x1024_0_0 inb_S3120x1024_S512x1024_1024_0 384 slices_S512x512_o0_384_S512x128⟩,
    ⟨Rect.unit ![2, 0, 0] ![1, 512, 128] inb_S4x1024x128_S1x512x128_2_0_0,
      quarter V c t 0 inb_S1024x1024_S512x1024_0_0 inb_S3120x1024_S512x1024_1024_0 256 slices_S512x512_o0_256_S512x128⟩,
    ⟨Rect.unit ![1, 0, 0] ![1, 512, 128] inb_S4x1024x128_S1x512x128_1_0_0,
      quarter V c t 0 inb_S1024x1024_S512x1024_0_0 inb_S3120x1024_S512x1024_1024_0 128 slices_S512x512_o0_128_S512x128⟩,
    ⟨Rect.unit ![0, 0, 0] ![1, 512, 128] inb_S4x1024x128_S1x512x128_0_0_0,
      quarter V c t 0 inb_S1024x1024_S512x1024_0_0 inb_S3120x1024_S512x1024_1024_0 0 slices_S512x512_o0_0_S512x128⟩]

/-- The stores of the second half. -/
abbrev upper (c : Dev nD) (t : Fin cfg1.N) : List (View.Piece (Elt Ideal) S4x1024x128 .f32) :=
  [⟨Rect.unit ![3, 512, 0] ![1, 512, 128] inb_S4x1024x128_S1x512x128_3_512_0,
      quarter V c t 512 inb_S1024x1024_S512x1024_512_0 inb_S3120x1024_S512x1024_1024_0 384 slices_S512x512_o0_384_S512x128⟩,
    ⟨Rect.unit ![2, 512, 0] ![1, 512, 128] inb_S4x1024x128_S1x512x128_2_512_0,
      quarter V c t 512 inb_S1024x1024_S512x1024_512_0 inb_S3120x1024_S512x1024_1024_0 256 slices_S512x512_o0_256_S512x128⟩,
    ⟨Rect.unit ![1, 512, 0] ![1, 512, 128] inb_S4x1024x128_S1x512x128_1_512_0,
      quarter V c t 512 inb_S1024x1024_S512x1024_512_0 inb_S3120x1024_S512x1024_1024_0 128 slices_S512x512_o0_128_S512x128⟩,
    ⟨Rect.unit ![0, 512, 0] ![1, 512, 128] inb_S4x1024x128_S1x512x128_0_512_0,
      quarter V c t 512 inb_S1024x1024_S512x1024_512_0 inb_S3120x1024_S512x1024_1024_0 0 slices_S512x512_o0_0_S512x128⟩]

/-- Each of the first half's blocks is a block of the stash. -/
theorem lower_pieces (c : Dev nD) (t : Fin cfg1.N) : View.PiecesOf (stash V c t) (lower V c t) := by
  refine ⟨fun x => ?_, fun x => ?_, fun x => ?_, fun x => ?_, trivial⟩
  · have h0 : (x 0).val < 1 := (x 0).isLt
    exact stash_piece V c t 0 384 inb_S1024x1024_S512x1024_0_0 inb_S3120x1024_S512x1024_1024_0 slices_S512x512_o0_384_S512x128 x _
      (by show 128 * (3 + 1 * (x 0).val) = 384; omega) (by show 0 + 1 * (x 1).val = _; omega) (by show 0 + 1 * (x 2).val = _; omega)
  · have h0 : (x 0).val < 1 := (x 0).isLt
    exact stash_piece V c t 0 256 inb_S1024x1024_S512x1024_0_0 inb_S3120x1024_S512x1024_1024_0 slices_S512x512_o0_256_S512x128 x _
      (by show 128 * (2 + 1 * (x 0).val) = 256; omega) (by show 0 + 1 * (x 1).val = _; omega) (by show 0 + 1 * (x 2).val = _; omega)
  · have h0 : (x 0).val < 1 := (x 0).isLt
    exact stash_piece V c t 0 128 inb_S1024x1024_S512x1024_0_0 inb_S3120x1024_S512x1024_1024_0 slices_S512x512_o0_128_S512x128 x _
      (by show 128 * (1 + 1 * (x 0).val) = 128; omega) (by show 0 + 1 * (x 1).val = _; omega) (by show 0 + 1 * (x 2).val = _; omega)
  · have h0 : (x 0).val < 1 := (x 0).isLt
    exact stash_piece V c t 0 0 inb_S1024x1024_S512x1024_0_0 inb_S3120x1024_S512x1024_1024_0 slices_S512x512_o0_0_S512x128 x _
      (by show 128 * (0 + 1 * (x 0).val) = 0; omega) (by show 0 + 1 * (x 1).val = _; omega) (by show 0 + 1 * (x 2).val = _; omega)

/-- And each of the second half's. -/
theorem upper_pieces (c : Dev nD) (t : Fin cfg1.N) : View.PiecesOf (stash V c t) (upper V c t) := by
  refine ⟨fun x => ?_, fun x => ?_, fun x => ?_, fun x => ?_, trivial⟩
  · have h0 : (x 0).val < 1 := (x 0).isLt
    exact stash_piece V c t 512 384 inb_S1024x1024_S512x1024_512_0 inb_S3120x1024_S512x1024_1024_0 slices_S512x512_o0_384_S512x128 x _
      (by show 128 * (3 + 1 * (x 0).val) = 384; omega) (by show 512 + 1 * (x 1).val = _; omega) (by show 0 + 1 * (x 2).val = _; omega)
  · have h0 : (x 0).val < 1 := (x 0).isLt
    exact stash_piece V c t 512 256 inb_S1024x1024_S512x1024_512_0 inb_S3120x1024_S512x1024_1024_0 slices_S512x512_o0_256_S512x128 x _
      (by show 128 * (2 + 1 * (x 0).val) = 256; omega) (by show 512 + 1 * (x 1).val = _; omega) (by show 0 + 1 * (x 2).val = _; omega)
  · have h0 : (x 0).val < 1 := (x 0).isLt
    exact stash_piece V c t 512 128 inb_S1024x1024_S512x1024_512_0 inb_S3120x1024_S512x1024_1024_0 slices_S512x512_o0_128_S512x128 x _
      (by show 128 * (1 + 1 * (x 0).val) = 128; omega) (by show 512 + 1 * (x 1).val = _; omega) (by show 0 + 1 * (x 2).val = _; omega)
  · have h0 : (x 0).val < 1 := (x 0).isLt
    exact stash_piece V c t 512 0 inb_S1024x1024_S512x1024_512_0 inb_S3120x1024_S512x1024_1024_0 slices_S512x512_o0_0_S512x128 x _
      (by show 128 * (0 + 1 * (x 0).val) = 0; omega) (by show 512 + 1 * (x 1).val = _; omega) (by show 0 + 1 * (x 2).val = _; omega)

/-- An index lies in the block of its slab and half. -/
theorem in_block (z : S4x1024x128.Idx) (j b : ℕ) (inb) (h0 : (z 0).val = j) (h1 : b ≤ (z 1).val) (h1' : (z 1).val < b + 512) :
    z ∈ (Rect.unit (s := S4x1024x128) ![j, b, 0] ![1, 512, 128] inb).set := by
  rw [Rect.mem_set_unit]
  have h2 : (z 2).val < 128 := (z 2).isLt
  intro a
  fin_cases a
  · show j ≤ (z 0).val ∧ (z 0).val < j + 1
    omega
  · show b ≤ (z 1).val ∧ (z 1).val < b + 512
    omega
  · show 0 ≤ (z 2).val ∧ (z 2).val < 0 + 128
    omega

/-- The first half's stores fill the rows below 512. -/
theorem lower_fills (c : Dev nD) (t : Fin cfg1.N) : Fills V c t 512 (lower V c t) := fun z hz => by
  have h := View.canon_append_of_piecesOf (stash V c t) [] (lower V c t) (lower_pieces V c t) z ?_
  · rwa [List.append_nil] at h
  · have h0 : (z 0).val < 4 := (z 0).isLt
    obtain h | h | h | h : (z 0).val = 3 ∨ (z 0).val = 2 ∨ (z 0).val = 1 ∨ (z 0).val = 0 := by omega
    · exact ⟨_, .head _, in_block z 3 0 inb_S4x1024x128_S1x512x128_3_0_0 h (by omega) (by omega)⟩
    · exact ⟨_, .tail _ (.head _), in_block z 2 0 inb_S4x1024x128_S1x512x128_2_0_0 h (by omega) (by omega)⟩
    · exact ⟨_, .tail _ (.tail _ (.head _)), in_block z 1 0 inb_S4x1024x128_S1x512x128_1_0_0 h (by omega) (by omega)⟩
    · exact ⟨_, .tail _ (.tail _ (.tail _ (.head _))), in_block z 0 0 inb_S4x1024x128_S1x512x128_0_0_0 h (by omega) (by omega)⟩

/-- Both halves' stores, the later ones first. -/
abbrev both (c : Dev nD) (t : Fin cfg1.N) : List (View.Piece (Elt Ideal) S4x1024x128 .f32) :=
  [⟨Rect.unit ![3, 512, 0] ![1, 512, 128] inb_S4x1024x128_S1x512x128_3_512_0,
      quarter V c t 512 inb_S1024x1024_S512x1024_512_0 inb_S3120x1024_S512x1024_1024_0 384 slices_S512x512_o0_384_S512x128⟩,
    ⟨Rect.unit ![2, 512, 0] ![1, 512, 128] inb_S4x1024x128_S1x512x128_2_512_0,
      quarter V c t 512 inb_S1024x1024_S512x1024_512_0 inb_S3120x1024_S512x1024_1024_0 256 slices_S512x512_o0_256_S512x128⟩,
    ⟨Rect.unit ![1, 512, 0] ![1, 512, 128] inb_S4x1024x128_S1x512x128_1_512_0,
      quarter V c t 512 inb_S1024x1024_S512x1024_512_0 inb_S3120x1024_S512x1024_1024_0 128 slices_S512x512_o0_128_S512x128⟩,
    ⟨Rect.unit ![0, 512, 0] ![1, 512, 128] inb_S4x1024x128_S1x512x128_0_512_0,
      quarter V c t 512 inb_S1024x1024_S512x1024_512_0 inb_S3120x1024_S512x1024_1024_0 0 slices_S512x512_o0_0_S512x128⟩,
    ⟨Rect.unit ![3, 0, 0] ![1, 512, 128] inb_S4x1024x128_S1x512x128_3_0_0,
      quarter V c t 0 inb_S1024x1024_S512x1024_0_0 inb_S3120x1024_S512x1024_1024_0 384 slices_S512x512_o0_384_S512x128⟩,
    ⟨Rect.unit ![2, 0, 0] ![1, 512, 128] inb_S4x1024x128_S1x512x128_2_0_0,
      quarter V c t 0 inb_S1024x1024_S512x1024_0_0 inb_S3120x1024_S512x1024_1024_0 256 slices_S512x512_o0_256_S512x128⟩,
    ⟨Rect.unit ![1, 0, 0] ![1, 512, 128] inb_S4x1024x128_S1x512x128_1_0_0,
      quarter V c t 0 inb_S1024x1024_S512x1024_0_0 inb_S3120x1024_S512x1024_1024_0 128 slices_S512x512_o0_128_S512x128⟩,
    ⟨Rect.unit ![0, 0, 0] ![1, 512, 128] inb_S4x1024x128_S1x512x128_0_0_0,
      quarter V c t 0 inb_S1024x1024_S512x1024_0_0 inb_S3120x1024_S512x1024_1024_0 0 slices_S512x512_o0_0_S512x128⟩]

/-- Stores that do not reach an index leave there what the earlier ones left. -/
theorem skip {s : Shape} {e : EltTy} (y : s.Idx) (L' : List (View.Piece (Elt Ideal) s e)) :
    ∀ L : List (View.Piece (Elt Ideal) s e), (∀ p ∈ L, y ∉ p.1.set) → View.canon (L ++ L') y = View.canon L' y
  | [], _ => rfl
  | p :: L, h => (View.canon_cons_of_not_mem p (L ++ L') (h p (.head _))).trans
      (skip y L' L fun q hq => h q (.tail _ hq))

/-- Both halves' stores fill the whole buffer. -/
theorem upper_fills (c : Dev nD) (t : Fin cfg1.N) : Fills V c t 1024 (both V c t) := fun z hz => by
  by_cases hlo : (z 1).val < 512
  · refine Eq.trans ?_ (lower_fills V c t z hlo)
    have hn : ∀ j inb, z ∉ (Rect.unit (s := S4x1024x128) ![j, 512, 0] ![1, 512, 128] inb).set := fun j inb hm => by
      rw [Rect.mem_set_unit] at hm
      have : 512 ≤ (z 1).val := (hm 1).1
      omega
    refine skip z (lower V c t) (upper V c t) ?_
    exact List.forall_mem_cons.2 ⟨hn 3 inb_S4x1024x128_S1x512x128_3_512_0, List.forall_mem_cons.2 ⟨hn 2 inb_S4x1024x128_S1x512x128_2_512_0,
      List.forall_mem_cons.2 ⟨hn 1 inb_S4x1024x128_S1x512x128_1_512_0, List.forall_mem_cons.2 ⟨hn 0 inb_S4x1024x128_S1x512x128_0_512_0,
        List.forall_mem_nil _⟩⟩⟩⟩
  · refine View.canon_append_of_piecesOf (stash V c t) (lower V c t) (upper V c t) (upper_pieces V c t) z ?_
    have h0 : (z 0).val < 4 := (z 0).isLt
    obtain h | h | h | h : (z 0).val = 3 ∨ (z 0).val = 2 ∨ (z 0).val = 1 ∨ (z 0).val = 0 := by omega
    · exact ⟨_, .head _, in_block z 3 512 inb_S4x1024x128_S1x512x128_3_512_0 h (by omega) (by omega)⟩
    · exact ⟨_, .tail _ (.head _), in_block z 2 512 inb_S4x1024x128_S1x512x128_2_512_0 h (by omega) (by omega)⟩
    · exact ⟨_, .tail _ (.tail _ (.head _)), in_block z 1 512 inb_S4x1024x128_S1x512x128_1_512_0 h (by omega) (by omega)⟩
    · exact ⟨_, .tail _ (.tail _ (.tail _ (.head _))), in_block z 0 512 inb_S4x1024x128_S1x512x128_0_512_0 h (by omega) (by omega)⟩

/-- The chunks of the compression's columns. -/
theorem chunks (c : Dev nD) : (dat1 V c).arrAt 9 cfg1.N
    = fun i => chunkAt (V c main_arg0) (V c main_v11) (V c main_v10) (i 0) (i 1).val := by
  refine (dat1 V c).arrAt_eq_of_covers 9 _ (by decide +kernel) fun t hf y => ?_
  blk_simp
  rw [after1_9]
  unfold outsAt1
  frame_out
  canon_tiles x h
  · idx_vars x
    exact odd_piece V c t (fun u v => k1_pay394 k1_pay260 u v) (fun _ _ => rfl) 1024 (both V c t) (upper_fills V c t) 3 526 527 (by decide) (by decide) (by decide)
      inb_S4x1024x128_S1x32x128_3_526_0_s_1_16_1 inb_S4x1024x128_S1x32x128_3_527_0_s_1_16_1 x0 x1 _ _ rfl rfl (by blk_simp [idx1 t]; omega) (by blk_simp [idx1 t]; omega) (by decide)
  · idx_vars x
    exact even_piece V c t (fun u v => k1_pay393 k1_pay260 u v) (fun _ _ => rfl) 1024 (both V c t) (upper_fills V c t) 3 526 527 (by decide) (by decide) (by decide)
      inb_S4x1024x128_S1x32x128_3_526_0_s_1_16_1 inb_S4x1024x128_S1x32x128_3_527_0_s_1_16_1 x0 x1 _ _ rfl rfl (by blk_simp [idx1 t]; omega) (by blk_simp [idx1 t]; omega) (by decide)
  · idx_vars x
    exact odd_piece V c t (fun u v => k1_pay390 k1_pay260 u v) (fun _ _ => rfl) 1024 (both V c t) (upper_fills V c t) 3 524 525 (by decide) (by decide) (by decide)
      inb_S4x1024x128_S1x32x128_3_524_0_s_1_16_1 inb_S4x1024x128_S1x32x128_3_525_0_s_1_16_1 x0 x1 _ _ rfl rfl (by blk_simp [idx1 t]; omega) (by blk_simp [idx1 t]; omega) (by decide)
  · idx_vars x
    exact even_piece V c t (fun u v => k1_pay389 k1_pay260 u v) (fun _ _ => rfl) 1024 (both V c t) (upper_fills V c t) 3 524 525 (by decide) (by decide) (by decide)
      inb_S4x1024x128_S1x32x128_3_524_0_s_1_16_1 inb_S4x1024x128_S1x32x128_3_525_0_s_1_16_1 x0 x1 _ _ rfl rfl (by blk_simp [idx1 t]; omega) (by blk_simp [idx1 t]; omega) (by decide)
  · idx_vars x
    exact odd_piece V c t (fun u v => k1_pay386 k1_pay260 u v) (fun _ _ => rfl) 1024 (both V c t) (upper_fills V c t) 3 522 523 (by decide) (by decide) (by decide)
      inb_S4x1024x128_S1x32x128_3_522_0_s_1_16_1 inb_S4x1024x128_S1x32x128_3_523_0_s_1_16_1 x0 x1 _ _ rfl rfl (by blk_simp [idx1 t]; omega) (by blk_simp [idx1 t]; omega) (by decide)
  · idx_vars x
    exact even_piece V c t (fun u v => k1_pay385 k1_pay260 u v) (fun _ _ => rfl) 1024 (both V c t) (upper_fills V c t) 3 522 523 (by decide) (by decide) (by decide)
      inb_S4x1024x128_S1x32x128_3_522_0_s_1_16_1 inb_S4x1024x128_S1x32x128_3_523_0_s_1_16_1 x0 x1 _ _ rfl rfl (by blk_simp [idx1 t]; omega) (by blk_simp [idx1 t]; omega) (by decide)
  · idx_vars x
    exact odd_piece V c t (fun u v => k1_pay382 k1_pay260 u v) (fun _ _ => rfl) 1024 (both V c t) (upper_fills V c t) 3 520 521 (by decide) (by decide) (by decide)
      inb_S4x1024x128_S1x32x128_3_520_0_s_1_16_1 inb_S4x1024x128_S1x32x128_3_521_0_s_1_16_1 x0 x1 _ _ rfl rfl (by blk_simp [idx1 t]; omega) (by blk_simp [idx1 t]; omega) (by decide)
  · idx_vars x
    exact even_piece V c t (fun u v => k1_pay381 k1_pay260 u v) (fun _ _ => rfl) 1024 (both V c t) (upper_fills V c t) 3 520 521 (by decide) (by decide) (by decide)
      inb_S4x1024x128_S1x32x128_3_520_0_s_1_16_1 inb_S4x1024x128_S1x32x128_3_521_0_s_1_16_1 x0 x1 _ _ rfl rfl (by blk_simp [idx1 t]; omega) (by blk_simp [idx1 t]; omega) (by decide)
  · idx_vars x
    exact odd_piece V c t (fun u v => k1_pay378 k1_pay260 u v) (fun _ _ => rfl) 1024 (both V c t) (upper_fills V c t) 3 518 519 (by decide) (by decide) (by decide)
      inb_S4x1024x128_S1x32x128_3_518_0_s_1_16_1 inb_S4x1024x128_S1x32x128_3_519_0_s_1_16_1 x0 x1 _ _ rfl rfl (by blk_simp [idx1 t]; omega) (by blk_simp [idx1 t]; omega) (by decide)
  · idx_vars x
    exact even_piece V c t (fun u v => k1_pay377 k1_pay260 u v) (fun _ _ => rfl) 1024 (both V c t) (upper_fills V c t) 3 518 519 (by decide) (by decide) (by decide)
      inb_S4x1024x128_S1x32x128_3_518_0_s_1_16_1 inb_S4x1024x128_S1x32x128_3_519_0_s_1_16_1 x0 x1 _ _ rfl rfl (by blk_simp [idx1 t]; omega) (by blk_simp [idx1 t]; omega) (by decide)
  · idx_vars x
    exact odd_piece V c t (fun u v => k1_pay374 k1_pay260 u v) (fun _ _ => rfl) 1024 (both V c t) (upper_fills V c t) 3 516 517 (by decide) (by decide) (by decide)
      inb_S4x1024x128_S1x32x128_3_516_0_s_1_16_1 inb_S4x1024x128_S1x32x128_3_517_0_s_1_16_1 x0 x1 _ _ rfl rfl (by blk_simp [idx1 t]; omega) (by blk_simp [idx1 t]; omega) (by decide)
  · idx_vars x
    exact even_piece V c t (fun u v => k1_pay373 k1_pay260 u v) (fun _ _ => rfl) 1024 (both V c t) (upper_fills V c t) 3 516 517 (by decide) (by decide) (by decide)
      inb_S4x1024x128_S1x32x128_3_516_0_s_1_16_1 inb_S4x1024x128_S1x32x128_3_517_0_s_1_16_1 x0 x1 _ _ rfl rfl (by blk_simp [idx1 t]; omega) (by blk_simp [idx1 t]; omega) (by decide)
  · idx_vars x
    exact odd_piece V c t (fun u v => k1_pay370 k1_pay260 (k1_pay366 u) (k1_pay367 v) 64#32) (fun _ _ => rfl) 1024 (both V c t) (upper_fills V c t) 3 514 515 (by decide) (by decide) (by decide)
      inb_S4x1024x128_S1x32x128_3_514_0_s_1_16_1 inb_S4x1024x128_S1x32x128_3_515_0_s_1_16_1 x0 x1 _ _ rfl rfl (by blk_simp [idx1 t]; omega) (by blk_simp [idx1 t]; omega) (by decide)
  · idx_vars x
    exact even_piece V c t (fun u v => k1_pay369 (k1_pay368 k1_pay260 u v)) (fun _ _ => rfl) 1024 (both V c t) (upper_fills V c t) 3 514 515 (by decide) (by decide) (by decide)
      inb_S4x1024x128_S1x32x128_3_514_0_s_1_16_1 inb_S4x1024x128_S1x32x128_3_515_0_s_1_16_1 x0 x1 _ _ rfl rfl (by blk_simp [idx1 t]; omega) (by blk_simp [idx1 t]; omega) (by decide)
  · idx_vars x
    exact odd_piece V c t (fun u v => k1_pay365 k1_pay260 u v) (fun _ _ => rfl) 1024 (both V c t) (upper_fills V c t) 3 512 513 (by decide) (by decide) (by decide)
      inb_S4x1024x128_S1x32x128_3_512_0_s_1_16_1 inb_S4x1024x128_S1x32x128_3_513_0_s_1_16_1 x0 x1 _ _ rfl rfl (by blk_simp [idx1 t]; omega) (by blk_simp [idx1 t]; omega) (by decide)
  · idx_vars x
    exact even_piece V c t (fun u v => k1_pay364 k1_pay260 u v) (fun _ _ => rfl) 1024 (both V c t) (upper_fills V c t) 3 512 513 (by decide) (by decide) (by decide)
      inb_S4x1024x128_S1x32x128_3_512_0_s_1_16_1 inb_S4x1024x128_S1x32x128_3_513_0_s_1_16_1 x0 x1 _ _ rfl rfl (by blk_simp [idx1 t]; omega) (by blk_simp [idx1 t]; omega) (by decide)
  · idx_vars x
    exact odd_piece V c t (fun u v => k1_pay361 k1_pay260 (k1_pay358 u) v) (fun _ _ => rfl) 1024 (both V c t) (upper_fills V c t) 2 526 527 (by decide) (by decide) (by decide)
      inb_S4x1024x128_S1x32x128_2_526_0_s_1_16_1 inb_S4x1024x128_S1x32x128_2_527_0_s_1_16_1 x0 x1 _ _ rfl rfl (by blk_simp [idx1 t]; omega) (by blk_simp [idx1 t]; omega) (by decide)
  · idx_vars x
    exact even_piece V c t (fun u v => k1_pay360 k1_pay260 (k1_pay358 u) v) (fun _ _ => rfl) 1024 (both V c t) (upper_fills V c t) 2 526 527 (by decide) (by decide) (by decide)
      inb_S4x1024x128_S1x32x128_2_526_0_s_1_16_1 inb_S4x1024x128_S1x32x128_2_527_0_s_1_16_1 x0 x1 _ _ rfl rfl (by blk_simp [idx1 t]; omega) (by blk_simp [idx1 t]; omega) (by decide)
  · idx_vars x
    exact odd_piece V c t (fun u v => k1_pay357 k1_pay260 u v) (fun _ _ => rfl) 1024 (both V c t) (upper_fills V c t) 2 524 525 (by decide) (by decide) (by decide)
      inb_S4x1024x128_S1x32x128_2_524_0_s_1_16_1 inb_S4x1024x128_S1x32x128_2_525_0_s_1_16_1 x0 x1 _ _ rfl rfl (by blk_simp [idx1 t]; omega) (by blk_simp [idx1 t]; omega) (by decide)
  · idx_vars x
    exact even_piece V c t (fun u v => k1_pay356 k1_pay260 u v) (fun _ _ => rfl) 1024 (both V c t) (upper_fills V c t) 2 524 525 (by decide) (by decide) (by decide)
      inb_S4x1024x128_S1x32x128_2_524_0_s_1_16_1 inb_S4x1024x128_S1x32x128_2_525_0_s_1_16_1 x0 x1 _ _ rfl rfl (by blk_simp [idx1 t]; omega) (by blk_simp [idx1 t]; omega) (by decide)
  · idx_vars x
    exact odd_piece V c t (fun u v => k1_pay353 k1_pay260 u v) (fun _ _ => rfl) 1024 (both V c t) (upper_fills V c t) 2 522 523 (by decide) (by decide) (by decide)
      inb_S4x1024x128_S1x32x128_2_522_0_s_1_16_1 inb_S4x1024x128_S1x32x128_2_523_0_s_1_16_1 x0 x1 _ _ rfl rfl (by blk_simp [idx1 t]; omega) (by blk_simp [idx1 t]; omega) (by decide)
  · idx_vars x
    exact even_piece V c t (fun u v => k1_pay352 k1_pay260 u v) (fun _ _ => rfl) 1024 (both V c t) (upper_fills V c t) 2 522 523 (by decide) (by decide) (by decide)
      inb_S4x1024x128_S1x32x128_2_522_0_s_1_16_1 inb_S4x1024x128_S1x32x128_2_523_0_s_1_16_1 x0 x1 _ _ rfl rfl (by blk_simp [idx1 t]; omega) (by blk_simp [idx1 t]; omega) (by decide)
  · idx_vars x
    exact odd_piece V c t (fun u v => k1_pay349 k1_pay260 u v) (fun _ _ => rfl) 1024 (both V c t) (upper_fills V c t) 2 520 521 (by decide) (by decide) (by decide)
      inb_S4x1024x128_S1x32x128_2_520_0_s_1_16_1 inb_S4x1024x128_S1x32x128_2_521_0_s_1_16_1 x0 x1 _ _ rfl rfl (by blk_simp [idx1 t]; omega) (by blk_simp [idx1 t]; omega) (by decide)
  · idx_vars x
    exact even_piece V c t (fun u v => k1_pay348 k1_pay260 u v) (fun _ _ => rfl) 1024 (both V c t) (upper_fills V c t) 2 520 521 (by decide) (by decide) (by decide)
      inb_S4x1024x128_S1x32x128_2_520_0_s_1_16_1 inb_S4x1024x128_S1x32x128_2_521_0_s_1_16_1 x0 x1 _ _ rfl rfl (by blk_simp [idx1 t]; omega) (by blk_simp [idx1 t]; omega) (by decide)
  · idx_vars x
    exact odd_piece V c t (fun u v => k1_pay345 k1_pay260 u v) (fun _ _ => rfl) 1024 (both V c t) (upper_fills V c t) 2 518 519 (by decide) (by decide) (by decide)
      inb_S4x1024x128_S1x32x128_2_518_0_s_1_16_1 inb_S4x1024x128_S1x32x128_2_519_0_s_1_16_1 x0 x1 _ _ rfl rfl (by blk_simp [idx1 t]; omega) (by blk_simp [idx1 t]; omega) (by decide)
  · idx_vars x
    exact even_piece V c t (fun u v => k1_pay344 k1_pay260 u v) (fun _ _ => rfl) 1024 (both V c t) (upper_fills V c t) 2 518 519 (by decide) (by decide) (by decide)
      inb_S4x1024x128_S1x32x128_2_518_0_s_1_16_1 inb_S4x1024x128_S1x32x128_2_519_0_s_1_16_1 x0 x1 _ _ rfl rfl (by blk_simp [idx1 t]; omega) (by blk_simp [idx1 t]; omega) (by decide)
  · idx_vars x
    exact odd_piece V c t (fun u v => k1_pay341 (k1_pay339 k1_pay260 u v)) (fun _ _ => rfl) 1024 (both V c t) (upper_fills V c t) 2 516 517 (by decide) (by decide) (by decide)
      inb_S4x1024x128_S1x32x128_2_516_0_s_1_16_1 inb_S4x1024x128_S1x32x128_2_517_0_s_1_16_1 x0 x1 _ _ rfl rfl (by blk_simp [idx1 t]; omega) (by blk_simp [idx1 t]; omega) (by decide)
  · idx_vars x
    exact even_piece V c t (fun u v => k1_pay340 (k1_pay338 k1_pay260 u v)) (fun _ _ => rfl) 1024 (both V c t) (upper_fills V c t) 2 516 517 (by decide) (by decide) (by decide)
      inb_S4x1024x128_S1x32x128_2_516_0_s_1_16_1 inb_S4x1024x128_S1x32x128_2_517_0_s_1_16_1 x0 x1 _ _ rfl rfl (by blk_simp [idx1 t]; omega) (by blk_simp [idx1 t]; omega) (by decide)
  · idx_vars x
    exact odd_piece V c t (fun u v => k1_pay335 k1_pay260 u v) (fun _ _ => rfl) 1024 (both V c t) (upper_fills V c t) 2 514 515 (by decide) (by decide) (by decide)
      inb_S4x1024x128_S1x32x128_2_514_0_s_1_16_1 inb_S4x1024x128_S1x32x128_2_515_0_s_1_16_1 x0 x1 _ _ rfl rfl (by blk_simp [idx1 t]; omega) (by blk_simp [idx1 t]; omega) (by decide)
  · idx_vars x
    exact even_piece V c t (fun u v => k1_pay334 k1_pay260 u v) (fun _ _ => rfl) 1024 (both V c t) (upper_fills V c t) 2 514 515 (by decide) (by decide) (by decide)
      inb_S4x1024x128_S1x32x128_2_514_0_s_1_16_1 inb_S4x1024x128_S1x32x128_2_515_0_s_1_16_1 x0 x1 _ _ rfl rfl (by blk_simp [idx1 t]; omega) (by blk_simp [idx1 t]; omega) (by decide)
  · idx_vars x
    exact odd_piece V c t (fun u v => k1_pay331 k1_pay260 (k1_pay328 u) v) (fun _ _ => rfl) 1024 (both V c t) (upper_fills V c t) 2 512 513 (by decide) (by decide) (by decide)
      inb_S4x1024x128_S1x32x128_2_512_0_s_1_16_1 inb_S4x1024x128_S1x32x128_2_513_0_s_1_16_1 x0 x1 _ _ rfl rfl (by blk_simp [idx1 t]; omega) (by blk_simp [idx1 t]; omega) (by decide)
  · idx_vars x
    exact even_piece V c t (fun u v => k1_pay330 k1_pay260 (k1_pay328 u) v) (fun _ _ => rfl) 1024 (both V c t) (upper_fills V c t) 2 512 513 (by decide) (by decide) (by decide)
      inb_S4x1024x128_S1x32x128_2_512_0_s_1_16_1 inb_S4x1024x128_S1x32x128_2_513_0_s_1_16_1 x0 x1 _ _ rfl rfl (by blk_simp [idx1 t]; omega) (by blk_simp [idx1 t]; omega) (by decide)
  · idx_vars x
    exact odd_piece V c t (fun u v => k1_pay327 k1_pay260 u v) (fun _ _ => rfl) 1024 (both V c t) (upper_fills V c t) 1 526 527 (by decide) (by decide) (by decide)
      inb_S4x1024x128_S1x32x128_1_526_0_s_1_16_1 inb_S4x1024x128_S1x32x128_1_527_0_s_1_16_1 x0 x1 _ _ rfl rfl (by blk_simp [idx1 t]; omega) (by blk_simp [idx1 t]; omega) (by decide)
  · idx_vars x
    exact even_piece V c t (fun u v => k1_pay326 k1_pay260 u v) (fun _ _ => rfl) 1024 (both V c t) (upper_fills V c t) 1 526 527 (by decide) (by decide) (by decide)
      inb_S4x1024x128_S1x32x128_1_526_0_s_1_16_1 inb_S4x1024x128_S1x32x128_1_527_0_s_1_16_1 x0 x1 _ _ rfl rfl (by blk_simp [idx1 t]; omega) (by blk_simp [idx1 t]; omega) (by decide)
  · idx_vars x
    exact odd_piece V c t (fun u v => k1_pay323 k1_pay260 u v) (fun _ _ => rfl) 1024 (both V c t) (upper_fills V c t) 1 524 525 (by decide) (by decide) (by decide)
      inb_S4x1024x128_S1x32x128_1_524_0_s_1_16_1 inb_S4x1024x128_S1x32x128_1_525_0_s_1_16_1 x0 x1 _ _ rfl rfl (by blk_simp [idx1 t]; omega) (by blk_simp [idx1 t]; omega) (by decide)
  · idx_vars x
    exact even_piece V c t (fun u v => k1_pay322 k1_pay260 u v) (fun _ _ => rfl) 1024 (both V c t) (upper_fills V c t) 1 524 525 (by decide) (by decide) (by decide)
      inb_S4x1024x128_S1x32x128_1_524_0_s_1_16_1 inb_S4x1024x128_S1x32x128_1_525_0_s_1_16_1 x0 x1 _ _ rfl rfl (by blk_simp [idx1 t]; omega) (by blk_simp [idx1 t]; omega) (by decide)
  · idx_vars x
    exact odd_piece V c t (fun u v => k1_pay319 k1_pay260 u v) (fun _ _ => rfl) 1024 (both V c t) (upper_fills V c t) 1 522 523 (by decide) (by decide) (by decide)
      inb_S4x1024x128_S1x32x128_1_522_0_s_1_16_1 inb_S4x1024x128_S1x32x128_1_523_0_s_1_16_1 x0 x1 _ _ rfl rfl (by blk_simp [idx1 t]; omega) (by blk_simp [idx1 t]; omega) (by decide)
  · idx_vars x
    exact even_piece V c t (fun u v => k1_pay318 k1_pay260 u v) (fun _ _ => rfl) 1024 (both V c t) (upper_fills V c t) 1 522 523 (by decide) (by decide) (by decide)
      inb_S4x1024x128_S1x32x128_1_522_0_s_1_16_1 inb_S4x1024x128_S1x32x128_1_523_0_s_1_16_1 x0 x1 _ _ rfl rfl (by blk_simp [idx1 t]; omega) (by blk_simp [idx1 t]; omega) (by decide)
  · idx_vars x
    exact odd_piece V c t (fun u v => k1_pay315 k1_pay260 u v) (fun _ _ => rfl) 1024 (both V c t) (upper_fills V c t) 1 520 521 (by decide) (by decide) (by decide)
      inb_S4x1024x128_S1x32x128_1_520_0_s_1_16_1 inb_S4x1024x128_S1x32x128_1_521_0_s_1_16_1 x0 x1 _ _ rfl rfl (by blk_simp [idx1 t]; omega) (by blk_simp [idx1 t]; omega) (by decide)
  · idx_vars x
    exact even_piece V c t (fun u v => k1_pay314 k1_pay260 u v) (fun _ _ => rfl) 1024 (both V c t) (upper_fills V c t) 1 520 521 (by decide) (by decide) (by decide)
      inb_S4x1024x128_S1x32x128_1_520_0_s_1_16_1 inb_S4x1024x128_S1x32x128_1_521_0_s_1_16_1 x0 x1 _ _ rfl rfl (by blk_simp [idx1 t]; omega) (by blk_simp [idx1 t]; omega) (by decide)
  · idx_vars x
    exact odd_piece V c t (fun u v => k1_pay311 (k1_pay309 k1_pay260 u v)) (fun _ _ => rfl) 1024 (both V c t) (upper_fills V c t) 1 518 519 (by decide) (by decide) (by decide)
      inb_S4x1024x128_S1x32x128_1_518_0_s_1_16_1 inb_S4x1024x128_S1x32x128_1_519_0_s_1_16_1 x0 x1 _ _ rfl rfl (by blk_simp [idx1 t]; omega) (by blk_simp [idx1 t]; omega) (by decide)
  · idx_vars x
    exact even_piece V c t (fun u v => k1_pay310 k1_pay260 u v) (fun _ _ => rfl) 1024 (both V c t) (upper_fills V c t) 1 518 519 (by decide) (by decide) (by decide)
      inb_S4x1024x128_S1x32x128_1_518_0_s_1_16_1 inb_S4x1024x128_S1x32x128_1_519_0_s_1_16_1 x0 x1 _ _ rfl rfl (by blk_simp [idx1 t]; omega) (by blk_simp [idx1 t]; omega) (by decide)
  · idx_vars x
    exact odd_piece V c t (fun u v => k1_pay306 k1_pay260 u v) (fun _ _ => rfl) 1024 (both V c t) (upper_fills V c t) 1 516 517 (by decide) (by decide) (by decide)
      inb_S4x1024x128_S1x32x128_1_516_0_s_1_16_1 inb_S4x1024x128_S1x32x128_1_517_0_s_1_16_1 x0 x1 _ _ rfl rfl (by blk_simp [idx1 t]; omega) (by blk_simp [idx1 t]; omega) (by decide)
  · idx_vars x
    exact even_piece V c t (fun u v => k1_pay305 k1_pay260 u v) (fun _ _ => rfl) 1024 (both V c t) (upper_fills V c t) 1 516 517 (by decide) (by decide) (by decide)
      inb_S4x1024x128_S1x32x128_1_516_0_s_1_16_1 inb_S4x1024x128_S1x32x128_1_517_0_s_1_16_1 x0 x1 _ _ rfl rfl (by blk_simp [idx1 t]; omega) (by blk_simp [idx1 t]; omega) (by decide)
  · idx_vars x
    exact odd_piece V c t (fun u v => k1_pay302 k1_pay260 (k1_pay299 u) (k1_pay300 v)) (fun _ _ => rfl) 1024 (both V c t) (upper_fills V c t) 1 514 515 (by decide) (by decide) (by decide)
      inb_S4x1024x128_S1x32x128_1_514_0_s_1_16_1 inb_S4x1024x128_S1x32x128_1_515_0_s_1_16_1 x0 x1 _ _ rfl rfl (by blk_simp [idx1 t]; omega) (by blk_simp [idx1 t]; omega) (by decide)
  · idx_vars x
    exact even_piece V c t (fun u v => k1_pay301 k1_pay260 (k1_pay299 u) (k1_pay300 v)) (fun _ _ => rfl) 1024 (both V c t) (upper_fills V c t) 1 514 515 (by decide) (by decide) (by decide)
      inb_S4x1024x128_S1x32x128_1_514_0_s_1_16_1 inb_S4x1024x128_S1x32x128_1_515_0_s_1_16_1 x0 x1 _ _ rfl rfl (by blk_simp [idx1 t]; omega) (by blk_simp [idx1 t]; omega) (by decide)
  · idx_vars x
    exact odd_piece V c t (fun u v => k1_pay298 k1_pay260 u v) (fun _ _ => rfl) 1024 (both V c t) (upper_fills V c t) 1 512 513 (by decide) (by decide) (by decide)
      inb_S4x1024x128_S1x32x128_1_512_0_s_1_16_1 inb_S4x1024x128_S1x32x128_1_513_0_s_1_16_1 x0 x1 _ _ rfl rfl (by blk_simp [idx1 t]; omega) (by blk_simp [idx1 t]; omega) (by decide)
  · idx_vars x
    exact even_piece V c t (fun u v => k1_pay297 k1_pay260 u v) (fun _ _ => rfl) 1024 (both V c t) (upper_fills V c t) 1 512 513 (by decide) (by decide) (by decide)
      inb_S4x1024x128_S1x32x128_1_512_0_s_1_16_1 inb_S4x1024x128_S1x32x128_1_513_0_s_1_16_1 x0 x1 _ _ rfl rfl (by blk_simp [idx1 t]; omega) (by blk_simp [idx1 t]; omega) (by decide)
  · idx_vars x
    exact odd_piece V c t (fun u v => k1_pay294 k1_pay260 u v) (fun _ _ => rfl) 1024 (both V c t) (upper_fills V c t) 0 526 527 (by decide) (by decide) (by decide)
      inb_S4x1024x128_S1x32x128_0_526_0_s_1_16_1 inb_S4x1024x128_S1x32x128_0_527_0_s_1_16_1 x0 x1 _ _ rfl rfl (by blk_simp [idx1 t]; omega) (by blk_simp [idx1 t]; omega) (by decide)
  · idx_vars x
    exact even_piece V c t (fun u v => k1_pay293 k1_pay260 u v) (fun _ _ => rfl) 1024 (both V c t) (upper_fills V c t) 0 526 527 (by decide) (by decide) (by decide)
      inb_S4x1024x128_S1x32x128_0_526_0_s_1_16_1 inb_S4x1024x128_S1x32x128_0_527_0_s_1_16_1 x0 x1 _ _ rfl rfl (by blk_simp [idx1 t]; omega) (by blk_simp [idx1 t]; omega) (by decide)
  · idx_vars x
    exact odd_piece V c t (fun u v => k1_pay290 k1_pay260 u v) (fun _ _ => rfl) 1024 (both V c t) (upper_fills V c t) 0 524 525 (by decide) (by decide) (by decide)
      inb_S4x1024x128_S1x32x128_0_524_0_s_1_16_1 inb_S4x1024x128_S1x32x128_0_525_0_s_1_16_1 x0 x1 _ _ rfl rfl (by blk_simp [idx1 t]; omega) (by blk_simp [idx1 t]; omega) (by decide)
  · idx_vars x
    exact even_piece V c t (fun u v => k1_pay289 k1_pay260 u v) (fun _ _ => rfl) 1024 (both V c t) (upper_fills V c t) 0 524 525 (by decide) (by decide) (by decide)
      inb_S4x1024x128_S1x32x128_0_524_0_s_1_16_1 inb_S4x1024x128_S1x32x128_0_525_0_s_1_16_1 x0 x1 _ _ rfl rfl (by blk_simp [idx1 t]; omega) (by blk_simp [idx1 t]; omega) (by decide)
  · idx_vars x
    exact odd_piece V c t (fun u v => k1_pay286 k1_pay260 u v) (fun _ _ => rfl) 1024 (both V c t) (upper_fills V c t) 0 522 523 (by decide) (by decide) (by decide)
      inb_S4x1024x128_S1x32x128_0_522_0_s_1_16_1 inb_S4x1024x128_S1x32x128_0_523_0_s_1_16_1 x0 x1 _ _ rfl rfl (by blk_simp [idx1 t]; omega) (by blk_simp [idx1 t]; omega) (by decide)
  · idx_vars x
    exact even_piece V c t (fun u v => k1_pay285 k1_pay260 u v) (fun _ _ => rfl) 1024 (both V c t) (upper_fills V c t) 0 522 523 (by decide) (by decide) (by decide)
      inb_S4x1024x128_S1x32x128_0_522_0_s_1_16_1 inb_S4x1024x128_S1x32x128_0_523_0_s_1_16_1 x0 x1 _ _ rfl rfl (by blk_simp [idx1 t]; omega) (by blk_simp [idx1 t]; omega) (by decide)
  · idx_vars x
    exact odd_piece V c t (fun u v => k1_pay282 (k1_pay280 k1_pay260 u v)) (fun _ _ => rfl) 1024 (both V c t) (upper_fills V c t) 0 520 521 (by decide) (by decide) (by decide)
      inb_S4x1024x128_S1x32x128_0_520_0_s_1_16_1 inb_S4x1024x128_S1x32x128_0_521_0_s_1_16_1 x0 x1 _ _ rfl rfl (by blk_simp [idx1 t]; omega) (by blk_simp [idx1 t]; omega) (by decide)
  · idx_vars x
    exact even_piece V c t (fun u v => k1_pay281 k1_pay260 u v) (fun _ _ => rfl) 1024 (both V c t) (upper_fills V c t) 0 520 521 (by decide) (by decide) (by decide)
      inb_S4x1024x128_S1x32x128_0_520_0_s_1_16_1 inb_S4x1024x128_S1x32x128_0_521_0_s_1_16_1 x0 x1 _ _ rfl rfl (by blk_simp [idx1 t]; omega) (by blk_simp [idx1 t]; omega) (by decide)
  · idx_vars x
    exact odd_piece V c t (fun u v => k1_pay277 k1_pay260 u v) (fun _ _ => rfl) 1024 (both V c t) (upper_fills V c t) 0 518 519 (by decide) (by decide) (by decide)
      inb_S4x1024x128_S1x32x128_0_518_0_s_1_16_1 inb_S4x1024x128_S1x32x128_0_519_0_s_1_16_1 x0 x1 _ _ rfl rfl (by blk_simp [idx1 t]; omega) (by blk_simp [idx1 t]; omega) (by decide)
  · idx_vars x
    exact even_piece V c t (fun u v => k1_pay276 k1_pay260 u v) (fun _ _ => rfl) 1024 (both V c t) (upper_fills V c t) 0 518 519 (by decide) (by decide) (by decide)
      inb_S4x1024x128_S1x32x128_0_518_0_s_1_16_1 inb_S4x1024x128_S1x32x128_0_519_0_s_1_16_1 x0 x1 _ _ rfl rfl (by blk_simp [idx1 t]; omega) (by blk_simp [idx1 t]; omega) (by decide)
  · idx_vars x
    exact odd_piece V c t (fun u v => k1_pay273 k1_pay260 (k1_pay269 u) (k1_pay270 v)) (fun _ _ => rfl) 1024 (both V c t) (upper_fills V c t) 0 516 517 (by decide) (by decide) (by decide)
      inb_S4x1024x128_S1x32x128_0_516_0_s_1_16_1 inb_S4x1024x128_S1x32x128_0_517_0_s_1_16_1 x0 x1 _ _ rfl rfl (by blk_simp [idx1 t]; omega) (by blk_simp [idx1 t]; omega) (by decide)
  · idx_vars x
    exact even_piece V c t (fun u v => k1_pay272 k1_pay260 (k1_pay269 u) (k1_pay271 v)) (fun _ _ => rfl) 1024 (both V c t) (upper_fills V c t) 0 516 517 (by decide) (by decide) (by decide)
      inb_S4x1024x128_S1x32x128_0_516_0_s_1_16_1 inb_S4x1024x128_S1x32x128_0_517_0_s_1_16_1 x0 x1 _ _ rfl rfl (by blk_simp [idx1 t]; omega) (by blk_simp [idx1 t]; omega) (by decide)
  · idx_vars x
    exact odd_piece V c t (fun u v => k1_pay268 k1_pay260 u v) (fun _ _ => rfl) 1024 (both V c t) (upper_fills V c t) 0 514 515 (by decide) (by decide) (by decide)
      inb_S4x1024x128_S1x32x128_0_514_0_s_1_16_1 inb_S4x1024x128_S1x32x128_0_515_0_s_1_16_1 x0 x1 _ _ rfl rfl (by blk_simp [idx1 t]; omega) (by blk_simp [idx1 t]; omega) (by decide)
  · idx_vars x
    exact even_piece V c t (fun u v => k1_pay267 k1_pay260 u v) (fun _ _ => rfl) 1024 (both V c t) (upper_fills V c t) 0 514 515 (by decide) (by decide) (by decide)
      inb_S4x1024x128_S1x32x128_0_514_0_s_1_16_1 inb_S4x1024x128_S1x32x128_0_515_0_s_1_16_1 x0 x1 _ _ rfl rfl (by blk_simp [idx1 t]; omega) (by blk_simp [idx1 t]; omega) (by decide)
  · idx_vars x
    exact odd_piece V c t (fun u v => k1_pay264 k1_pay260 u v) (fun _ _ => rfl) 1024 (both V c t) (upper_fills V c t) 0 512 513 (by decide) (by decide) (by decide)
      inb_S4x1024x128_S1x32x128_0_512_0_s_1_16_1 inb_S4x1024x128_S1x32x128_0_513_0_s_1_16_1 x0 x1 _ _ rfl rfl (by blk_simp [idx1 t]; omega) (by blk_simp [idx1 t]; omega) (by decide)
  · idx_vars x
    exact even_piece V c t (fun u v => k1_pay263 k1_pay260 u v) (fun _ _ => rfl) 1024 (both V c t) (upper_fills V c t) 0 512 513 (by decide) (by decide) (by decide)
      inb_S4x1024x128_S1x32x128_0_512_0_s_1_16_1 inb_S4x1024x128_S1x32x128_0_513_0_s_1_16_1 x0 x1 _ _ rfl rfl (by blk_simp [idx1 t]; omega) (by blk_simp [idx1 t]; omega) (by decide)
  · idx_vars x
    exact odd_piece V c t (fun u v => k1_pay182 k1_pay46 (k1_pay178 v) (k1_pay180 u)) (fun _ _ => rfl) 512 (lower V c t) (lower_fills V c t) 3 14 15 (by decide) (by decide) (by decide)
      inb_S4x1024x128_S1x32x128_3_14_0_s_1_16_1 inb_S4x1024x128_S1x32x128_3_15_0_s_1_16_1 x0 x1 _ _ rfl rfl (by blk_simp [idx1 t]; omega) (by blk_simp [idx1 t]; omega) (by decide)
  · idx_vars x
    exact even_piece V c t (fun u v => k1_pay181 (k1_pay179 k1_pay46 u v)) (fun _ _ => rfl) 512 (lower V c t) (lower_fills V c t) 3 14 15 (by decide) (by decide) (by decide)
      inb_S4x1024x128_S1x32x128_3_14_0_s_1_16_1 inb_S4x1024x128_S1x32x128_3_15_0_s_1_16_1 x0 x1 _ _ rfl rfl (by blk_simp [idx1 t]; omega) (by blk_simp [idx1 t]; omega) (by decide)
  · idx_vars x
    exact odd_piece V c t (fun u v => k1_pay176 k1_pay46 u v) (fun _ _ => rfl) 512 (lower V c t) (lower_fills V c t) 3 12 13 (by decide) (by decide) (by decide)
      inb_S4x1024x128_S1x32x128_3_12_0_s_1_16_1 inb_S4x1024x128_S1x32x128_3_13_0_s_1_16_1 x0 x1 _ _ rfl rfl (by blk_simp [idx1 t]; omega) (by blk_simp [idx1 t]; omega) (by decide)
  · idx_vars x
    exact even_piece V c t (fun u v => k1_pay175 k1_pay46 u v) (fun _ _ => rfl) 512 (lower V c t) (lower_fills V c t) 3 12 13 (by decide) (by decide) (by decide)
      inb_S4x1024x128_S1x32x128_3_12_0_s_1_16_1 inb_S4x1024x128_S1x32x128_3_13_0_s_1_16_1 x0 x1 _ _ rfl rfl (by blk_simp [idx1 t]; omega) (by blk_simp [idx1 t]; omega) (by decide)
  · idx_vars x
    exact odd_piece V c t (fun u v => k1_pay172 k1_pay46 (k1_pay169 u) v) (fun _ _ => rfl) 512 (lower V c t) (lower_fills V c t) 3 10 11 (by decide) (by decide) (by decide)
      inb_S4x1024x128_S1x32x128_3_10_0_s_1_16_1 inb_S4x1024x128_S1x32x128_3_11_0_s_1_16_1 x0 x1 _ _ rfl rfl (by blk_simp [idx1 t]; omega) (by blk_simp [idx1 t]; omega) (by decide)
  · idx_vars x
    exact even_piece V c t (fun u v => k1_pay171 k1_pay46 (k1_pay169 u) v) (fun _ _ => rfl) 512 (lower V c t) (lower_fills V c t) 3 10 11 (by decide) (by decide) (by decide)
      inb_S4x1024x128_S1x32x128_3_10_0_s_1_16_1 inb_S4x1024x128_S1x32x128_3_11_0_s_1_16_1 x0 x1 _ _ rfl rfl (by blk_simp [idx1 t]; omega) (by blk_simp [idx1 t]; omega) (by decide)
  · idx_vars x
    exact odd_piece V c t (fun u v => k1_pay168 k1_pay46 u v) (fun _ _ => rfl) 512 (lower V c t) (lower_fills V c t) 3 8 9 (by decide) (by decide) (by decide)
      inb_S4x1024x128_S1x32x128_3_8_0_s_1_16_1 inb_S4x1024x128_S1x32x128_3_9_0_s_1_16_1 x0 x1 _ _ rfl rfl (by blk_simp [idx1 t]; omega) (by blk_simp [idx1 t]; omega) (by decide)
  · idx_vars x
    exact even_piece V c t (fun u v => k1_pay167 k1_pay46 u v) (fun _ _ => rfl) 512 (lower V c t) (lower_fills V c t) 3 8 9 (by decide) (by decide) (by decide)
      inb_S4x1024x128_S1x32x128_3_8_0_s_1_16_1 inb_S4x1024x128_S1x32x128_3_9_0_s_1_16_1 x0 x1 _ _ rfl rfl (by blk_simp [idx1 t]; omega) (by blk_simp [idx1 t]; omega) (by decide)
  · idx_vars x
    exact odd_piece V c t (fun u v => k1_pay164 k1_pay46 u v) (fun _ _ => rfl) 512 (lower V c t) (lower_fills V c t) 3 6 7 (by decide) (by decide) (by decide)
      inb_S4x1024x128_S1x32x128_3_6_0_s_1_16_1 inb_S4x1024x128_S1x32x128_3_7_0_s_1_16_1 x0 x1 _ _ rfl rfl (by blk_simp [idx1 t]; omega) (by blk_simp [idx1 t]; omega) (by decide)
  · idx_vars x
    exact even_piece V c t (fun u v => k1_pay163 k1_pay46 u v) (fun _ _ => rfl) 512 (lower V c t) (lower_fills V c t) 3 6 7 (by decide) (by decide) (by decide)
      inb_S4x1024x128_S1x32x128_3_6_0_s_1_16_1 inb_S4x1024x128_S1x32x128_3_7_0_s_1_16_1 x0 x1 _ _ rfl rfl (by blk_simp [idx1 t]; omega) (by blk_simp [idx1 t]; omega) (by decide)
  · idx_vars x
    exact odd_piece V c t (fun u v => k1_pay160 k1_pay46 u v) (fun _ _ => rfl) 512 (lower V c t) (lower_fills V c t) 3 4 5 (by decide) (by decide) (by decide)
      inb_S4x1024x128_S1x32x128_3_4_0_s_1_16_1 inb_S4x1024x128_S1x32x128_3_5_0_s_1_16_1 x0 x1 _ _ rfl rfl (by blk_simp [idx1 t]; omega) (by blk_simp [idx1 t]; omega) (by decide)
  · idx_vars x
    exact even_piece V c t (fun u v => k1_pay159 k1_pay46 u v) (fun _ _ => rfl) 512 (lower V c t) (lower_fills V c t) 3 4 5 (by decide) (by decide) (by decide)
      inb_S4x1024x128_S1x32x128_3_4_0_s_1_16_1 inb_S4x1024x128_S1x32x128_3_5_0_s_1_16_1 x0 x1 _ _ rfl rfl (by blk_simp [idx1 t]; omega) (by blk_simp [idx1 t]; omega) (by decide)
  · idx_vars x
    exact odd_piece V c t (fun u v => k1_pay156 k1_pay46 u v) (fun _ _ => rfl) 512 (lower V c t) (lower_fills V c t) 3 2 3 (by decide) (by decide) (by decide)
      inb_S4x1024x128_S1x32x128_3_2_0_s_1_16_1 inb_S4x1024x128_S1x32x128_3_3_0_s_1_16_1 x0 x1 _ _ rfl rfl (by blk_simp [idx1 t]; omega) (by blk_simp [idx1 t]; omega) (by decide)
  · idx_vars x
    exact even_piece V c t (fun u v => k1_pay155 k1_pay46 u v) (fun _ _ => rfl) 512 (lower V c t) (lower_fills V c t) 3 2 3 (by decide) (by decide) (by decide)
      inb_S4x1024x128_S1x32x128_3_2_0_s_1_16_1 inb_S4x1024x128_S1x32x128_3_3_0_s_1_16_1 x0 x1 _ _ rfl rfl (by blk_simp [idx1 t]; omega) (by blk_simp [idx1 t]; omega) (by decide)
  · idx_vars x
    exact odd_piece V c t (fun u v => k1_pay152 (k1_pay150 k1_pay46 u v)) (fun _ _ => rfl) 512 (lower V c t) (lower_fills V c t) 3 0 1 (by decide) (by decide) (by decide)
      inb_S4x1024x128_S1x32x128_3_0_0_s_1_16_1 inb_S4x1024x128_S1x32x128_3_1_0_s_1_16_1 x0 x1 _ _ rfl rfl (by blk_simp [idx1 t]; omega) (by blk_simp [idx1 t]; omega) (by decide)
  · idx_vars x
    exact even_piece V c t (fun u v => k1_pay151 k1_pay46 u v) (fun _ _ => rfl) 512 (lower V c t) (lower_fills V c t) 3 0 1 (by decide) (by decide) (by decide)
      inb_S4x1024x128_S1x32x128_3_0_0_s_1_16_1 inb_S4x1024x128_S1x32x128_3_1_0_s_1_16_1 x0 x1 _ _ rfl rfl (by blk_simp [idx1 t]; omega) (by blk_simp [idx1 t]; omega) (by decide)
  · idx_vars x
    exact odd_piece V c t (fun u v => k1_pay147 k1_pay46 u v) (fun _ _ => rfl) 512 (lower V c t) (lower_fills V c t) 2 14 15 (by decide) (by decide) (by decide)
      inb_S4x1024x128_S1x32x128_2_14_0_s_1_16_1 inb_S4x1024x128_S1x32x128_2_15_0_s_1_16_1 x0 x1 _ _ rfl rfl (by blk_simp [idx1 t]; omega) (by blk_simp [idx1 t]; omega) (by decide)
  · idx_vars x
    exact even_piece V c t (fun u v => k1_pay146 k1_pay46 u v) (fun _ _ => rfl) 512 (lower V c t) (lower_fills V c t) 2 14 15 (by decide) (by decide) (by decide)
      inb_S4x1024x128_S1x32x128_2_14_0_s_1_16_1 inb_S4x1024x128_S1x32x128_2_15_0_s_1_16_1 x0 x1 _ _ rfl rfl (by blk_simp [idx1 t]; omega) (by blk_simp [idx1 t]; omega) (by decide)
  · idx_vars x
    exact odd_piece V c t (fun u v => k1_pay143 k1_pay46 (k1_pay140 u) v) (fun _ _ => rfl) 512 (lower V c t) (lower_fills V c t) 2 12 13 (by decide) (by decide) (by decide)
      inb_S4x1024x128_S1x32x128_2_12_0_s_1_16_1 inb_S4x1024x128_S1x32x128_2_13_0_s_1_16_1 x0 x1 _ _ rfl rfl (by blk_simp [idx1 t]; omega) (by blk_simp [idx1 t]; omega) (by decide)
  · idx_vars x
    exact even_piece V c t (fun u v => k1_pay142 k1_pay46 (k1_pay140 u) v) (fun _ _ => rfl) 512 (lower V c t) (lower_fills V c t) 2 12 13 (by decide) (by decide) (by decide)
      inb_S4x1024x128_S1x32x128_2_12_0_s_1_16_1 inb_S4x1024x128_S1x32x128_2_13_0_s_1_16_1 x0 x1 _ _ rfl rfl (by blk_simp [idx1 t]; omega) (by blk_simp [idx1 t]; omega) (by decide)
  · idx_vars x
    exact odd_piece V c t (fun u v => k1_pay139 k1_pay46 u v) (fun _ _ => rfl) 512 (lower V c t) (lower_fills V c t) 2 10 11 (by decide) (by decide) (by decide)
      inb_S4x1024x128_S1x32x128_2_10_0_s_1_16_1 inb_S4x1024x128_S1x32x128_2_11_0_s_1_16_1 x0 x1 _ _ rfl rfl (by blk_simp [idx1 t]; omega) (by blk_simp [idx1 t]; omega) (by decide)
  · idx_vars x
    exact even_piece V c t (fun u v => k1_pay138 k1_pay46 u v) (fun _ _ => rfl) 512 (lower V c t) (lower_fills V c t) 2 10 11 (by decide) (by decide) (by decide)
      inb_S4x1024x128_S1x32x128_2_10_0_s_1_16_1 inb_S4x1024x128_S1x32x128_2_11_0_s_1_16_1 x0 x1 _ _ rfl rfl (by blk_simp [idx1 t]; omega) (by blk_simp [idx1 t]; omega) (by decide)
  · idx_vars x
    exact odd_piece V c t (fun u v => k1_pay135 k1_pay46 u v) (fun _ _ => rfl) 512 (lower V c t) (lower_fills V c t) 2 8 9 (by decide) (by decide) (by decide)
      inb_S4x1024x128_S1x32x128_2_8_0_s_1_16_1 inb_S4x1024x128_S1x32x128_2_9_0_s_1_16_1 x0 x1 _ _ rfl rfl (by blk_simp [idx1 t]; omega) (by blk_simp [idx1 t]; omega) (by decide)
  · idx_vars x
    exact even_piece V c t (fun u v => k1_pay134 k1_pay46 u v) (fun _ _ => rfl) 512 (lower V c t) (lower_fills V c t) 2 8 9 (by decide) (by decide) (by decide)
      inb_S4x1024x128_S1x32x128_2_8_0_s_1_16_1 inb_S4x1024x128_S1x32x128_2_9_0_s_1_16_1 x0 x1 _ _ rfl rfl (by blk_simp [idx1 t]; omega) (by blk_simp [idx1 t]; omega) (by decide)
  · idx_vars x
    exact odd_piece V c t (fun u v => k1_pay131 k1_pay46 u v) (fun _ _ => rfl) 512 (lower V c t) (lower_fills V c t) 2 6 7 (by decide) (by decide) (by decide)
      inb_S4x1024x128_S1x32x128_2_6_0_s_1_16_1 inb_S4x1024x128_S1x32x128_2_7_0_s_1_16_1 x0 x1 _ _ rfl rfl (by blk_simp [idx1 t]; omega) (by blk_simp [idx1 t]; omega) (by decide)
  · idx_vars x
    exact even_piece V c t (fun u v => k1_pay130 k1_pay46 u v) (fun _ _ => rfl) 512 (lower V c t) (lower_fills V c t) 2 6 7 (by decide) (by decide) (by decide)
      inb_S4x1024x128_S1x32x128_2_6_0_s_1_16_1 inb_S4x1024x128_S1x32x128_2_7_0_s_1_16_1 x0 x1 _ _ rfl rfl (by blk_simp [idx1 t]; omega) (by blk_simp [idx1 t]; omega) (by decide)
  · idx_vars x
    exact odd_piece V c t (fun u v => k1_pay127 k1_pay46 u v) (fun _ _ => rfl) 512 (lower V c t) (lower_fills V c t) 2 4 5 (by decide) (by decide) (by decide)
      inb_S4x1024x128_S1x32x128_2_4_0_s_1_16_1 inb_S4x1024x128_S1x32x128_2_5_0_s_1_16_1 x0 x1 _ _ rfl rfl (by blk_simp [idx1 t]; omega) (by blk_simp [idx1 t]; omega) (by decide)
  · idx_vars x
    exact even_piece V c t (fun u v => k1_pay126 k1_pay46 u v) (fun _ _ => rfl) 512 (lower V c t) (lower_fills V c t) 2 4 5 (by decide) (by decide) (by decide)
      inb_S4x1024x128_S1x32x128_2_4_0_s_1_16_1 inb_S4x1024x128_S1x32x128_2_5_0_s_1_16_1 x0 x1 _ _ rfl rfl (by blk_simp [idx1 t]; omega) (by blk_simp [idx1 t]; omega) (by decide)
  · idx_vars x
    exact odd_piece V c t (fun u v => k1_pay123 (k1_pay121 k1_pay46 u v)) (fun _ _ => rfl) 512 (lower V c t) (lower_fills V c t) 2 2 3 (by decide) (by decide) (by decide)
      inb_S4x1024x128_S1x32x128_2_2_0_s_1_16_1 inb_S4x1024x128_S1x32x128_2_3_0_s_1_16_1 x0 x1 _ _ rfl rfl (by blk_simp [idx1 t]; omega) (by blk_simp [idx1 t]; omega) (by decide)
  · idx_vars x
    exact even_piece V c t (fun u v => k1_pay122 k1_pay46 u v) (fun _ _ => rfl) 512 (lower V c t) (lower_fills V c t) 2 2 3 (by decide) (by decide) (by decide)
      inb_S4x1024x128_S1x32x128_2_2_0_s_1_16_1 inb_S4x1024x128_S1x32x128_2_3_0_s_1_16_1 x0 x1 _ _ rfl rfl (by blk_simp [idx1 t]; omega) (by blk_simp [idx1 t]; omega) (by decide)
  · idx_vars x
    exact odd_piece V c t (fun u v => k1_pay118 k1_pay46 u v) (fun _ _ => rfl) 512 (lower V c t) (lower_fills V c t) 2 0 1 (by decide) (by decide) (by decide)
      inb_S4x1024x128_S1x32x128_2_0_0_s_1_16_1 inb_S4x1024x128_S1x32x128_2_1_0_s_1_16_1 x0 x1 _ _ rfl rfl (by blk_simp [idx1 t]; omega) (by blk_simp [idx1 t]; omega) (by decide)
  · idx_vars x
    exact even_piece V c t (fun u v => k1_pay117 k1_pay46 u v) (fun _ _ => rfl) 512 (lower V c t) (lower_fills V c t) 2 0 1 (by decide) (by decide) (by decide)
      inb_S4x1024x128_S1x32x128_2_0_0_s_1_16_1 inb_S4x1024x128_S1x32x128_2_1_0_s_1_16_1 x0 x1 _ _ rfl rfl (by blk_simp [idx1 t]; omega) (by blk_simp [idx1 t]; omega) (by decide)
  · idx_vars x
    exact odd_piece V c t (fun u v => k1_pay114 k1_pay46 (k1_pay111 u) (k1_pay112 v)) (fun _ _ => rfl) 512 (lower V c t) (lower_fills V c t) 1 14 15 (by decide) (by decide) (by decide)
      inb_S4x1024x128_S1x32x128_1_14_0_s_1_16_1 inb_S4x1024x128_S1x32x128_1_15_0_s_1_16_1 x0 x1 _ _ rfl rfl (by blk_simp [idx1 t]; omega) (by blk_simp [idx1 t]; omega) (by decide)
  · idx_vars x
    exact even_piece V c t (fun u v => k1_pay113 k1_pay46 (k1_pay111 u) (k1_pay112 v) 64#32) (fun _ _ => rfl) 512 (lower V c t) (lower_fills V c t) 1 14 15 (by decide) (by decide) (by decide)
      inb_S4x1024x128_S1x32x128_1_14_0_s_1_16_1 inb_S4x1024x128_S1x32x128_1_15_0_s_1_16_1 x0 x1 _ _ rfl rfl (by blk_simp [idx1 t]; omega) (by blk_simp [idx1 t]; omega) (by decide)
  · idx_vars x
    exact odd_piece V c t (fun u v => k1_pay110 k1_pay46 u v) (fun _ _ => rfl) 512 (lower V c t) (lower_fills V c t) 1 12 13 (by decide) (by decide) (by decide)
      inb_S4x1024x128_S1x32x128_1_12_0_s_1_16_1 inb_S4x1024x128_S1x32x128_1_13_0_s_1_16_1 x0 x1 _ _ rfl rfl (by blk_simp [idx1 t]; omega) (by blk_simp [idx1 t]; omega) (by decide)
  · idx_vars x
    exact even_piece V c t (fun u v => k1_pay109 k1_pay46 u v) (fun _ _ => rfl) 512 (lower V c t) (lower_fills V c t) 1 12 13 (by decide) (by decide) (by decide)
      inb_S4x1024x128_S1x32x128_1_12_0_s_1_16_1 inb_S4x1024x128_S1x32x128_1_13_0_s_1_16_1 x0 x1 _ _ rfl rfl (by blk_simp [idx1 t]; omega) (by blk_simp [idx1 t]; omega) (by decide)
  · idx_vars x
    exact odd_piece V c t (fun u v => k1_pay106 k1_pay46 u v) (fun _ _ => rfl) 512 (lower V c t) (lower_fills V c t) 1 10 11 (by decide) (by decide) (by decide)
      inb_S4x1024x128_S1x32x128_1_10_0_s_1_16_1 inb_S4x1024x128_S1x32x128_1_11_0_s_1_16_1 x0 x1 _ _ rfl rfl (by blk_simp [idx1 t]; omega) (by blk_simp [idx1 t]; omega) (by decide)
  · idx_vars x
    exact even_piece V c t (fun u v => k1_pay105 k1_pay46 u v) (fun _ _ => rfl) 512 (lower V c t) (lower_fills V c t) 1 10 11 (by decide) (by decide) (by decide)
      inb_S4x1024x128_S1x32x128_1_10_0_s_1_16_1 inb_S4x1024x128_S1x32x128_1_11_0_s_1_16_1 x0 x1 _ _ rfl rfl (by blk_simp [idx1 t]; omega) (by blk_simp [idx1 t]; omega) (by decide)
  · idx_vars x
    exact odd_piece V c t (fun u v => k1_pay102 k1_pay46 u v) (fun _ _ => rfl) 512 (lower V c t) (lower_fills V c t) 1 8 9 (by decide) (by decide) (by decide)
      inb_S4x1024x128_S1x32x128_1_8_0_s_1_16_1 inb_S4x1024x128_S1x32x128_1_9_0_s_1_16_1 x0 x1 _ _ rfl rfl (by blk_simp [idx1 t]; omega) (by blk_simp [idx1 t]; omega) (by decide)
  · idx_vars x
    exact even_piece V c t (fun u v => k1_pay101 k1_pay46 u v) (fun _ _ => rfl) 512 (lower V c t) (lower_fills V c t) 1 8 9 (by decide) (by decide) (by decide)
      inb_S4x1024x128_S1x32x128_1_8_0_s_1_16_1 inb_S4x1024x128_S1x32x128_1_9_0_s_1_16_1 x0 x1 _ _ rfl rfl (by blk_simp [idx1 t]; omega) (by blk_simp [idx1 t]; omega) (by decide)
  · idx_vars x
    exact odd_piece V c t (fun u v => k1_pay98 k1_pay46 u v) (fun _ _ => rfl) 512 (lower V c t) (lower_fills V c t) 1 6 7 (by decide) (by decide) (by decide)
      inb_S4x1024x128_S1x32x128_1_6_0_s_1_16_1 inb_S4x1024x128_S1x32x128_1_7_0_s_1_16_1 x0 x1 _ _ rfl rfl (by blk_simp [idx1 t]; omega) (by blk_simp [idx1 t]; omega) (by decide)
  · idx_vars x
    exact even_piece V c t (fun u v => k1_pay97 k1_pay46 u v) (fun _ _ => rfl) 512 (lower V c t) (lower_fills V c t) 1 6 7 (by decide) (by decide) (by decide)
      inb_S4x1024x128_S1x32x128_1_6_0_s_1_16_1 inb_S4x1024x128_S1x32x128_1_7_0_s_1_16_1 x0 x1 _ _ rfl rfl (by blk_simp [idx1 t]; omega) (by blk_simp [idx1 t]; omega) (by decide)
  · idx_vars x
    exact odd_piece V c t (fun u v => k1_pay94 (k1_pay92 k1_pay46 u v)) (fun _ _ => rfl) 512 (lower V c t) (lower_fills V c t) 1 4 5 (by decide) (by decide) (by decide)
      inb_S4x1024x128_S1x32x128_1_4_0_s_1_16_1 inb_S4x1024x128_S1x32x128_1_5_0_s_1_16_1 x0 x1 _ _ rfl rfl (by blk_simp [idx1 t]; omega) (by blk_simp [idx1 t]; omega) (by decide)
  · idx_vars x
    exact even_piece V c t (fun u v => k1_pay93 k1_pay46 u v) (fun _ _ => rfl) 512 (lower V c t) (lower_fills V c t) 1 4 5 (by decide) (by decide) (by decide)
      inb_S4x1024x128_S1x32x128_1_4_0_s_1_16_1 inb_S4x1024x128_S1x32x128_1_5_0_s_1_16_1 x0 x1 _ _ rfl rfl (by blk_simp [idx1 t]; omega) (by blk_simp [idx1 t]; omega) (by decide)
  · idx_vars x
    exact odd_piece V c t (fun u v => k1_pay89 k1_pay46 u v) (fun _ _ => rfl) 512 (lower V c t) (lower_fills V c t) 1 2 3 (by decide) (by decide) (by decide)
      inb_S4x1024x128_S1x32x128_1_2_0_s_1_16_1 inb_S4x1024x128_S1x32x128_1_3_0_s_1_16_1 x0 x1 _ _ rfl rfl (by blk_simp [idx1 t]; omega) (by blk_simp [idx1 t]; omega) (by decide)
  · idx_vars x
    exact even_piece V c t (fun u v => k1_pay88 k1_pay46 u v) (fun _ _ => rfl) 512 (lower V c t) (lower_fills V c t) 1 2 3 (by decide) (by decide) (by decide)
      inb_S4x1024x128_S1x32x128_1_2_0_s_1_16_1 inb_S4x1024x128_S1x32x128_1_3_0_s_1_16_1 x0 x1 _ _ rfl rfl (by blk_simp [idx1 t]; omega) (by blk_simp [idx1 t]; omega) (by decide)
  · idx_vars x
    exact odd_piece V c t (fun u v => k1_pay85 k1_pay46 (k1_pay81 u) (k1_pay82 v)) (fun _ _ => rfl) 512 (lower V c t) (lower_fills V c t) 1 0 1 (by decide) (by decide) (by decide)
      inb_S4x1024x128_S1x32x128_1_0_0_s_1_16_1 inb_S4x1024x128_S1x32x128_1_1_0_s_1_16_1 x0 x1 _ _ rfl rfl (by blk_simp [idx1 t]; omega) (by blk_simp [idx1 t]; omega) (by decide)
  · idx_vars x
    exact even_piece V c t (fun u v => k1_pay84 (k1_pay83 k1_pay46 u v)) (fun _ _ => rfl) 512 (lower V c t) (lower_fills V c t) 1 0 1 (by decide) (by decide) (by decide)
      inb_S4x1024x128_S1x32x128_1_0_0_s_1_16_1 inb_S4x1024x128_S1x32x128_1_1_0_s_1_16_1 x0 x1 _ _ rfl rfl (by blk_simp [idx1 t]; omega) (by blk_simp [idx1 t]; omega) (by decide)
  · idx_vars x
    exact odd_piece V c t (fun u v => k1_pay80 k1_pay46 u v) (fun _ _ => rfl) 512 (lower V c t) (lower_fills V c t) 0 14 15 (by decide) (by decide) (by decide)
      inb_S4x1024x128_S1x32x128_0_14_0_s_1_16_1 inb_S4x1024x128_S1x32x128_0_15_0_s_1_16_1 x0 x1 _ _ rfl rfl (by blk_simp [idx1 t]; omega) (by blk_simp [idx1 t]; omega) (by decide)
  · idx_vars x
    exact even_piece V c t (fun u v => k1_pay79 k1_pay46 u v) (fun _ _ => rfl) 512 (lower V c t) (lower_fills V c t) 0 14 15 (by decide) (by decide) (by decide)
      inb_S4x1024x128_S1x32x128_0_14_0_s_1_16_1 inb_S4x1024x128_S1x32x128_0_15_0_s_1_16_1 x0 x1 _ _ rfl rfl (by blk_simp [idx1 t]; omega) (by blk_simp [idx1 t]; omega) (by decide)
  · idx_vars x
    exact odd_piece V c t (fun u v => k1_pay76 k1_pay46 (k1_pay73 u) v) (fun _ _ => rfl) 512 (lower V c t) (lower_fills V c t) 0 12 13 (by decide) (by decide) (by decide)
      inb_S4x1024x128_S1x32x128_0_12_0_s_1_16_1 inb_S4x1024x128_S1x32x128_0_13_0_s_1_16_1 x0 x1 _ _ rfl rfl (by blk_simp [idx1 t]; omega) (by blk_simp [idx1 t]; omega) (by decide)
  · idx_vars x
    exact even_piece V c t (fun u v => k1_pay75 k1_pay46 (k1_pay73 u) v) (fun _ _ => rfl) 512 (lower V c t) (lower_fills V c t) 0 12 13 (by decide) (by decide) (by decide)
      inb_S4x1024x128_S1x32x128_0_12_0_s_1_16_1 inb_S4x1024x128_S1x32x128_0_13_0_s_1_16_1 x0 x1 _ _ rfl rfl (by blk_simp [idx1 t]; omega) (by blk_simp [idx1 t]; omega) (by decide)
  · idx_vars x
    exact odd_piece V c t (fun u v => k1_pay72 k1_pay46 u v) (fun _ _ => rfl) 512 (lower V c t) (lower_fills V c t) 0 10 11 (by decide) (by decide) (by decide)
      inb_S4x1024x128_S1x32x128_0_10_0_s_1_16_1 inb_S4x1024x128_S1x32x128_0_11_0_s_1_16_1 x0 x1 _ _ rfl rfl (by blk_simp [idx1 t]; omega) (by blk_simp [idx1 t]; omega) (by decide)
  · idx_vars x
    exact even_piece V c t (fun u v => k1_pay71 k1_pay46 u v) (fun _ _ => rfl) 512 (lower V c t) (lower_fills V c t) 0 10 11 (by decide) (by decide) (by decide)
      inb_S4x1024x128_S1x32x128_0_10_0_s_1_16_1 inb_S4x1024x128_S1x32x128_0_11_0_s_1_16_1 x0 x1 _ _ rfl rfl (by blk_simp [idx1 t]; omega) (by blk_simp [idx1 t]; omega) (by decide)
  · idx_vars x
    exact odd_piece V c t (fun u v => k1_pay68 k1_pay46 u v) (fun _ _ => rfl) 512 (lower V c t) (lower_fills V c t) 0 8 9 (by decide) (by decide) (by decide)
      inb_S4x1024x128_S1x32x128_0_8_0_s_1_16_1 inb_S4x1024x128_S1x32x128_0_9_0_s_1_16_1 x0 x1 _ _ rfl rfl (by blk_simp [idx1 t]; omega) (by blk_simp [idx1 t]; omega) (by decide)
  · idx_vars x
    exact even_piece V c t (fun u v => k1_pay67 k1_pay46 u v) (fun _ _ => rfl) 512 (lower V c t) (lower_fills V c t) 0 8 9 (by decide) (by decide) (by decide)
      inb_S4x1024x128_S1x32x128_0_8_0_s_1_16_1 inb_S4x1024x128_S1x32x128_0_9_0_s_1_16_1 x0 x1 _ _ rfl rfl (by blk_simp [idx1 t]; omega) (by blk_simp [idx1 t]; omega) (by decide)
  · idx_vars x
    exact odd_piece V c t (fun u v => k1_pay64 k1_pay46 u v) (fun _ _ => rfl) 512 (lower V c t) (lower_fills V c t) 0 6 7 (by decide) (by decide) (by decide)
      inb_S4x1024x128_S1x32x128_0_6_0_s_1_16_1 inb_S4x1024x128_S1x32x128_0_7_0_s_1_16_1 x0 x1 _ _ rfl rfl (by blk_simp [idx1 t]; omega) (by blk_simp [idx1 t]; omega) (by decide)
  · idx_vars x
    exact even_piece V c t (fun u v => k1_pay63 k1_pay46 u v) (fun _ _ => rfl) 512 (lower V c t) (lower_fills V c t) 0 6 7 (by decide) (by decide) (by decide)
      inb_S4x1024x128_S1x32x128_0_6_0_s_1_16_1 inb_S4x1024x128_S1x32x128_0_7_0_s_1_16_1 x0 x1 _ _ rfl rfl (by blk_simp [idx1 t]; omega) (by blk_simp [idx1 t]; omega) (by decide)
  · idx_vars x
    exact odd_piece V c t (fun u v => k1_pay60 k1_pay46 u v) (fun _ _ => rfl) 512 (lower V c t) (lower_fills V c t) 0 4 5 (by decide) (by decide) (by decide)
      inb_S4x1024x128_S1x32x128_0_4_0_s_1_16_1 inb_S4x1024x128_S1x32x128_0_5_0_s_1_16_1 x0 x1 _ _ rfl rfl (by blk_simp [idx1 t]; omega) (by blk_simp [idx1 t]; omega) (by decide)
  · idx_vars x
    exact even_piece V c t (fun u v => k1_pay59 k1_pay46 u v) (fun _ _ => rfl) 512 (lower V c t) (lower_fills V c t) 0 4 5 (by decide) (by decide) (by decide)
      inb_S4x1024x128_S1x32x128_0_4_0_s_1_16_1 inb_S4x1024x128_S1x32x128_0_5_0_s_1_16_1 x0 x1 _ _ rfl rfl (by blk_simp [idx1 t]; omega) (by blk_simp [idx1 t]; omega) (by decide)
  · idx_vars x
    exact odd_piece V c t (fun u v => k1_pay56 k1_pay46 (k1_pay52 v) (k1_pay54 u)) (fun _ _ => rfl) 512 (lower V c t) (lower_fills V c t) 0 2 3 (by decide) (by decide) (by decide)
      inb_S4x1024x128_S1x32x128_0_2_0_s_1_16_1 inb_S4x1024x128_S1x32x128_0_3_0_s_1_16_1 x0 x1 _ _ rfl rfl (by blk_simp [idx1 t]; omega) (by blk_simp [idx1 t]; omega) (by decide)
  · idx_vars x
    exact even_piece V c t (fun u v => k1_pay55 (k1_pay53 u v)) (fun _ _ => rfl) 512 (lower V c t) (lower_fills V c t) 0 2 3 (by decide) (by decide) (by decide)
      inb_S4x1024x128_S1x32x128_0_2_0_s_1_16_1 inb_S4x1024x128_S1x32x128_0_3_0_s_1_16_1 x0 x1 _ _ rfl rfl (by blk_simp [idx1 t]; omega) (by blk_simp [idx1 t]; omega) (by decide)
  · idx_vars x
    exact odd_piece V c t (fun u v => k1_pay50 u v) (fun _ _ => rfl) 512 (lower V c t) (lower_fills V c t) 0 0 1 (by decide) (by decide) (by decide)
      inb_S4x1024x128_S1x32x128_0_0_0_s_1_16_1 inb_S4x1024x128_S1x32x128_0_1_0_s_1_16_1 x0 x1 _ _ rfl rfl (by blk_simp [idx1 t]; omega) (by blk_simp [idx1 t]; omega) (by decide)
  · idx_vars x
    exact even_piece V c t (fun u v => k1_pay49 u v) (fun _ _ => rfl) 512 (lower V c t) (lower_fills V c t) 0 0 1 (by decide) (by decide) (by decide)
      inb_S4x1024x128_S1x32x128_0_0_0_s_1_16_1 inb_S4x1024x128_S1x32x128_0_1_0_s_1_16_1 x0 x1 _ _ rfl rfl (by blk_simp [idx1 t]; omega) (by blk_simp [idx1 t]; omega) (by decide)

end Cert.KernelInIdeal.Value

end
-- ==== Proof.InRun.lean ====
/- The input projection's run: what its eight results hold when the two calls have finished, of the program's
   arguments. -/
module

public import proofs.«01_k».proof.Proof.Entry
public import proofs.«01_k».proof.Proof.Keys
public import proofs.«01_k».proof.Proof.Slabs
public import proofs.«01_k».proof.Proof.Chunks

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.KernelInIdeal.Value

open Cert.KernelInIdeal Cert.KernelInIdeal.Gen Cert.Turn

local notation "𝕄" => MT nD τ sig Unit (Elt Ideal) ℕ (UR sig nD τ) ℕ

variable (m : (ℓ : Loc nD τ sig) → Buf (Elt Ideal) ℓ) (ρ : Dev nD → PrngReg)

/-- Columns `n` and on as slabs: for each tile of 256 tokens, each head's 64 columns, a row of ones and rows of zeros. -/
def slab (c : Dev nD) (n : ℕ) (q : Fin 64) (s : ℕ) (k : Fin 256) : EReal :=
  if s % 80 < 64 then col m c ⟨q.val * 256 + k.val, by omega⟩ (n + (s / 80 * 64 + s % 80))
  else if s % 80 = 64 then 1 else 0

/-- The compression's columns, sixteen tokens to a row, head after head. -/
def chunk (c : Dev nD) (R : Fin 1024) (C : ℕ) : EReal :=
  col m c ⟨R.val * 16 + C % 1024 / 64, by omega⟩ (1024 + (C / 1024 * 64 + C % 64))

/-- Slabs of a projection known column by column. -/
theorem slab_of (x : (⟨S16384x1024, .f32⟩ : BufTy).Contents (Elt Ideal)) (g : (⟨S1x1024, .f32⟩ : BufTy).Contents (Elt Ideal))
    (w : (⟨S5168x1024, .f32⟩ : BufTy).Contents (Elt Ideal)) (c : Dev nD) (h : ∀ i e, proj x g w i e = col m c i e)
    (n : ℕ) (q : Fin 64) (s : ℕ) (k : Fin 256) : slabAt x g w n q s k = slab m c n q s k := by
  unfold slabAt slab
  rw [h]

/-- The slabs of the second call's inputs. -/
theorem slab_in (c : Dev nD) (n : ℕ) (q : Fin 64) (s : ℕ) (k : Fin 256) :
    slabAt (V3 m ρ c main_arg0) (V3 m ρ c main_v11) (V3 m ρ c main_v10) n q s k = slab m c n q s k :=
  slab_of m _ _ _ c (proj_in m ρ c) n q s k

/-- Its chunks. -/
theorem chunk_in (c : Dev nD) (R : Fin 1024) (C : ℕ) :
    chunkAt (V3 m ρ c main_arg0) (V3 m ρ c main_v11) (V3 m ρ c main_v10) R C = chunk m c R C :=
  proj_in m ρ c _ _

/-- The whole array of the scaled queries. -/
def outQ (c : Dev nD) : Buf (Elt Ideal) ((c.tc : Thread nD τ).loc main_v12_0) := fun i => turn (angle m c (i 0)) (col m c (i 0)) (i 1).val * κ

/-- The whole array of the selected blocks' keys. -/
def outKS (c : Dev nD) : Buf (Elt Ideal) ((c.tc : Thread nD τ).loc main_v12_1) := fun i => turn (angle m c (i 0)) (col m c (i 0)) (1536 + (i 1).val)

/-- The whole array of the window's keys. -/
def outKW (c : Dev nD) : Buf (Elt Ideal) ((c.tc : Thread nD τ).loc main_v12_2) := fun i => turn (angle m c (i 0)) (col m c (i 0)) (2048 + (i 1).val)

/-- The whole array of the selected blocks' values. -/
def outVS (c : Dev nD) : Buf (Elt Ideal) ((c.tc : Thread nD τ).loc main_v12_3) := fun i => slab m c 1792 (i 0) (i 1).val (i 2)

/-- The whole array of the window's values. -/
def outVW (c : Dev nD) : Buf (Elt Ideal) ((c.tc : Thread nD τ).loc main_v12_4) := fun i => slab m c 2304 (i 0) (i 1).val (i 2)

/-- The whole array of the compression's chunks. -/
def outC (c : Dev nD) : Buf (Elt Ideal) ((c.tc : Thread nD τ).loc main_v12_5) := fun i => chunk m c (i 0) (i 1).val

/-- The whole array of the gates' columns. -/
def outG (c : Dev nD) : Buf (Elt Ideal) ((c.tc : Thread nD τ).loc main_v12_6) := fun i => col m c (i 0) (2560 + (i 1).val)

/-- The whole array of the pooled columns. -/
def outP (c : Dev nD) : Buf (Elt Ideal) ((c.tc : Thread nD τ).loc main_v12_7) := fun i => col m c (i 0) (2608 + (i 1).val)

/-- The run leaves the scaled queries. -/
theorem outQ_left (c : Dev nD) : W4 m ρ c (Proc.devRef .tc main_v12_0) = outQ m c :=
  (W4_arr m ρ c 4).trans ((queries (V3 m ρ) c).trans (funext fun i => scaled_in m ρ c (i 0) (i 1).val))

/-- The run leaves the selected blocks' keys. -/
theorem outKS_left (c : Dev nD) : W4 m ρ c (Proc.devRef .tc main_v12_1) = outKS m c :=
  (W4_arr m ρ c 5).trans ((keys_s (V3 m ρ) c).trans (funext fun i => turned_in m ρ c (i 0) (1536 + (i 1).val)))

/-- The run leaves the window's keys. -/
theorem outKW_left (c : Dev nD) : W4 m ρ c (Proc.devRef .tc main_v12_2) = outKW m c :=
  (W4_arr m ρ c 6).trans ((keys_w (V3 m ρ) c).trans (funext fun i => turned_in m ρ c (i 0) (2048 + (i 1).val)))

/-- The run leaves the selected blocks' values. -/
theorem outVS_left (c : Dev nD) : W4 m ρ c (Proc.devRef .tc main_v12_3) = outVS m c :=
  (W4_arr m ρ c 7).trans ((values_s (V3 m ρ) c).trans (funext fun i => slab_in m ρ c 1792 (i 0) (i 1).val (i 2)))

/-- The run leaves the window's values. -/
theorem outVW_left (c : Dev nD) : W4 m ρ c (Proc.devRef .tc main_v12_4) = outVW m c :=
  (W4_arr m ρ c 8).trans ((values_w (V3 m ρ) c).trans (funext fun i => slab_in m ρ c 2304 (i 0) (i 1).val (i 2)))

/-- The run leaves the compression's chunks. -/
theorem outC_left (c : Dev nD) : W4 m ρ c (Proc.devRef .tc main_v12_5) = outC m c :=
  (W4_arr m ρ c 9).trans ((chunks (V3 m ρ) c).trans (funext fun i => chunk_in m ρ c (i 0) (i 1).val))

/-- The run leaves the gates' columns. -/
theorem outG_left (c : Dev nD) : W4 m ρ c (Proc.devRef .tc main_v12_6) = outG m c :=
  (W4_arr m ρ c 10).trans ((gates (V3 m ρ) c).trans (funext fun i => proj_in m ρ c (i 0) (2560 + (i 1).val)))

/-- The run leaves the pooled columns. -/
theorem outP_left (c : Dev nD) : W4 m ρ c (Proc.devRef .tc main_v12_7) = outP m c :=
  (W4_arr m ρ c 11).trans ((pooled (V3 m ρ) c).trans (funext fun i => proj_in m ρ c (i 0) (2608 + (i 1).val)))

set_option backward.isDefEq.respectTransparency.types false in
/-- The run of both calls: every result at its array, every argument as it was. -/
theorem run : θ_run (defs (F := Ideal)) (onTc (τ := τ) (main (F := Ideal))) ⟨m, fun _ => 0, ρ⟩ (fun r => ∀ c : Dev nD,
      r.2.mem ((c.tc : Thread nD τ).loc main_v12_0) = outQ m c
      ∧ r.2.mem ((c.tc : Thread nD τ).loc main_v12_1) = outKS m c
      ∧ r.2.mem ((c.tc : Thread nD τ).loc main_v12_2) = outKW m c
      ∧ r.2.mem ((c.tc : Thread nD τ).loc main_v12_3) = outVS m c
      ∧ r.2.mem ((c.tc : Thread nD τ).loc main_v12_4) = outVW m c
      ∧ r.2.mem ((c.tc : Thread nD τ).loc main_v12_5) = outC m c
      ∧ r.2.mem ((c.tc : Thread nD τ).loc main_v12_6) = outG m c
      ∧ r.2.mem ((c.tc : Thread nD τ).loc main_v12_7) = outP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v12_0 (by decide))).trans (outQ_left m ρ c),
      (h c _ (mem_uc main_v12_1 (by decide))).trans (outKS_left m ρ c),
      (h c _ (mem_uc main_v12_2 (by decide))).trans (outKW_left m ρ c),
      (h c _ (mem_uc main_v12_3 (by decide))).trans (outVS_left m ρ c),
      (h c _ (mem_uc main_v12_4 (by decide))).trans (outVW_left m ρ c),
      (h c _ (mem_uc main_v12_5 (by decide))).trans (outC_left m ρ c),
      (h c _ (mem_uc main_v12_6 (by decide))).trans (outG_left m ρ c),
      (h c _ (mem_uc main_v12_7 (by decide))).trans (outP_left m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩)

end Cert.KernelInIdeal.Value

end
-- ==== Proof.InRef.lean ====
/- The input projection's reference, entry by entry: each of its results as the columns of the projection, those of the
   queries and keys turned by their position's angles. -/
module

public import proofs.«01_k».proof.Proof.Projected
public import proofs.«01_k».proof.Proof.Gen.ReferenceInIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceInIdeal.Value

open Cert.ReferenceInIdeal Cert.ReferenceInIdeal.Gen Cert.Turn

variable (m : (ℓ : Loc nD τ sig) → Buf (Elt Ideal) ℓ)

/-- Column `e` of token `i`'s projection, of the program's arguments. -/
def col (c : Dev nD) (i : Fin 16384) (e : ℕ) : EReal :=
  Projected.column (fun k => m ((c : Thread nD τ).loc main_arg0) (ix2 i k : S16384x1024.Idx))
    (fun k => m ((c : Thread nD τ).loc main_arg2) (ix1 k : S1024.Idx))
    (fun k e => m ((c : Thread nD τ).loc main_arg3) (ix2 k e : S1024x5168.Idx)) e

/-- Token `i`'s angles, of the program's arguments. -/
def angle (c : Dev nD) (i : Fin 16384) : Fin 8 → EReal :=
  Projected.angles (m ((c : Thread nD τ).loc main_arg1) (ix2 ⟨i.val / 2048, by omega⟩ ⟨i.val % 2048, by omega⟩ : S8x2048.Idx))

/-- The reference's normalised rows. -/
def normed (x : FVec Ideal S16384x1024 .f32) (g : FVec Ideal S1024 .f32) : FVec Ideal S8x2048x1024 .f32 :=
  mulf (mulf (shapeCast _ x shapeCasts_S16384x1024_S8x2048x1024) (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf (shapeCast _ x shapeCasts_S16384x1024_S8x2048x1024) (shapeCast _ x shapeCasts_S16384x1024_S8x2048x1024))
          (constant S_ .f32 0x00000000#32) reducesTo_S8x2048x1024_S8x2048_d2 h_S_))
          (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- Their entries. -/
theorem normed_at (x : FVec Ideal S16384x1024 .f32) (g : FVec Ideal S1024 .f32) (b : Fin 8) (s : Fin 2048) (k : Fin 1024) (i : Fin 16384)
    (hi : i.val = b.val * 2048 + s.val) :
    normed x g (ix3 b s k) = Norm.rms (fun k => x (ix2 i k)) (fun k => g (ix1 k)) k := by
  have hlt : b.val * 2048 + s.val < 16384 := by
    have := b.isLt
    have := s.isLt
    clear hi
    omega
  obtain rfl : i = ⟨b.val * 2048 + s.val, hlt⟩ := Fin.ext hi
  unfold normed Norm.rms Norm.inv
  pointwise

/-- The reference's projection of all tokens. -/
def rows (c : Dev nD) : FVec Ideal S8x2048x5168 .f32 :=
  Host.dotGeneral (φ₁ := .f32) (φ₂ := .f32) dot_S8x2048x1024_S1024x5168_S8x2048x5168_2_0_01_1_n_n none
    (normed (m ((c.tc : Thread nD τ).loc main_arg0)) (m ((c.tc : Thread nD τ).loc main_arg2))) (m ((c.tc : Thread nD τ).loc main_arg3))

/-- Its entries. -/
theorem rows_at (c : Dev nD) (b : Fin 8) (s : Fin 2048) (e : Fin 5168) (i : Fin 16384) (n : ℕ) (hi : i.val = b.val * 2048 + s.val) (hn : e.val = n) :
    rows m c (ix3 b s e) = col m c i n := by
  subst hn
  unfold rows col Projected.column
  clean_types
  pointwise
  refine Finset.sum_congr rfl fun k _ => ?_
  rw [normed_at _ _ b s k i hi]

/-- The reference's angles. -/
theorem angles_at (c : Dev nD) (b : Fin 8) (s : Fin 2048) (j : Fin 8) :
    mulf (F := Ideal) (φ := .f32) (broadcastInDim S8x2048x8 ![0, 1, 2] bcast_S8x2048x1_S8x2048x8_0_1_2 (broadcastInDim S8x2048x1 ![0, 1] bcast_S8x2048_S8x2048x1_0_1 (sitofp .f32 (m ((c.tc : Thread nD τ).loc main_arg1)))))
      (broadcastInDim S8x2048x8 ![0, 1, 2] bcast_S1x1x8_S8x2048x8_0_1_2 (broadcastInDim S1x1x8 ![2] bcast_S8_S1x1x8_2
        (Host.powf (broadcastInDim S8 ![] bcast_S_S8 (constant S_ .f32 0x48F42400#32)) (mulf (Host.negf (sitofp .f32 (iotaInDim S8 32 0))) (broadcastInDim S8 ![] bcast_S_S8 (constant S_ .f32 0x3E000000#32))))))
      (ix3 b s j) = Projected.angles (m ((c : Thread nD τ).loc main_arg1) (ix2 b s : S8x2048.Idx)) j := by
  pointwise
  rfl

/-- A turned column's entry, in the first eight of its head. -/
theorem turn_low (a : Fin 8 → EReal) (v : ℕ → EReal) (e : ℕ) (j : Fin 8) (h : e % 64 < 8) (hj : j.val = e % 8) (x y : EReal)
    (hx : x = v e) (hy : y = v (e + 8)) : x * Ideal.cos (a j) - y * Ideal.sin (a j) = turn a v e := by
  obtain rfl : j = ⟨e % 8, Nat.mod_lt _ (by decide)⟩ := Fin.ext hj
  unfold turn
  rw [if_pos h, hx, hy]

/-- In the next eight. -/
theorem turn_high (a : Fin 8 → EReal) (v : ℕ → EReal) (e : ℕ) (j : Fin 8) (h : ¬ e % 64 < 8) (h' : e % 64 < 16) (hj : j.val = e % 8)
    (x y : EReal) (hx : x = v e) (hy : y = v (e - 8)) : x * Ideal.cos (a j) + y * Ideal.sin (a j) = turn a v e := by
  obtain rfl : j = ⟨e % 8, Nat.mod_lt _ (by decide)⟩ := Fin.ext hj
  unfold turn
  rw [if_neg h, if_pos h', hx, hy]

/-- After them. -/
theorem turn_plain (a : Fin 8 → EReal) (v : ℕ → EReal) (e : ℕ) (h : ¬ e % 64 < 16) (x : EReal) (hx : x = v e) : x = turn a v e := by
  unfold turn
  rw [if_neg (by omega), if_neg h, hx]

/-- The queries. -/
theorem queries_at (c : Dev nD) (r : Fin 16384) (d : Fin 1024) :
    res_out0 m c (ix2 r d : S16384x1024.Idx)
      = turn (angle m c r) (col m c r) (d.val) * Ideal.ofBits .f32 0x3E38AA3B#32 := by
  unfold res_out0 res_main_v124
  clean_types
  generalize hY : Host.dotGeneral (F := Ideal) dot_S8x2048x1024_S1024x5168_S8x2048x5168_2_0_01_1_n_n none _ _ = Y
  generalize hA : (mulf (F := Ideal) (broadcastInDim S8x2048x8 ![0, 1, 2] bcast_S8x2048x1_S8x2048x8_0_1_2
    (_ : FVec Ideal S8x2048x1 .f32)) _ : FVec Ideal S8x2048x8 .f32) = A
  have hy : ∀ (e : Fin 5168) (n : ℕ), e.val = n →
      Y (ix3 ⟨r.val / 2048, by omega⟩ ⟨r.val % 2048, by omega⟩ e) = col m c r n := fun e n hn => by
    rw [← hY]
    exact rows_at m c _ _ e r n (by dsimp only; omega) hn
  have ha : ∀ j : Fin 8, A (ix3 ⟨r.val / 2048, by omega⟩ ⟨r.val % 2048, by omega⟩ j) = angle m c r j := fun j => by
    rw [← hA]
    exact angles_at m c _ _ j
  clear hY hA
  pointwise
  refine congrArg (· * Ideal.ofBits .f32 0x3E38AA3B#32) ?_
  simp only [ha]
  by_cases h : d.val % 64 < 16
  · refine (dif_pos h).trans ?_
    by_cases h' : d.val % 64 < 8
    · refine (dif_pos h').trans ?_
      exact turn_low _ _ _ _ (by omega) (by first | omega | (dsimp only <;> omega)) _ _ (hy _ _ (by first | omega | (dsimp only <;> omega))) (hy _ _ (by first | omega | (dsimp only <;> omega)))
    · refine (dif_neg h').trans ?_
      exact turn_high _ _ _ _ (by omega) (by omega) (by first | omega | (dsimp only <;> omega)) _ _ (hy _ _ (by first | omega | (dsimp only <;> omega))) (hy _ _ (by first | omega | (dsimp only <;> omega)))
  · refine (dif_neg h).trans ?_
    exact turn_plain _ _ _ (by omega) _ (hy _ _ (by first | omega | (dsimp only <;> omega)))

/-- The keys of the selected blocks. -/
theorem keys_s_at (c : Dev nD) (r : Fin 16384) (d : Fin 256) :
    res_out1 m c (ix2 r d : S16384x256.Idx)
      = turn (angle m c r) (col m c r) (1536 + d.val) := by
  unfold res_out1 res_main_v126
  clean_types
  generalize hY : Host.dotGeneral (F := Ideal) dot_S8x2048x1024_S1024x5168_S8x2048x5168_2_0_01_1_n_n none _ _ = Y
  generalize hA : (mulf (F := Ideal) (broadcastInDim S8x2048x8 ![0, 1, 2] bcast_S8x2048x1_S8x2048x8_0_1_2
    (_ : FVec Ideal S8x2048x1 .f32)) _ : FVec Ideal S8x2048x8 .f32) = A
  have hy : ∀ (e : Fin 5168) (n : ℕ), e.val = n →
      Y (ix3 ⟨r.val / 2048, by omega⟩ ⟨r.val % 2048, by omega⟩ e) = col m c r n := fun e n hn => by
    rw [← hY]
    exact rows_at m c _ _ e r n (by dsimp only; omega) hn
  have ha : ∀ j : Fin 8, A (ix3 ⟨r.val / 2048, by omega⟩ ⟨r.val % 2048, by omega⟩ j) = angle m c r j := fun j => by
    rw [← hA]
    exact angles_at m c _ _ j
  clear hY hA
  pointwise
  simp only [ha]
  by_cases h : d.val % 64 < 16
  · refine (dif_pos h).trans ?_
    by_cases h' : d.val % 64 < 8
    · refine (dif_pos h').trans ?_
      exact turn_low _ _ _ _ (by omega) (by first | omega | (dsimp only <;> omega)) _ _ (hy _ _ (by first | omega | (dsimp only <;> omega))) (hy _ _ (by first | omega | (dsimp only <;> omega)))
    · refine (dif_neg h').trans ?_
      exact turn_high _ _ _ _ (by omega) (by omega) (by first | omega | (dsimp only <;> omega)) _ _ (hy _ _ (by first | omega | (dsimp only <;> omega))) (hy _ _ (by first | omega | (dsimp only <;> omega)))
  · refine (dif_neg h).trans ?_
    exact turn_plain _ _ _ (by omega) _ (hy _ _ (by first | omega | (dsimp only <;> omega)))

/-- The keys of the window. -/
theorem keys_w_at (c : Dev nD) (r : Fin 16384) (d : Fin 256) :
    res_out2 m c (ix2 r d : S16384x256.Idx)
      = turn (angle m c r) (col m c r) (2048 + d.val) := by
  unfold res_out2 res_main_v128
  clean_types
  generalize hY : Host.dotGeneral (F := Ideal) dot_S8x2048x1024_S1024x5168_S8x2048x5168_2_0_01_1_n_n none _ _ = Y
  generalize hA : (mulf (F := Ideal) (broadcastInDim S8x2048x8 ![0, 1, 2] bcast_S8x2048x1_S8x2048x8_0_1_2
    (_ : FVec Ideal S8x2048x1 .f32)) _ : FVec Ideal S8x2048x8 .f32) = A
  have hy : ∀ (e : Fin 5168) (n : ℕ), e.val = n →
      Y (ix3 ⟨r.val / 2048, by omega⟩ ⟨r.val % 2048, by omega⟩ e) = col m c r n := fun e n hn => by
    rw [← hY]
    exact rows_at m c _ _ e r n (by dsimp only; omega) hn
  have ha : ∀ j : Fin 8, A (ix3 ⟨r.val / 2048, by omega⟩ ⟨r.val % 2048, by omega⟩ j) = angle m c r j := fun j => by
    rw [← hA]
    exact angles_at m c _ _ j
  clear hY hA
  pointwise
  simp only [ha]
  by_cases h : d.val % 64 < 16
  · refine (dif_pos h).trans ?_
    by_cases h' : d.val % 64 < 8
    · refine (dif_pos h').trans ?_
      exact turn_low _ _ _ _ (by omega) (by first | omega | (dsimp only <;> omega)) _ _ (hy _ _ (by first | omega | (dsimp only <;> omega))) (hy _ _ (by first | omega | (dsimp only <;> omega)))
    · refine (dif_neg h').trans ?_
      exact turn_high _ _ _ _ (by omega) (by omega) (by first | omega | (dsimp only <;> omega)) _ _ (hy _ _ (by first | omega | (dsimp only <;> omega))) (hy _ _ (by first | omega | (dsimp only <;> omega)))
  · refine (dif_neg h).trans ?_
    exact turn_plain _ _ _ (by omega) _ (hy _ _ (by first | omega | (dsimp only <;> omega)))

/-- The values of the selected blocks. -/
theorem values_s_at (c : Dev nD) (q : Fin 64) (s : Fin 320) (k : Fin 256) :
    truncf (F := Ideal) .bf16 (shapeCast S64x320x256 (concatenate S64x4x80x256 2 [⟨S64x4x64x256, (transpose S64x4x64x256 [0, 2, 3, 1]
        (shapeCast S64x256x4x64 (extractStridedSlice S8x2048x256 ![0, 0, 1792] (rows m c) slices_S8x2048x5168_S8x2048x256_0_0_1792)
          shapeCasts_S8x2048x256_S64x256x4x64) transposes_S64x256x4x64_S64x4x64x256_0_2_3_1 : FVec Ideal S64x4x64x256 .f32)⟩,
        ⟨S64x4x1x256, (broadcastInDim S64x4x1x256 ![] bcast_S_S64x4x1x256 (constant S_ .f32 0x3F800000#32) : FVec Ideal S64x4x1x256 .f32)⟩,
        ⟨S64x4x15x256, (broadcastInDim S64x4x15x256 ![] bcast_S_S64x4x15x256 (constant S_ .f32 0x00000000#32) : FVec Ideal S64x4x15x256 .f32)⟩]
        concatenates_S64x4x64x256_S64x4x1x256_S64x4x15x256_S64x4x80x256_d2) shapeCasts_S64x4x80x256_S64x320x256) bitsLt_bf16_f32 (ix3 q s k)
      = if s.val % 80 < 64 then col m c ⟨q.val * 256 + k.val, by omega⟩ (1792 + (s.val / 80 * 64 + s.val % 80))
        else if s.val % 80 = 64 then 1 else 0 := by
  pointwise
  by_cases h : s.val % 80 < 64
  · rw [dif_pos h, if_pos h]
    exact rows_at m c _ _ _ _ _ (by first | omega | (dsimp only <;> omega)) (by first | omega | (dsimp only <;> omega))
  · rw [dif_neg h, if_neg h]
    by_cases h' : s.val % 80 = 64
    · rw [dif_pos (by omega), if_pos h']
    · rw [dif_neg (by omega), if_neg h']

/-- The values of the window. -/
theorem values_w_at (c : Dev nD) (q : Fin 64) (s : Fin 320) (k : Fin 256) :
    truncf (F := Ideal) .bf16 (shapeCast S64x320x256 (concatenate S64x4x80x256 2 [⟨S64x4x64x256, (transpose S64x4x64x256 [0, 2, 3, 1]
        (shapeCast S64x256x4x64 (extractStridedSlice S8x2048x256 ![0, 0, 2304] (rows m c) slices_S8x2048x5168_S8x2048x256_0_0_2304)
          shapeCasts_S8x2048x256_S64x256x4x64) transposes_S64x256x4x64_S64x4x64x256_0_2_3_1 : FVec Ideal S64x4x64x256 .f32)⟩,
        ⟨S64x4x1x256, (broadcastInDim S64x4x1x256 ![] bcast_S_S64x4x1x256 (constant S_ .f32 0x3F800000#32) : FVec Ideal S64x4x1x256 .f32)⟩,
        ⟨S64x4x15x256, (broadcastInDim S64x4x15x256 ![] bcast_S_S64x4x15x256 (constant S_ .f32 0x00000000#32) : FVec Ideal S64x4x15x256 .f32)⟩]
        concatenates_S64x4x64x256_S64x4x1x256_S64x4x15x256_S64x4x80x256_d2) shapeCasts_S64x4x80x256_S64x320x256) bitsLt_bf16_f32 (ix3 q s k)
      = if s.val % 80 < 64 then col m c ⟨q.val * 256 + k.val, by omega⟩ (2304 + (s.val / 80 * 64 + s.val % 80))
        else if s.val % 80 = 64 then 1 else 0 := by
  pointwise
  by_cases h : s.val % 80 < 64
  · rw [dif_pos h, if_pos h]
    exact rows_at m c _ _ _ _ _ (by first | omega | (dsimp only <;> omega)) (by first | omega | (dsimp only <;> omega))
  · rw [dif_neg h, if_neg h]
    by_cases h' : s.val % 80 = 64
    · rw [dif_pos (by omega), if_pos h']
    · rw [dif_neg (by omega), if_neg h']

/-- The chunks of the compression's keys. -/
theorem chunk_keys_at (c : Dev nD) (R : Fin 1024) (C : Fin 4096) :
    shapeCast S1024x4096 (transpose S1024x4x16x64 [0, 2, 1, 3] (shapeCast S1024x16x4x64
        (extractStridedSlice S8x2048x256 ![0, 0, 1024] (rows m c) slices_S8x2048x5168_S8x2048x256_0_0_1024)
        shapeCasts_S8x2048x256_S1024x16x4x64) transposes_S1024x16x4x64_S1024x4x16x64_0_2_1_3) shapeCasts_S1024x4x16x64_S1024x4096 (ix2 R C)
      = col m c ⟨R.val * 16 + C.val % 1024 / 64, by omega⟩ (1024 + (C.val / 1024 * 64 + C.val % 64)) := by
  pointwise
  exact rows_at m c _ _ _ _ _ (by dsimp only; omega) (by dsimp only)

/-- The chunks of the compression's values. -/
theorem chunk_values_at (c : Dev nD) (R : Fin 1024) (C : Fin 4096) :
    shapeCast S1024x4096 (transpose S1024x4x16x64 [0, 2, 1, 3] (shapeCast S1024x16x4x64
        (extractStridedSlice S8x2048x256 ![0, 0, 1280] (rows m c) slices_S8x2048x5168_S8x2048x256_0_0_1280)
        shapeCasts_S8x2048x256_S1024x16x4x64) transposes_S1024x16x4x64_S1024x4x16x64_0_2_1_3) shapeCasts_S1024x4x16x64_S1024x4096 (ix2 R C)
      = col m c ⟨R.val * 16 + C.val % 1024 / 64, by omega⟩ (1280 + (C.val / 1024 * 64 + C.val % 64)) := by
  pointwise
  exact rows_at m c _ _ _ _ _ (by dsimp only; omega) (by dsimp only)

/-- The chunks of the compression's columns. -/
theorem chunks_at (c : Dev nD) (R : Fin 1024) (C : Fin 8192) :
    truncf (F := Ideal) .bf16 (concatenate S1024x8192 1 [⟨S1024x4096, (shapeCast S1024x4096 (transpose S1024x4x16x64 [0, 2, 1, 3] (shapeCast S1024x16x4x64
        (extractStridedSlice S8x2048x256 ![0, 0, 1024] (rows m c) slices_S8x2048x5168_S8x2048x256_0_0_1024)
        shapeCasts_S8x2048x256_S1024x16x4x64) transposes_S1024x16x4x64_S1024x4x16x64_0_2_1_3) shapeCasts_S1024x4x16x64_S1024x4096 : FVec Ideal S1024x4096 .f32)⟩,
      ⟨S1024x4096, (shapeCast S1024x4096 (transpose S1024x4x16x64 [0, 2, 1, 3] (shapeCast S1024x16x4x64
        (extractStridedSlice S8x2048x256 ![0, 0, 1280] (rows m c) slices_S8x2048x5168_S8x2048x256_0_0_1280)
        shapeCasts_S8x2048x256_S1024x16x4x64) transposes_S1024x16x4x64_S1024x4x16x64_0_2_1_3) shapeCasts_S1024x4x16x64_S1024x4096 : FVec Ideal S1024x4096 .f32)⟩]
      concatenates_S1024x4096_S1024x4096_S1024x8192_d1) bitsLt_bf16_f32 (ix2 R C)
      = col m c ⟨R.val * 16 + C.val % 1024 / 64, by omega⟩ (1024 + (C.val / 1024 * 64 + C.val % 64)) := by
  have hk := chunk_keys_at m c
  have hv := chunk_values_at m c
  generalize (shapeCast S1024x4096 (transpose S1024x4x16x64 [0, 2, 1, 3] (shapeCast S1024x16x4x64
        (extractStridedSlice S8x2048x256 ![0, 0, 1024] (rows m c) slices_S8x2048x5168_S8x2048x256_0_0_1024)
        shapeCasts_S8x2048x256_S1024x16x4x64) transposes_S1024x16x4x64_S1024x4x16x64_0_2_1_3) shapeCasts_S1024x4x16x64_S1024x4096 : FVec Ideal S1024x4096 .f32) = K at hk ⊢
  generalize (shapeCast S1024x4096 (transpose S1024x4x16x64 [0, 2, 1, 3] (shapeCast S1024x16x4x64
        (extractStridedSlice S8x2048x256 ![0, 0, 1280] (rows m c) slices_S8x2048x5168_S8x2048x256_0_0_1280)
        shapeCasts_S8x2048x256_S1024x16x4x64) transposes_S1024x16x4x64_S1024x4x16x64_0_2_1_3) shapeCasts_S1024x4x16x64_S1024x4096 : FVec Ideal S1024x4096 .f32) = V at hv ⊢
  pointwise
  by_cases h : C.val < 4096
  · rw [dif_pos h]
    exact (hk _ _).trans (congrArg₂ (col m c) (Fin.ext (by dsimp only)) (by dsimp only))
  · rw [dif_neg h]
    exact (hv _ _).trans (congrArg₂ (col m c) (Fin.ext (by dsimp only; omega)) (by dsimp only; omega))

/-- The gates' columns, and those after them up to 128. -/
theorem gates_at (c : Dev nD) (r : Fin 16384) (d : Fin 128) :
    shapeCast S16384x128 (extractStridedSlice S8x2048x128 ![0, 0, 2560] (rows m c) slices_S8x2048x5168_S8x2048x128_0_0_2560)
      shapeCasts_S8x2048x128_S16384x128 (ix2 r d) = col m c r (2560 + d.val) := by
  pointwise
  exact rows_at m c _ _ _ _ _ (by dsimp only; omega) rfl

/-- The pooled columns. -/
theorem pooled_at (c : Dev nD) (r : Fin 16384) (d : Fin 512) :
    shapeCast S16384x512 (extractStridedSlice S8x2048x512 ![0, 0, 2608] (rows m c) slices_S8x2048x5168_S8x2048x512_0_0_2608)
      shapeCasts_S8x2048x512_S16384x512 (ix2 r d) = col m c r (2608 + d.val) := by
  pointwise
  exact rows_at m c _ _ _ _ _ (by dsimp only; omega) rfl

end Cert.ReferenceInIdeal.Value

end
-- ==== Proof.Trail.lean ====
/- Trailing sums of one channel of a sequence, over the extended reals: built by doubling, and as differences of sums of
   everything before a position. -/
module

public import Idealize.ShloMosaic.Lib.Pointwise

@[expose] public section

noncomputable section

open Idealize.ShloMosaic

namespace Cert.Trail

/-- The sum of the `n` entries of `f` that end at position `t`, those before the start left out. -/
def trail (f : ℕ → EReal) (n t : ℕ) : EReal := ∑ j ∈ Finset.range n, if j ≤ t then f (t - j) else 0

/-- One trailing entry is the entry itself. -/
theorem trail_one (f : ℕ → EReal) (t : ℕ) : trail f 1 t = f t := by
  simp [trail]

/-- Twice as many trailing entries: those of half the length, and those of half the length that end that much earlier. -/
theorem trail_double (f : ℕ → EReal) (n t : ℕ) :
    trail f (n + n) t = trail f n t + if n ≤ t then trail f n (t - n) else 0 := by
  unfold trail
  rw [Finset.sum_range_add]
  congr 1
  split
  · refine Finset.sum_congr rfl fun j _ => ?_
    by_cases h : n + j ≤ t
    · rw [if_pos h, if_pos (by omega), Nat.sub_sub]
    · rw [if_neg h, if_neg (by omega)]
  · refine Finset.sum_eq_zero fun j _ => if_neg (by omega)

/-- Everything up to a position is everything before the trailing entries and the trailing entries. -/
theorem upto_eq (f : ℕ → EReal) (n t : ℕ) :
    ∑ s ∈ Finset.range (t + 1), f s = trail f n t + ∑ s ∈ Finset.range (t + 1 - n), f s := by
  induction n with
  | zero => simp [trail]
  | succ n ih =>
    rw [ih]
    unfold trail
    rw [Finset.sum_range_succ]
    by_cases h : n ≤ t
    · have e : t + 1 - n = (t + 1 - (n + 1)) + 1 := by omega
      have e' : t + 1 - (n + 1) = t - n := by omega
      rw [if_pos h, e, Finset.sum_range_succ, e', add_assoc, add_comm (f (t - n))]
    · have e : t + 1 - n = 0 := by omega
      have e' : t + 1 - (n + 1) = 0 := by omega
      rw [if_neg h, e, e', add_zero]

/-- A sum of finite entries is finite. -/
theorem finite_upto (f : ℕ → EReal) (hf : ∀ s, ∃ r : ℝ, f s = r) (n : ℕ) : ∃ r : ℝ, ∑ s ∈ Finset.range n, f s = r := by
  induction n with
  | zero => exact ⟨0, by simp⟩
  | succ n ih =>
    obtain ⟨a, ha⟩ := ih
    obtain ⟨b, hb⟩ := hf n
    exact ⟨a + b, by rw [Finset.sum_range_succ, ha, hb, EReal.coe_add]⟩

/-- The trailing entries' sum as a difference of two sums from the start, where the entries are finite. -/
theorem trail_eq_sub (f : ℕ → EReal) (hf : ∀ s, ∃ r : ℝ, f s = r) (n t : ℕ) :
    ∑ s ∈ Finset.range (t + 1), f s - ∑ s ∈ Finset.range (t + 1 - n), f s = trail f n t := by
  obtain ⟨r, hr⟩ := finite_upto f hf (t + 1 - n)
  rw [upto_eq f n t, hr]
  exact EReal.add_sub_cancel_right

/-- How many entries trail at position `t` when `n` are asked for: the smaller of `t + 1` and `n`, as a number. -/
def counted (n : BitVec 32) (t : ℕ) : EReal :=
  FloatOps.sitofp (F := Ideal) .f32 (IntOp.minsi (IntOp.addi (BitVec.ofNat 32 t) 1#32) n)

/-- The mean of the entries trailing at position `t`, less the entry itself. -/
def mean (f : ℕ → EReal) (n : BitVec 32) (t : ℕ) : EReal := Ideal.div (trail f n.toNat t) (counted n t) - f t

/-- One entry of the pooled result: the means of 128 channels through a column of weights, scaled. -/
def entry (f : Fin 128 → ℕ → EReal) (w : Fin 128 → EReal) (n : BitVec 32) (t : ℕ) (s : EReal) : EReal :=
  (∑ k, mean (f k) n t * w k) * s

/-- How many positions each group of 128 channels pools. -/
def window (g : ℕ) : BitVec 32 := if g = 0 then 2#32 else if g = 1 then 4#32 else if g = 2 then 8#32 else 16#32

/-- Channel `k` of the sequence of 2048 rows that row `r` of the flat array belongs to. -/
def channel (x : Fin 16384 → Fin 512 → EReal) (b : ℕ) (k : ℕ) (s : ℕ) : EReal :=
  if h : (s < 2048 ∧ b < 8) ∧ k < 512 then x ⟨b * 2048 + s, by omega⟩ ⟨k, h.2⟩ else 0

/-- The pooled array: its first 1024 columns as given, then the pooled channels. -/
def pooled (x : Fin 16384 → Fin 512 → EReal) (w : Fin 4 → Fin 128 → Fin 128 → EReal) (s : Fin 512 → EReal)
    (a : Fin 16384 → Fin 1536 → EReal) (r : Fin 16384) (c : Fin 1536) : EReal :=
  if h : c.val < 1024 then a r c
  else entry (fun k => channel x (r.val / 2048) ((c.val - 1024) / 128 * 128 + k.val))
    (fun k => w ⟨(c.val - 1024) / 128, by omega⟩ k ⟨(c.val - 1024) % 128, by omega⟩)
    (window ((c.val - 1024) / 128)) (r.val % 2048) (s ⟨c.val - 1024, by omega⟩)

/-- Entries of equal operands are equal. -/
theorem entry_congr {f f' : Fin 128 → ℕ → EReal} {w w' : Fin 128 → EReal} {n n' : BitVec 32} {t t' : ℕ} {s s' : EReal}
    (hf : ∀ k t, f k t = f' k t) (hw : ∀ k, w k = w' k) (hn : n = n') (ht : t = t') (hs : s = s') :
    entry f w n t s = entry f' w' n' t' s' := by
  obtain rfl : f = f' := funext fun k => funext (hf k)
  obtain rfl : w = w' := funext hw
  rw [hn, ht, hs]

end Cert.Trail

end
-- ==== Proof.Pool.lean ====
/- The pooling call's values: what the kernel leaves in its result array, entry by entry. -/
module

public import proofs.«01_k».proof.Proof.Trail
public import proofs.«01_k».proof.Proof.Gen.KernelPoolIdeal.Value
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Trail

/-- One doubling of the trailing sums: a block plus itself moved down by `n` rows, zeros coming in. -/
def step (n : BitVec 32) (y : FVec Ideal S2048x128 .f32) : FVec Ideal S2048x128 .f32 :=
  addf y (select (cmpi .sge (iota .tc S2048x128 32 [0] iota_S2048x128_d0_w32) (broadcast S2048x128 n))
    (dynamicRotate 0 n none y rotates_S2048x128_d0) (broadcast S2048x128 (Scalar.ofBits .f32 0x00000000#32)))

/-- What is stored from the trailing sums `y` of a group `x`: their means less `x`, through the weights, scaled. -/
def stored (n : BitVec 32) (y x : FVec Ideal S2048x128 .f32) (w : FVec Ideal S1x128x128 .bf16) (s : FVec Ideal S1x128 .f32) :
    FVec Ideal S2048x128 .bf16 :=
  truncf .bf16 (mulf (matmul dot_S2048x128_S128x128_S2048x128_1_0_0_1_n_n none
    (truncf .bf16 (subf (divf y (sitofp .f32 (minsi (addi (iota .tc S2048x128 32 [0] iota_S2048x128_d0_w32) (broadcast S2048x128 1#32))
      (broadcast S2048x128 n)))) x) bitsLt_bf16_f32) (shapeCast S128x128 w shapeCasts_S1x128x128_S128x128)
    (constant S2048x128 .f32 0x00000000#32))
    (broadcastTo S2048x128 (shapeCast S1x128 s shapeCasts_S1x128_S1x128) broadcasts_S1x128_S2048x128)) bitsLt_bf16_f32

/-- The first group's store: one doubling. -/
theorem first_eq (x : FVec Ideal S2048x128 .f32) (w : FVec Ideal S1x128x128 .bf16) (s : FVec Ideal S1x128 .f32) :
    k0_pay2 (F := Ideal) x w s = stored 2#32 (step 1#32 x) x w s := rfl

/-- The second group's: two. -/
theorem second_eq (x : FVec Ideal S2048x128 .f32) (w : FVec Ideal S1x128x128 .bf16) (s : FVec Ideal S1x128 .f32) :
    k0_pay6 (F := Ideal) (iota .tc S2048x128 32 [0] iota_S2048x128_d0_w32) x (k0_pay3 x) k0_pay4 (k0_pay5 x)
      (Scalar.ofBits .f32 0x00000000#32) w s = stored 4#32 (step 2#32 (step 1#32 x)) x w s := rfl

/-- The third group's: three. -/
theorem third_eq (x : FVec Ideal S2048x128 .f32) (w : FVec Ideal S1x128x128 .bf16) (s : FVec Ideal S1x128 .f32) :
    k0_pay9 (F := Ideal) (iota .tc S2048x128 32 [0] iota_S2048x128_d0_w32) x (k0_pay7 (iota .tc S2048x128 32 [0] iota_S2048x128_d0_w32) x)
      (k0_pay8 (iota .tc S2048x128 32 [0] iota_S2048x128_d0_w32) x) w s
      = stored 8#32 (step 4#32 (step 2#32 (step 1#32 x))) x w s := rfl

/-- The fourth group's: four. -/
theorem fourth_eq (x : FVec Ideal S2048x128 .f32) (w : FVec Ideal S1x128x128 .bf16) (s : FVec Ideal S1x128 .f32) :
    k0_pay1 (F := Ideal) (iota .tc S2048x128 32 [0] iota_S2048x128_d0_w32) x
      (k0_pay10 (iota .tc S2048x128 32 [0] iota_S2048x128_d0_w32) x) 8#32 w s
      = stored 16#32 (step 8#32 (step 4#32 (step 2#32 (step 1#32 x)))) x w s := rfl

/-- Column `k` of a block, by its row's number. -/
def down (x : FVec Ideal S2048x128 .f32) (k : Fin 128) (s : ℕ) : EReal := if h : s < 2048 then x (ix2 ⟨s, h⟩ k) else 0

/-- The comparison of a row's number with a small number. -/
theorem sge_iff : ∀ r : Fin 2048, ∀ n ∈ [1, 2, 4, 8], IntOp.cmpi .sge (BitVec.ofNat 32 r.val) (BitVec.ofNat 32 n) = 1#1 ↔ n ≤ r.val := by
  decide +kernel

/-- A doubling's entries. -/
theorem step_at (n : ℕ) (hn : n ∈ [1, 2, 4, 8]) (x y : FVec Ideal S2048x128 .f32)
    (hy : ∀ (r : Fin 2048) (k : Fin 128), y (ix2 r k) = trail (down x k) n r.val) (r : Fin 2048) (k : Fin 128) :
    step (BitVec.ofNat 32 n) y (ix2 r k) = trail (down x k) (n + n) r.val := by
  have hn' : 0 < n ∧ n ≤ 8 := by simp at hn; omega
  have hw : (BitVec.ofNat 32 n).toNat = n := by rw [BitVec.toNat_ofNat]; exact Nat.mod_eq_of_lt (by omega)
  unfold step
  rw [trail_double]
  pointwise
  rw [hy]
  refine congrArg (_ + ·) ?_
  unfold Scalar.select
  by_cases h : n ≤ r.val
  · refine (if_pos ((sge_iff r n hn).mpr h)).trans ?_
    rw [if_pos h, hy]
    refine congrArg _ ?_
    rw [hw]
    dsimp only
    have := r.isLt
    omega
  · refine (if_neg (fun e => h ((sge_iff r n hn).mp e))).trans ?_
    rw [if_neg h]

/-- A store's entries. -/
theorem stored_at (n : BitVec 32) (x y : FVec Ideal S2048x128 .f32) (w : FVec Ideal S1x128x128 .bf16) (s : FVec Ideal S1x128 .f32)
    (hy : ∀ (r : Fin 2048) (k : Fin 128), y (ix2 r k) = trail (down x k) n.toNat r.val) (r : Fin 2048) (d : Fin 128) :
    stored n y x w s (ix2 r d) = entry (down x) (fun k => w (ix3 0 k d)) n r.val (s (ix2 0 d)) := by
  unfold stored entry mean counted
  pointwise
  refine congrArg (· * s (ix2 0 d)) (Finset.sum_congr rfl fun k _ => ?_)
  rw [hy]
  unfold down
  rw [dif_pos r.isLt]

/-- A group's own entries are its trailing sums of one. -/
theorem zero_at (x : FVec Ideal S2048x128 .f32) (r : Fin 2048) (k : Fin 128) : x (ix2 r k) = trail (down x k) 1 r.val := by
  rw [trail_one]
  unfold down
  rw [dif_pos r.isLt]

/-- After one doubling: sums of two. -/
theorem one_at (x : FVec Ideal S2048x128 .f32) (r : Fin 2048) (k : Fin 128) : step 1#32 x (ix2 r k) = trail (down x k) 2 r.val :=
  step_at 1 (by decide) x x (zero_at x) r k

/-- After two: of four. -/
theorem two_at (x : FVec Ideal S2048x128 .f32) (r : Fin 2048) (k : Fin 128) :
    step 2#32 (step 1#32 x) (ix2 r k) = trail (down x k) 4 r.val :=
  step_at 2 (by decide) x _ (one_at x) r k

/-- After three: of eight. -/
theorem four_at (x : FVec Ideal S2048x128 .f32) (r : Fin 2048) (k : Fin 128) :
    step 4#32 (step 2#32 (step 1#32 x)) (ix2 r k) = trail (down x k) 8 r.val :=
  step_at 4 (by decide) x _ (two_at x) r k

/-- After four: of sixteen. -/
theorem eight_at (x : FVec Ideal S2048x128 .f32) (r : Fin 2048) (k : Fin 128) :
    step 8#32 (step 4#32 (step 2#32 (step 1#32 x))) (ix2 r k) = trail (down x k) 16 r.val :=
  step_at 8 (by decide) x _ (four_at x) r k

/-- The first group's entries. -/
theorem first_at (x : FVec Ideal S2048x128 .f32) (w : FVec Ideal S1x128x128 .bf16) (s : FVec Ideal S1x128 .f32) (r : Fin 2048) (d : Fin 128) :
    k0_pay2 (F := Ideal) x w s (ix2 r d) = entry (down x) (fun k => w (ix3 0 k d)) 2#32 r.val (s (ix2 0 d)) := by
  rw [first_eq]
  exact stored_at 2#32 x _ w s (one_at x) r d

/-- The second group's entries. -/
theorem second_at (x : FVec Ideal S2048x128 .f32) (w : FVec Ideal S1x128x128 .bf16) (s : FVec Ideal S1x128 .f32) (r : Fin 2048) (d : Fin 128) :
    k0_pay6 (F := Ideal) (iota .tc S2048x128 32 [0] iota_S2048x128_d0_w32) x (k0_pay3 x) k0_pay4 (k0_pay5 x)
      (Scalar.ofBits .f32 0x00000000#32) w s (ix2 r d) = entry (down x) (fun k => w (ix3 0 k d)) 4#32 r.val (s (ix2 0 d)) := by
  rw [second_eq]
  exact stored_at 4#32 x _ w s (two_at x) r d

/-- The third group's entries. -/
theorem third_at (x : FVec Ideal S2048x128 .f32) (w : FVec Ideal S1x128x128 .bf16) (s : FVec Ideal S1x128 .f32) (r : Fin 2048) (d : Fin 128) :
    k0_pay9 (F := Ideal) (iota .tc S2048x128 32 [0] iota_S2048x128_d0_w32) x (k0_pay7 (iota .tc S2048x128 32 [0] iota_S2048x128_d0_w32) x)
      (k0_pay8 (iota .tc S2048x128 32 [0] iota_S2048x128_d0_w32) x) w s (ix2 r d)
      = entry (down x) (fun k => w (ix3 0 k d)) 8#32 r.val (s (ix2 0 d)) := by
  rw [third_eq]
  exact stored_at 8#32 x _ w s (four_at x) r d

/-- The fourth group's entries. -/
theorem fourth_at (x : FVec Ideal S2048x128 .f32) (w : FVec Ideal S1x128x128 .bf16) (s : FVec Ideal S1x128 .f32) (r : Fin 2048) (d : Fin 128) :
    k0_pay1 (F := Ideal) (iota .tc S2048x128 32 [0] iota_S2048x128_d0_w32) x
      (k0_pay10 (iota .tc S2048x128 32 [0] iota_S2048x128_d0_w32) x) 8#32 w s (ix2 r d)
      = entry (down x) (fun k => w (ix3 0 k d)) 16#32 r.val (s (ix2 0 d)) := by
  rw [fourth_eq]
  exact stored_at 16#32 x _ w s (eight_at x) r d

/-- Where each window's block stands at each grid point. -/
theorem idx : ∀ t : Fin cfg0.N, win0_0.index t = ![t.val, 0] ∧ win0_1.index t = ![0, 0, 0] ∧ win0_2.index t = ![0, 0]
    ∧ win0_3.index t = ![t.val, 2] ∧ t.val < 8 :=
  (by decide +kernel : ∀ t : Fin grid0.N, _)

variable (m : (ℓ : Loc nD τ sig) → Buf (Elt Ideal) ℓ)

/-- The pooled array of the program's arguments. -/
def whole (c : Dev nD) : Fin 16384 → Fin 1536 → EReal :=
  pooled (fun r k => m ((c : Thread nD τ).loc main_arg0) (ix2 r k : S16384x512.Idx))
    (fun g k d => m ((c : Thread nD τ).loc main_arg1) (ix3 g k d : S4x128x128.Idx))
    (fun k => m ((c : Thread nD τ).loc main_arg2) (ix1 k : S512.Idx))
    (fun r k => m ((c : Thread nD τ).loc main_arg3) (ix2 r k : S16384x1536.Idx))

/-- The columns of a block's rows from column `o` on. -/
theorem rows_at (c : Dev nD) (t : Fin cfg0.N) (o : ℕ) (hb) (r : Fin 2048) (k : Fin 128) (i : Fin 16384) (j : Fin 512)
    (hi : i.val = t.val * 2048 + r.val) (hj : j.val = o + k.val) :
    View.ld (iblk m c 0 t) (Rect.unit (s := S2048x512) ![0, o] ![2048, 128] hb) (ix2 r k : S2048x128.Idx)
      = m ((c : Thread nD τ).loc main_arg0) (ix2 i j : S16384x512.Idx) := by
  have hj' : o + k.val < 512 := by omega
  refine Eq.trans (b := iblk m c 0 t (ix2 r ⟨o + k.val, hj'⟩ : S2048x512.Idx)) ?_ ?_
  · refine congrArg (iblk m c 0 t) (funext fun a => ?_)
    fin_cases a
    · exact Fin.ext (show 0 + 1 * r.val = r.val by omega)
    · exact Fin.ext (show o + 1 * k.val = o + k.val by omega)
  · have hi' : t.val * 2048 + r.val < 16384 := hi ▸ i.isLt
    obtain rfl : i = ⟨t.val * 2048 + r.val, hi'⟩ := Fin.ext hi
    obtain rfl : j = ⟨o + k.val, hj'⟩ := Fin.ext hj
    blk_point [iblk, V, idx t]

/-- The weights of group `g`. -/
theorem weight_at (c : Dev nD) (t : Fin cfg0.N) (g : ℕ) (hg : g < 4) (hb) (k d : Fin 128) :
    View.ld (iblk m c 1 t) (Rect.unit (s := S4x128x128) ![g, 0, 0] ![1, 128, 128] hb) (ix3 0 k d : S1x128x128.Idx)
      = m ((c : Thread nD τ).loc main_arg1) (ix3 ⟨g, hg⟩ k d : S4x128x128.Idx) := by
  refine Eq.trans (b := iblk m c 1 t (ix3 ⟨g, hg⟩ k d : S4x128x128.Idx)) ?_ ?_
  · refine congrArg (iblk m c 1 t) (funext fun a => ?_)
    fin_cases a
    · exact Fin.ext (show g + 1 * 0 = g by omega)
    · exact Fin.ext (show 0 + 1 * k.val = k.val by omega)
    · exact Fin.ext (show 0 + 1 * d.val = d.val by omega)
  · blk_point [iblk, idx t]

/-- The scales from column `o` on. -/
theorem scale_at (c : Dev nD) (t : Fin cfg0.N) (o : ℕ) (hb) (d : Fin 128) (j : Fin 512) (hj : j.val = o + d.val) :
    View.ld (iblk m c 2 t) (Rect.unit (s := S1x512) ![0, o] ![1, 128] hb) (ix2 0 d : S1x128.Idx)
      = m ((c : Thread nD τ).loc main_arg2) (ix1 j : S512.Idx) := by
  refine Eq.trans (b := iblk m c 2 t (ix2 0 j : S1x512.Idx)) ?_ ?_
  · refine congrArg (iblk m c 2 t) (funext fun a => ?_)
    fin_cases a
    · exact Fin.ext (show 0 + 1 * 0 = 0 by omega)
    · exact Fin.ext (show o + 1 * d.val = j.val by omega)
  · blk_point [iblk, idx t]

/-- A group's entry, put together from its block's parts, is the pooled array's entry. -/
theorem whole_at (c : Dev nD) (t : Fin cfg0.N) (g : ℕ) (hg : g < 4) (hx) (hw) (hs) (r : Fin 2048) (d : Fin 128)
    (i : Fin 16384) (j : Fin 1536) (hi : i.val = t.val * 2048 + r.val) (hj : j.val = 1024 + (g * 128 + d.val)) :
    entry (down (View.ld (iblk m c 0 t) (Rect.unit (s := S2048x512) ![0, g * 128] ![2048, 128] hx)))
      (fun k => View.ld (iblk m c 1 t) (Rect.unit (s := S4x128x128) ![g, 0, 0] ![1, 128, 128] hw) (ix3 0 k d : S1x128x128.Idx))
      (window g) r.val (View.ld (iblk m c 2 t) (Rect.unit (s := S1x512) ![0, g * 128] ![1, 128] hs) (ix2 0 d : S1x128.Idx))
      = whole m c i j := by
  have ht : t.val < 8 := (idx t).2.2.2.2
  have hg' : (j.val - 1024) / 128 = g := by omega
  unfold whole pooled
  rw [dif_neg (by omega)]
  refine entry_congr (fun k s => ?_) (fun k => ?_) ?_ ?_ ?_
  · unfold down channel
    by_cases hs : s < 2048
    · rw [dif_pos hs, dif_pos ⟨⟨hs, by omega⟩, by omega⟩]
      exact rows_at m c t _ _ _ _ _ _ (show i.val / 2048 * 2048 + s = t.val * 2048 + s by omega)
        (show (j.val - 1024) / 128 * 128 + k.val = g * 128 + k.val by omega)
    · rw [dif_neg hs, dif_neg (fun h => hs h.1.1)]
  · refine (weight_at m c t g hg _ k d).trans (congrArg (m ((c : Thread nD τ).loc main_arg1)) ?_)
    refine congrArg₂ (fun a b => (ix3 a k b : S4x128x128.Idx)) (Fin.ext hg'.symm) (Fin.ext ?_)
    show d.val = (j.val - 1024) % 128
    omega
  · rw [hg']
  · omega
  · exact scale_at m c t _ _ _ _ (show j.val - 1024 = g * 128 + d.val by omega)

/-- After the run the kernel's result array holds the pooled array. -/
theorem final (c : Dev nD) : (dats m 0 c).arrAt 3 cfg0.N = fun i => whole m c (i 0) (i 1) := by
  refine (dats m 0 c).arrAt_eq_of_coversWhere_of_agree 3 _ (fun β => β (1 : Fin _) = 2) (by decide +kernel) (fun t hf y => ?_)
    (fun j hj => ?_)
  · blk_simp
    rw [after0_3]
    unfold outsAt0
    frame_out
    have ht : t.val < 8 := (idx t).2.2.2.2
    canon_tiles x h
    · idx_vars x
      refine (fourth_at _ _ _ x0 x1).trans (whole_at m c t 3 (by decide) _ _ _ x0 x1 _ _ ?_ ?_) <;> (blk_simp [idx t]; omega)
    · idx_vars x
      refine (third_at _ _ _ x0 x1).trans (whole_at m c t 2 (by decide) _ _ _ x0 x1 _ _ ?_ ?_) <;> (blk_simp [idx t]; omega)
    · idx_vars x
      refine (second_at _ _ _ x0 x1).trans (whole_at m c t 1 (by decide) _ _ _ x0 x1 _ _ ?_ ?_) <;> (blk_simp [idx t]; omega)
    · idx_vars x
      refine (first_at _ _ _ x0 x1).trans (whole_at m c t 0 (by decide) _ _ _ x0 x1 _ _ ?_ ?_) <;> (blk_simp [idx t]; omega)
  · blk_simp [Pipeline.Window.cell_apply] at hj
    unfold whole pooled
    rw [dif_pos (by blk_simp; omega)]
    show V m c main_v2 _ = _
    entry_read
    exact congrArg (m ((c : Thread nD τ).loc main_arg3)) (funext fun a => by fin_cases a <;> rfl)

end Cert.KernelPoolIdeal.Value

end
-- ==== Proof.PoolRef.lean ====
/- The pooling call's reference, entry by entry: its means are differences of running sums. -/
module

public import proofs.«01_k».proof.Proof.Trail
public import proofs.«01_k».proof.Proof.Gen.ReferencePoolIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferencePoolIdeal.Value

open Cert.ReferencePoolIdeal Cert.ReferencePoolIdeal.Gen Cert.Trail

/-- Channel `d` of sequence `b`, zero past its end. -/
def line (x : FVec Ideal S8x2048x512 .f32) (b : Fin 8) (d : Fin 512) (s : ℕ) : EReal :=
  if h : s < 2048 then x (ix3 b ⟨s, h⟩ d) else 0

/-- Adding a list's values one after another adds their sum. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window of all positions up to the own one sums the values up to it. -/
theorem windowed (N : ℕ) (f : ℕ → EReal) (s : ℕ) (hs : s < N + 1) :
    ∑ n : Fin (N + 1), (if N ≤ s + n.val then f (s + n.val - N) else 0) = ∑ n ∈ Finset.range (s + 1), f n := by
  have e : N + 1 = (N - s) + (s + 1) := by omega
  refine (Fin.sum_univ_eq_sum_range (fun n => if N ≤ s + n then f (s + n - N) else 0) (N + 1)).trans ?_
  rw [e, Finset.sum_range_add, Finset.sum_eq_zero, zero_add]
  · refine Finset.sum_congr rfl fun n hn => ?_
    rw [if_pos (by omega)]
    exact congrArg f (by omega)
  · intro n hn
    have := Finset.mem_range.1 hn
    exact if_neg (by omega)

/-- A sum over each window of a padded operand, over the window's indices. -/
theorem window_sum {s t u : Shape} (window strides lo hi : Fin s.rank → ℕ) (x : FVec Ideal s .f32) (v : FVec Ideal u .f32)
    (h : s.ReduceWindows window strides lo hi t) (hu : 0 < u.numel) (j : t.Idx) :
    Host.reduceWindowAdd window strides lo hi x v h hu j = v (Shape.Idx.first hu) + ∑ i : (⟨s.rank, window⟩ : Shape).Idx,
      (if hin : ∀ a, lo a ≤ (j (a.cast h.1.symm)).val * strides a + (i a).val
          ∧ (j (a.cast h.1.symm)).val * strides a + (i a).val - lo a < s.size a then
        x (fun a => ⟨(j (a.cast h.1.symm)).val * strides a + (i a).val - lo a, (hin a).2⟩) else v (Shape.Idx.first hu)) := by
  refine (foldl_sum _ _ _).trans (congrArg (v (Shape.Idx.first hu) + ·) ?_)
  rw [← List.ofFn_eq_map, List.sum_ofFn]
  refine (Finset.sum_congr rfl fun n _ => ?_).trans (Equiv.sum_comp (Shape.rowMajor (⟨s.rank, window⟩ : Shape)).symm fun i : (⟨s.rank, window⟩ : Shape).Idx =>
    (if hin : ∀ a, lo a ≤ (j (a.cast h.1.symm)).val * strides a + (i a).val
          ∧ (j (a.cast h.1.symm)).val * strides a + (i a).val - lo a < s.size a then
        x (fun a => ⟨(j (a.cast h.1.symm)).val * strides a + (i a).val - lo a, (hin a).2⟩) else v (Shape.Idx.first hu)))
  dsimp only
  by_cases hin : ∀ a, lo a ≤ (j (a.cast h.1.symm)).val * strides a + ((Shape.rowMajor (⟨s.rank, window⟩ : Shape)).symm n a).val
      ∧ (j (a.cast h.1.symm)).val * strides a + ((Shape.rowMajor (⟨s.rank, window⟩ : Shape)).symm n a).val - lo a < s.size a
  · rw [dif_pos hin, dif_pos hin]
  · rw [dif_neg hin, dif_neg hin]

/-- The reference's running sums. -/
theorem sums_at (x : FVec Ideal S8x2048x512 .f32) (v : FVec Ideal S_ .f32) (hv : v (Shape.Idx.first h_S_) = 0) (b : Fin 8) (s : Fin 2048) (d : Fin 512) :
    Host.reduceWindowAdd ![1, 2048, 1] ![1, 1, 1] ![0, 2047, 0] ![0, 0, 0] x v
      reduceWindows_S8x2048x512_S8x2048x512_w1s1p0_0_w2048s1p2047_0_w1s1p0_0 h_S_ (ix3 b s d) = ∑ n ∈ Finset.range (s.val + 1), line x b d n := by
  refine Eq.trans ?_ (windowed 2047 (line x b d) s.val s.isLt)
  rw [window_sum, hv, zero_add]
  refine (sum_idx3 _).trans ?_
  rw [Fin.sum_univ_one]
  refine Finset.sum_congr rfl fun n _ => ?_
  rw [Fin.sum_univ_one]
  have hs := s.isLt
  have hn := n.isLt
  have hb := b.isLt
  have hd := d.isLt
  split
  · next hin =>
    have h1 : 2047 ≤ s.val * 1 + n.val ∧ s.val * 1 + n.val - 2047 < 2048 := hin 1
    rw [if_pos (by omega)]
    unfold line
    rw [dif_pos (by omega)]
    refine congrArg x (funext fun a => Fin.ext ?_)
    match a with
    | ⟨0, _⟩ => show b.val * 1 + 0 - 0 = b.val; omega
    | ⟨1, _⟩ => show s.val * 1 + n.val - 2047 = s.val + n.val - 2047; omega
    | ⟨2, _⟩ => show d.val * 1 + 0 - 0 = d.val; omega
  · next hin =>
    rw [if_neg fun hle => hin fun a => ?_]
    match a with
    | ⟨0, _⟩ => show 0 ≤ b.val * 1 + 0 ∧ b.val * 1 + 0 - 0 < 8; omega
    | ⟨1, _⟩ => show 2047 ≤ s.val * 1 + n.val ∧ s.val * 1 + n.val - 2047 < 2048; omega
    | ⟨2, _⟩ => show 0 ≤ d.val * 1 + 0 ∧ d.val * 1 + 0 - 0 < 512; omega

/-- The word zero's value. -/
theorem zero_word : FloatOps.sitofp (F := Ideal) .f32 0#32 = (0 : EReal) := by
  show (((0#32 : BitVec 32).toInt : ℝ) : EReal) = 0
  rw [show (0#32 : BitVec 32).toInt = 0 by decide, Int.cast_zero, EReal.coe_zero]

/-- The running sums with a row of zeros before them. -/
def running (x : FVec Ideal S8x2048x512 .f32) : FVec Ideal S8x2049x512 .f32 :=
  pad S8x2049x512 ![0, 1, 0] ![0, 0, 0] ![0, 0, 0] (Host.reduceWindowAdd ![1, 2048, 1] ![1, 1, 1] ![0, 2047, 0] ![0, 0, 0] x
    (broadcastInDim S_ ![] bcast_S_S_ (constant S_ .f32 0x00000000#32))
    reduceWindows_S8x2048x512_S8x2048x512_w1s1p0_0_w2048s1p2047_0_w1s1p0_0 h_S_) (sitofp .f32 (constantI S_ 32 0#32))
    pads_S8x2048x512_S8x2049x512_000_100_000 h_S_

/-- Its entries: the sum of the values before the row. -/
theorem running_at (x : FVec Ideal S8x2048x512 .f32) (b : Fin 8) (n : Fin 2049) (d : Fin 512) :
    running x (ix3 b n d) = ∑ s ∈ Finset.range n.val, line x b d s := by
  have hz : ∀ i, (broadcastInDim S_ ![] bcast_S_S_ (constant (F := Ideal) S_ .f32 0x00000000#32)) i = (0 : EReal) := fun i => by pointwise
  have hb := b.isLt
  have hn := n.isLt
  have hd := d.isLt
  unfold running pad
  split
  · next hin =>
    have h1 : 1 ≤ n.val ∧ (n.val - 1) % (0 + 1) = 0 ∧ (n.val - 1) / (0 + 1) < 2048 := hin 1
    refine Eq.trans ?_ ((sums_at x _ (hz _) b ⟨n.val - 1, by omega⟩ d).trans (congrArg (fun k => ∑ s ∈ Finset.range k, line x b d s)
      (show n.val - 1 + 1 = n.val by omega)))
    refine congrArg _ (funext fun a => Fin.ext ?_)
    match a with
    | ⟨0, _⟩ => show (b.val - 0) / (0 + 1) = b.val; omega
    | ⟨1, _⟩ => show (n.val - 1) / (0 + 1) = n.val - 1; omega
    | ⟨2, _⟩ => show (d.val - 0) / (0 + 1) = d.val; omega
  · next hin =>
    have h0 : n.val = 0 := by
      by_contra h0
      refine hin fun a => ?_
      match a with
      | ⟨0, _⟩ => show 0 ≤ b.val ∧ (b.val - 0) % (0 + 1) = 0 ∧ (b.val - 0) / (0 + 1) < 8; omega
      | ⟨1, _⟩ => show 1 ≤ n.val ∧ (n.val - 1) % (0 + 1) = 0 ∧ (n.val - 1) / (0 + 1) < 2048; omega
      | ⟨2, _⟩ => show 0 ≤ d.val ∧ (d.val - 0) % (0 + 1) = 0 ∧ (d.val - 0) / (0 + 1) < 512; omega
    rw [h0, Finset.sum_range_zero]
    exact zero_word

/-- Rows taken by a column of row numbers: each read signed and held inside the operand. -/
theorem taken_at (y : FVec Ideal S8x2049x128 .f32) (j : IVec S2048x1 32) (b : Fin 8) (t : Fin 2048) (d : Fin 128) (n : Fin 2049)
    (hn : n.val = min (j (ix2 t 0)).toInt.toNat 2048) :
    Host.gather gather_S8x2049x128_S2048x1_S8x2048x128_02_1_n_n_1_1_81128 y j (ix3 b t d) = y (ix3 b n d) := by
  unfold Host.gather
  refine congrArg y (funext fun a => Fin.ext ?_)
  match a with
  | ⟨0, _⟩ => show 0 + 0 + b.val = b.val; omega
  | ⟨1, _⟩ =>
    refine Eq.trans ?_ hn.symm
    show min (j _).toInt.toNat (2049 - 1) = _
    refine congrArg (fun i => min (j i).toInt.toNat 2048) (funext fun a => ?_)
    match a with
    | ⟨0, _⟩ => rfl
    | ⟨1, _⟩ => rfl
  | ⟨2, _⟩ => show 0 + 0 + d.val = d.val; omega

/-- The number of the row before the first of each position's values. -/
def starts (w : BitVec 32) : IVec S2048 32 :=
  maxsi (subi (addi (broadcastInDim S2048 ![] bcast_S_S2048 (constantI S_ 32 1#32)) (iotaInDim S2048 32 0))
    (broadcastInDim S2048 ![] bcast_S_S2048 (constantI S_ 32 w))) (broadcastInDim S2048 ![] bcast_S_S2048 (constantI S_ 32 0#32))

/-- The same as the rows are taken by it: a negative one counted from the end. -/
def column (w : BitVec 32) : IVec S2048x1 32 :=
  broadcastInDim S2048x1 ![0] bcast_S2048_S2048x1_0 (select (cmpi .slt (starts w) (broadcastInDim S2048 ![] bcast_S_S2048 (constantI S_ 32 0#32)))
    (addi (starts w) (broadcastInDim S2048 ![] bcast_S_S2048 (constantI S_ 32 2049#32))) (starts w))

/-- Position `t`'s word in it. -/
def word (w : BitVec 32) (t : ℕ) : BitVec 32 :=
  let l := IntOp.maxsi (IntOp.subi (IntOp.addi 1#32 (BitVec.ofNat 32 t)) w) 0#32
  if IntOp.cmpi .slt l 0#32 = 1#1 then IntOp.addi l 2049#32 else l

/-- A column's entry is its word. -/
theorem column_at (w : BitVec 32) (t : Fin 2048) : column w (ix2 t 0) = word w t.val := by
  unfold column starts word
  pointwise
  rfl

/-- Whether the words stand for the row numbers `t + 1 - w`, at every position. -/
def Starts (w : BitVec 32) : Prop := ∀ t : Fin 2048, min (word w t.val).toInt.toNat 2048 = t.val + 1 - w.toNat

/-- They do, at each of the four widths. -/
theorem starts_two : Starts 2#32 := by unfold Starts; decide +kernel
theorem starts_four : Starts 4#32 := by unfold Starts; decide +kernel
theorem starts_eight : Starts 8#32 := by unfold Starts; decide +kernel
theorem starts_sixteen : Starts 16#32 := by unfold Starts; decide +kernel

/-- A group's means less the group, as the reference takes them. -/
def group (o : ℕ) (w : BitVec 32) (h : S8x2049x512.Slices ![0, 0, o] S8x2049x128) (h' : S8x2048x512.Slices ![0, 0, o] S8x2048x128)
    (x : FVec Ideal S8x2048x512 .f32) : FVec Ideal S8x2048x128 .f32 :=
  subf (Host.divf (subf (extractStridedSlice S8x2048x128 ![0, 1, 0] (extractStridedSlice S8x2049x128 ![0, 0, o] (running x) h)
      slices_S8x2049x128_S8x2048x128_0_1_0)
    (Host.gather gather_S8x2049x128_S2048x1_S8x2048x128_02_1_n_n_1_1_81128 (extractStridedSlice S8x2049x128 ![0, 0, o] (running x) h) (column w)))
    (broadcastInDim S8x2048x128 ![0, 1, 2] bcast_S1x2048x1_S8x2048x128_0_1_2 (broadcastInDim S1x2048x1 ![1] bcast_S2048_S1x2048x1_1
      (sitofp .f32 (minsi (addi (broadcastInDim S2048 ![] bcast_S_S2048 (constantI S_ 32 1#32)) (iotaInDim S2048 32 0))
        (broadcastInDim S2048 ![] bcast_S_S2048 (constantI S_ 32 w)))))))
    (extractStridedSlice S8x2048x128 ![0, 0, o] x h')

/-- Columns from `o` on. -/
theorem sliced_at (y : FVec Ideal S8x2049x512 .f32) (o : ℕ) (h) (b : Fin 8) (n : Fin 2049) (k : Fin 128) (d : Fin 512) (hd : d.val = o + k.val) :
    extractStridedSlice S8x2049x128 ![0, 0, o] y h (ix3 b n k) = y (ix3 b n d) := by
  refine congrArg y (funext fun a => Fin.ext ?_)
  match a with
  | ⟨0, _⟩ => show 0 + b.val = b.val; omega
  | ⟨1, _⟩ => show 0 + n.val = n.val; omega
  | ⟨2, _⟩ => exact hd.symm

/-- Rows one further on. -/
theorem moved_at (y : FVec Ideal S8x2049x128 .f32) (b : Fin 8) (t : Fin 2048) (k : Fin 128) (n : Fin 2049) (hn : n.val = t.val + 1) :
    extractStridedSlice S8x2048x128 ![0, 1, 0] y slices_S8x2049x128_S8x2048x128_0_1_0 (ix3 b t k) = y (ix3 b n k) := by
  refine congrArg y (funext fun a => Fin.ext ?_)
  match a with
  | ⟨0, _⟩ => show 0 + b.val = b.val; omega
  | ⟨1, _⟩ => show 1 + t.val = n.val; omega
  | ⟨2, _⟩ => show 0 + k.val = k.val; omega

/-- A group's entries, of finite values. -/
theorem group_at (o : ℕ) (w : BitVec 32) (h) (h') (x : FVec Ideal S8x2048x512 .f32) (hx : ∀ i, ∃ r : ℝ, x i = (r : EReal))
    (hw : Starts w) (b : Fin 8) (t : Fin 2048) (k : Fin 128) (d : Fin 512) (hd : d.val = o + k.val) :
    group o w h h' x (ix3 b t k) = mean (line x b d) w t.val := by
  have hf : ∀ s, ∃ r : ℝ, line x b d s = (r : EReal) := fun s => by
    unfold line
    split
    · exact hx _
    · exact ⟨0, EReal.coe_zero.symm⟩
  have hrow : Host.gather gather_S8x2049x128_S2048x1_S8x2048x128_02_1_n_n_1_1_81128 (extractStridedSlice S8x2049x128 ![0, 0, o] (running x) h)
      (column w) (ix3 b t k) = ∑ s ∈ Finset.range (t.val + 1 - w.toNat), line x b d s := by
    refine (taken_at _ _ b t k ⟨t.val + 1 - w.toNat, by omega⟩ ?_).trans ?_
    · rw [column_at]
      exact (hw t).symm
    · exact (sliced_at _ o h b _ k d hd).trans (running_at x b _ d)
  have hall : extractStridedSlice S8x2048x128 ![0, 1, 0] (extractStridedSlice S8x2049x128 ![0, 0, o] (running x) h)
      slices_S8x2049x128_S8x2048x128_0_1_0 (ix3 b t k) = ∑ s ∈ Finset.range (t.val + 1), line x b d s := by
    exact (moved_at _ b t k ⟨t.val + 1, by omega⟩ rfl).trans ((sliced_at _ o h b _ k d hd).trans (running_at x b _ d))
  have hown : extractStridedSlice S8x2048x128 ![0, 0, o] x h' (ix3 b t k) = line x b d t.val := by
    unfold line
    rw [dif_pos t.isLt]
    refine congrArg x (funext fun a => Fin.ext ?_)
    match a with
    | ⟨0, _⟩ => show 0 + b.val = b.val; omega
    | ⟨1, _⟩ => show 0 + t.val = t.val; omega
    | ⟨2, _⟩ => exact hd.symm
  unfold mean
  rw [← trail_eq_sub _ hf, ← hrow, ← hall, ← hown]
  unfold group counted
  rw [show IntOp.addi (BitVec.ofNat 32 t.val) 1#32 = IntOp.addi 1#32 (BitVec.ofNat 32 t.val) from BitVec.add_comm _ _]
  generalize Host.gather gather_S8x2049x128_S2048x1_S8x2048x128_02_1_n_n_1_1_81128 (extractStridedSlice S8x2049x128 ![0, 0, o] (running x) h)
      (column w) = u
  generalize extractStridedSlice S8x2048x128 ![0, 1, 0] (extractStridedSlice S8x2049x128 ![0, 0, o] (running x) h)
      slices_S8x2049x128_S8x2048x128_0_1_0 = v
  generalize extractStridedSlice S8x2048x128 ![0, 0, o] x h' = z
  pointwise

/-- Four groups side by side. -/
def side (y0 y1 y2 y3 : FVec Ideal S8x2048x128 .f32) : FVec Ideal S8x2048x4x128 .f32 :=
  concatenate S8x2048x4x128 2
    [⟨S8x2048x1x128, broadcastInDim S8x2048x1x128 ![0, 1, 3] bcast_S8x2048x128_S8x2048x1x128_0_1_3 y0⟩,
     ⟨S8x2048x1x128, broadcastInDim S8x2048x1x128 ![0, 1, 3] bcast_S8x2048x128_S8x2048x1x128_0_1_3 y1⟩,
     ⟨S8x2048x1x128, broadcastInDim S8x2048x1x128 ![0, 1, 3] bcast_S8x2048x128_S8x2048x1x128_0_1_3 y2⟩,
     ⟨S8x2048x1x128, broadcastInDim S8x2048x1x128 ![0, 1, 3] bcast_S8x2048x128_S8x2048x1x128_0_1_3 y3⟩]
    concatenates_S8x2048x1x128_S8x2048x1x128_S8x2048x1x128_S8x2048x1x128_S8x2048x4x128_d2

/-- Each at its place. -/
theorem side_at (y0 y1 y2 y3 : FVec Ideal S8x2048x128 .f32) (b : Fin 8) (t : Fin 2048) (k : Fin 128) :
    side y0 y1 y2 y3 (ix4 b t 0 k) = y0 (ix3 b t k) ∧ side y0 y1 y2 y3 (ix4 b t 1 k) = y1 (ix3 b t k)
      ∧ side y0 y1 y2 y3 (ix4 b t 2 k) = y2 (ix3 b t k) ∧ side y0 y1 y2 y3 (ix4 b t 3 k) = y3 (ix3 b t k) := by
  unfold side
  refine ⟨?_, ?_, ?_, ?_⟩ <;> pointwise

/-- The four groups of the channels. -/
def groups (x : FVec Ideal S8x2048x512 .f32) : FVec Ideal S8x2048x4x128 .f32 :=
  side (group 0 2#32 slices_S8x2049x512_S8x2049x128_0_0_0 slices_S8x2048x512_S8x2048x128_0_0_0 x)
    (group 128 4#32 slices_S8x2049x512_S8x2049x128_0_0_128 slices_S8x2048x512_S8x2048x128_0_0_128 x)
    (group 256 8#32 slices_S8x2049x512_S8x2049x128_0_0_256 slices_S8x2048x512_S8x2048x128_0_0_256 x)
    (group 384 16#32 slices_S8x2049x512_S8x2049x128_0_0_384 slices_S8x2048x512_S8x2048x128_0_0_384 x)

/-- Their entries. -/
theorem groups_at (x : FVec Ideal S8x2048x512 .f32) (hx : ∀ i, ∃ r : ℝ, x i = (r : EReal)) (b : Fin 8) (t : Fin 2048) (g : Fin 4) (k : Fin 128)
    (d : Fin 512) (hd : d.val = g.val * 128 + k.val) : groups x (ix4 b t g k) = mean (line x b d) (window g.val) t.val := by
  unfold groups
  match g with
  | ⟨0, _⟩ => exact (side_at _ _ _ _ b t k).1.trans (group_at 0 2#32 _ _ x hx starts_two b t k d hd)
  | ⟨1, _⟩ => exact (side_at _ _ _ _ b t k).2.1.trans (group_at 128 4#32 _ _ x hx starts_four b t k d hd)
  | ⟨2, _⟩ => exact (side_at _ _ _ _ b t k).2.2.1.trans (group_at 256 8#32 _ _ x hx starts_eight b t k d hd)
  | ⟨3, _⟩ => exact (side_at _ _ _ _ b t k).2.2.2.trans (group_at 384 16#32 _ _ x hx starts_sixteen b t k d hd)

/-- The same of the channels as they are given, token after token. -/
theorem groups_of (x : FVec Ideal S16384x512 .f32) (hx : ∀ i, ∃ r : ℝ, x i = (r : EReal)) (i : Fin 16384) (g : ℕ) (hg : g < 4) (k : Fin 128) :
    groups (shapeCast _ x shapeCasts_S16384x512_S8x2048x512) (ix4 ⟨i.val / 2048, by omega⟩ ⟨i.val % 2048, by omega⟩ ⟨g, hg⟩ k)
      = mean (channel (fun r k => x (ix2 r k)) (i.val / 2048) (g * 128 + k.val)) (window g) (i.val % 2048) := by
  have hX : ∀ j, ∃ r : ℝ, shapeCast S8x2048x512 x shapeCasts_S16384x512_S8x2048x512 j = (r : EReal) := fun j => hx _
  have hb : i.val / 2048 < 8 := by omega
  have hd : g * 128 + k.val < 512 := by omega
  refine (groups_at _ hX _ _ ⟨g, hg⟩ k ⟨g * 128 + k.val, hd⟩ rfl).trans ?_
  refine congrArg (fun f => mean f (window g) (i.val % 2048)) (funext fun t => ?_)
  unfold line channel
  by_cases ht : t < 2048
  · rw [dif_pos ht, dif_pos ⟨⟨ht, hb⟩, hd⟩]
    pointwise
  · rw [dif_neg ht, dif_neg fun h => ht h.1.1]

/-- The reference's pooled channels. -/
def pooledOf (x : FVec Ideal S16384x512 .f32) (w : FVec Ideal S4x128x128 .f32) (s : FVec Ideal S512 .f32) : FVec Ideal S16384x512 .bf16 :=
  truncf .bf16 (shapeCast _ (mulf (shapeCast _ (transpose S8x2048x4x128 [2, 3, 0, 1]
    (Host.dotGeneral dot_S4x128x128_S8x2048x4x128_S4x128x8x2048_1_3_2_01_0_2 none w
      (groups (shapeCast _ x shapeCasts_S16384x512_S8x2048x512))) transposes_S4x128x8x2048_S8x2048x4x128_2_3_0_1)
      shapeCasts_S8x2048x4x128_S8x2048x512)
    (broadcastInDim S8x2048x512 ![0, 1, 2] bcast_S1x1x512_S8x2048x512_0_1_2 (broadcastInDim S1x1x512 ![2] bcast_S512_S1x1x512_2 s)))
    shapeCasts_S8x2048x512_S16384x512) bitsLt_bf16_f32

variable (m : (ℓ : Loc nD τ sig) → Buf (Elt Ideal) ℓ)

/-- The reference's result, of them. -/
theorem out_eq (c : Dev nD) : res_out0 m c = concatenate S16384x1536 1
    [⟨S16384x1024, extractStridedSlice S16384x1024 ![0, 0] (m ((c.tc : Thread nD τ).loc main_arg3)) slices_S16384x1536_S16384x1024_0_0⟩,
     ⟨S16384x512, pooledOf (m ((c.tc : Thread nD τ).loc main_arg0)) (m ((c.tc : Thread nD τ).loc main_arg1)) (m ((c.tc : Thread nD τ).loc main_arg2))⟩]
    concatenates_S16384x1024_S16384x512_S16384x1536_d1 := rfl

/-- A pooled channel's entry. -/
theorem pooledOf_at (x : FVec Ideal S16384x512 .f32) (w : FVec Ideal S4x128x128 .f32) (s : FVec Ideal S512 .f32)
    (hx : ∀ i, ∃ r : ℝ, x i = (r : EReal)) (i : Fin 16384) (j : Fin 512) :
    pooledOf x w s (ix2 i j) = entry (fun k => channel (fun r k => x (ix2 r k)) (i.val / 2048) (j.val / 128 * 128 + k.val))
      (fun k => w (ix3 ⟨j.val / 128, by omega⟩ k ⟨j.val % 128, by omega⟩)) (window (j.val / 128)) (i.val % 2048) (s (ix1 j)) := by
  unfold pooledOf entry
  pointwise
  refine congrArg (· * s (ix1 j)) (Finset.sum_congr rfl fun k _ => ?_)
  exact (congrArg (w _ * ·) (groups_of x hx i (j.val / 128) (by omega) k)).trans (mul_comm _ _)

/-- The reference's entries. -/
theorem out_at (c : Dev nD) (hx : ∀ i : S16384x512.Idx, ∃ r : ℝ, m ((c.tc : Thread nD τ).loc main_arg0) i = (r : EReal)) (i : Fin 16384) (j : Fin 1536) :
    res_out0 m c (ix2 i j : S16384x1536.Idx)
      = pooled (fun r k => m ((c : Thread nD τ).loc main_arg0) (ix2 r k : S16384x512.Idx))
        (fun g k d => m ((c : Thread nD τ).loc main_arg1) (ix3 g k d : S4x128x128.Idx))
        (fun k => m ((c : Thread nD τ).loc main_arg2) (ix1 k : S512.Idx))
        (fun r k => m ((c : Thread nD τ).loc main_arg3) (ix2 r k : S16384x1536.Idx)) i j := by
  rw [out_eq]
  unfold pooled
  by_cases h : j.val < 1024
  · rw [dif_pos h]
    generalize pooledOf _ _ _ = p
    pointwise
    exact dif_pos h
  · rw [dif_neg h]
    refine Eq.trans ?_ (pooledOf_at _ _ _ hx i ⟨j.val - 1024, by omega⟩)
    generalize pooledOf _ _ _ = p
    pointwise
    exact dif_neg h

end Cert.ReferencePoolIdeal.Value

end
-- ==== Proof.Compressed.lean ====
/- The compression of keys and values as functions of the layer's arguments: blocks of 32 tokens with their own
   positions added, through a small network of two products, over the extended reals. -/
module

public import proofs.«01_k».proof.Proof.Turn

@[expose] public section

set_option maxRecDepth 16384

noncomputable section

open Idealize.ShloMosaic

namespace Cert.Compressed

/-- The network's activation, with its printed constants. -/
def gelu (y : EReal) : EReal :=
  y * (Ideal.ofBits .f32 0x3F000000#32 * (1
    + Ideal.tanh (Ideal.ofBits .f32 0x3F4C422A#32 * (y + Ideal.ofBits .f32 0x3D372713#32 * (y * (y * y))))))

/-- Entry `v` of the block that begins at chunk `j`, for slab `s`: its second half is the next chunk, the first chunk
    after the last. -/
def block (x : Fin 1024 → Fin 8192 → EReal) (j : Fin 1024) (s : Fin 8) (v : Fin 2048) : EReal :=
  x ⟨(j.val + v.val / 1024) % 1024, Nat.mod_lt _ (by decide)⟩ ⟨s.val * 1024 + v.val % 1024, by omega⟩

/-- The hidden values of a block. -/
def hidden (X P : Fin 2048 → EReal) (W : Fin 2048 → Fin 128 → EReal) (k : Fin 128) : EReal :=
  gelu (∑ v, (X v + P v) * W v k)

/-- Column `d` of a block's result, zero past the 64 columns of a head. -/
def result (X P : Fin 2048 → EReal) (W : Fin 2048 → Fin 128 → EReal) (W' : Fin 128 → Fin 64 → EReal) (d : ℕ) : EReal :=
  ∑ k, hidden X P W k * (if h : d < 64 then W' k ⟨d, h⟩ else 0)

/-- Past the head's columns it is zero. -/
theorem result_past (X P : Fin 2048 → EReal) (W : Fin 2048 → Fin 128 → EReal) (W' : Fin 128 → Fin 64 → EReal) (d : ℕ) (h : ¬ d < 64) :
    result X P W W' d = 0 := by
  unfold result
  simp only [dif_neg h, mul_zero, Finset.sum_const_zero]

/-- Turning leaves it zero there. -/
theorem turn_past (a : Fin 8 → EReal) (X P : Fin 2048 → EReal) (W : Fin 2048 → Fin 128 → EReal) (W' : Fin 128 → Fin 64 → EReal) (d : ℕ)
    (h : ¬ d < 64) (hd : d < 128) : Turn.turn a (result X P W W') d = 0 := by
  unfold Turn.turn
  rw [result_past X P W W' d h]
  split_ifs with h8 h16
  · rw [result_past X P W W' (d + 8) (by omega), zero_mul, zero_mul, sub_zero]
  · rw [result_past X P W W' (d - 8) (by omega), zero_mul, zero_mul, add_zero]
  · rfl

/-- The product with a real number goes over the sum of anything and a real number. -/
theorem add_mul_real (x : EReal) (p w : ℝ) : (x + (p : EReal)) * (w : EReal) = x * (w : EReal) + (p : EReal) * (w : EReal) := by
  induction x with
  | bot =>
    rw [EReal.bot_add]
    rcases lt_trichotomy w 0 with h | h | h
    · rw [EReal.bot_mul_coe_of_neg h, ← EReal.coe_mul, EReal.top_add_coe]
    · rw [h, EReal.coe_zero, mul_zero, mul_zero, add_zero]
    · rw [EReal.bot_mul_coe_of_pos h, EReal.bot_add]
  | top =>
    rw [EReal.top_add_coe]
    rcases lt_trichotomy w 0 with h | h | h
    · rw [EReal.top_mul_coe_of_neg h, EReal.bot_add]
    · rw [h, EReal.coe_zero, mul_zero, mul_zero, add_zero]
    · rw [EReal.top_mul_coe_of_pos h, ← EReal.coe_mul, EReal.top_add_coe]
  | coe x =>
    rw [← EReal.coe_add, ← EReal.coe_mul, ← EReal.coe_mul, ← EReal.coe_mul, ← EReal.coe_add, add_mul]

/-- A sum over 2048 entries in two halves. -/
theorem halves (f : Fin 2048 → EReal) :
    ∑ v, f v = ∑ u : Fin 1024, f ⟨u.val, by omega⟩ + ∑ u : Fin 1024, f ⟨1024 + u.val, by omega⟩ :=
  Fin.sum_univ_add (a := 1024) (b := 1024) f

/-- The block's product from the products of its two chunks and of its positions. -/
theorem joined (x : Fin 1024 → Fin 8192 → EReal) (j : Fin 1024) (s : Fin 8) (P W : Fin 2048 → EReal)
    (hP : ∀ v, ∃ r : ℝ, P v = (r : EReal)) (hW : ∀ v, ∃ r : ℝ, W v = (r : EReal)) :
    (∑ u : Fin 1024, x j ⟨s.val * 1024 + u.val, by omega⟩ * W ⟨u.val, by omega⟩
      + ∑ u : Fin 1024, x ⟨(j.val + 1) % 1024, Nat.mod_lt _ (by decide)⟩ ⟨s.val * 1024 + u.val, by omega⟩ * W ⟨1024 + u.val, by omega⟩)
      + ∑ v, P v * W v = ∑ v, (block x j s v + P v) * W v := by
  have e : ∀ v, (block x j s v + P v) * W v = block x j s v * W v + P v * W v := fun v => by
    obtain ⟨p, hp⟩ := hP v
    obtain ⟨w, hw⟩ := hW v
    rw [hp, hw, add_mul_real]
  simp only [e]
  rw [Finset.sum_add_distrib, halves fun v => block x j s v * W v]
  refine congrArg (· + _) (congrArg₂ (· + ·) (Finset.sum_congr rfl fun u _ => ?_) (Finset.sum_congr rfl fun u _ => ?_))
  · unfold block
    refine congrArg (· * _) (congrArg₂ x (Fin.ext ?_) (Fin.ext ?_))
    · dsimp only; omega
    · dsimp only; omega
  · unfold block
    refine congrArg (· * _) (congrArg₂ x (Fin.ext ?_) (Fin.ext ?_))
    · dsimp only; omega
    · dsimp only; omega

/-- One entry of the compressed keys and values: keys, in the first four slabs, turned by their position's angles. -/
def entry (a : Fin 8 → EReal) (x : Fin 1024 → Fin 8192 → EReal) (P : Fin 2 → Fin 2048 → EReal) (W : Fin 2 → Fin 2048 → Fin 128 → EReal)
    (W' : Fin 2 → Fin 128 → Fin 64 → EReal) (j : Fin 1024) (s : Fin 8) (d : ℕ) : EReal :=
  if s.val < 4 then Turn.turn a (result (block x j s) (P 0) (W 0) (W' 0)) d else result (block x j s) (P 1) (W 1) (W' 1) d

/-- The position of a block: that of its last token, zero for the one after a sequence's last. -/
def position (p : Fin 8 → Fin 2048 → BitVec 32) (j : Fin 1024) : BitVec 32 :=
  if h : j.val % 128 < 127 then p ⟨j.val / 128, by omega⟩ ⟨j.val % 128 * 16 + 31, by omega⟩ else 0#32

end Cert.Compressed

end
-- ==== Proof.CmpBody.lean ====
/- The compression's body, value by value: the products of a slab's chunks with both halves of the weight, the network's
   result, and its turn, each at an entry. -/
module

public import proofs.«01_k».proof.Proof.Compressed
public import proofs.«01_k».proof.Proof.Gen.KernelCmpIdeal.Skeleton
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.KernelCmpIdeal.Value

open Cert.KernelCmpIdeal Cert.KernelCmpIdeal.Gen Cert.Turn Cert.Compressed

/-- The lane's place within its head is below eight where the mask says so. -/
theorem lane : ∀ d : Fin 128, IntOp.cmpi CmpIPredicate.slt (IntOp.andi (BitVec.ofNat 32 d.val) 63#32) 8#32
    = if d.val % 64 < 8 then 1#1 else 0#1 := by decide +kernel

/-- The stored block: columns turned by the table where the slab is one of keys, as they are elsewhere. -/
theorem stored_at (y : FVec Ideal S1024x128 .f32) (b : BitVec 1) (tab : FVec Ideal S1024x256 .f32) (r : Fin 1024) (d : Fin 128)
    (a : Fin 8 → EReal) (v : ℕ → EReal) (hy : ∀ e : Fin 128, y (ix2 r e) = v e.val) (ht : ∀ e : Fin 256, tab (ix2 r e) = tabAt a e.val) :
    k1_pay1 (F := Ideal) y b tab (ix2 r d) = if b = 1#1 then turn a v d.val else v d.val := by
  have e : k1_pay1 (F := Ideal) y b tab (ix2 r d) = if b = 1#1 then y (ix2 r d) * tab (ix2 r ⟨d.val, by omega⟩)
      + (if d.val % 64 < 8 then y (ix2 r ⟨(d.val + 8) % 128, Nat.mod_lt _ (by decide)⟩)
          else y (ix2 r ⟨(d.val + 120) % 128, Nat.mod_lt _ (by decide)⟩)) * tab (ix2 r ⟨128 + d.val, by omega⟩) else y (ix2 r d) := by
    have hb : ∀ b : BitVec 1, b = 1#1 ∨ b = 0#1 := by decide
    pointwise [k1_pay1]
    rw [lane d]
    have e1 : (⟨(d.val + 128 - 120) % 128, Nat.mod_lt _ (by decide)⟩ : Fin 128) = ⟨(d.val + 8) % 128, Nat.mod_lt _ (by decide)⟩ :=
      Fin.ext (by dsimp only; omega)
    have e2 : (⟨(d.val + 128 - 8) % 128, Nat.mod_lt _ (by decide)⟩ : Fin 128) = ⟨(d.val + 120) % 128, Nat.mod_lt _ (by decide)⟩ :=
      Fin.ext (by dsimp only; omega)
    rw [← e1, ← e2]
    rcases hb b with rfl | rfl
    · rw [if_pos rfl]
      split_ifs <;> rfl
    · rw [if_neg (show ¬ (0#1 : BitVec 1) = 1#1 by decide)]
      rfl
  rw [e, hy d]
  refine congrArg (fun z => if b = 1#1 then z else v d.val) ?_
  rw [← turn_eq a v d.val, ht, ht]
  dsimp only
  have c1 : tabAt a d.val = cosAt a d.val := by
    unfold tabAt
    rw [if_pos d.isLt]
  have c2 : tabAt a (128 + d.val) = sinAt a d.val := by
    unfold tabAt
    rw [if_neg (by omega), Nat.add_sub_cancel_left]
  rw [c1, c2]
  by_cases h8 : d.val % 64 < 8
  · rw [if_pos h8, if_pos h8, hy]
    exact congrArg (fun n => _ + v n * _) (show (d.val + 8) % 128 = d.val + 8 by omega)
  · rw [if_neg h8, if_neg h8, hy]
    by_cases h16 : d.val % 64 < 16
    · exact congrArg (fun n => _ + v n * _) (show (d.val + 120) % 128 = d.val - 8 by omega)
    · rw [← sinAt_plain a d.val h16, mul_zero, mul_zero]

/-- The network's result on a slab's blocks. -/
theorem made_at (x : FVec Ideal S1024x1024 .bf16) (w : FVec Ideal S1x1024x256 .bf16) (p : FVec Ideal S1x8x2048 .bf16)
    (w1 : FVec Ideal S1x2048x128 .bf16) (w2 : FVec Ideal S1x128x128 .bf16) (r : Fin 1024) (d : Fin 128) :
    k1_pay2 (F := Ideal) x w p w1 w2 (ix2 r d)
      = ∑ k : Fin 128, gelu ((∑ u : Fin 1024, x (ix2 r u) * w (ix3 0 u ⟨k.val, by omega⟩)
          + ∑ u : Fin 1024, x (ix2 ⟨(r.val + 1) % 1024, Nat.mod_lt _ (by decide)⟩ u) * w (ix3 0 u ⟨128 + k.val, by omega⟩))
          + ∑ v : Fin 2048, p (ix3 0 0 v) * w1 (ix3 0 v k)) * w2 (ix3 0 k d) := by
  have e : (⟨(r.val + 1024 - 1023) % 1024, Nat.mod_lt _ (by decide)⟩ : Fin 1024) = ⟨(r.val + 1) % 1024, Nat.mod_lt _ (by decide)⟩ :=
    Fin.ext (by dsimp only; omega)
  unfold gelu
  rw [← e]
  pointwise [k1_pay2]

end Cert.KernelCmpIdeal.Value

end
-- ==== Proof.CmpTable.lean ====
/- What the rotary-table call before the compression leaves: at each block, the cosines and signed sines of its position's
   angles, laid out over the columns of a head. -/
module

public import proofs.«01_k».proof.Proof.Turn
public import proofs.«01_k».proof.Proof.Gen.KernelCmpIdeal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelCmpIdeal.Value

open Cert.KernelCmpIdeal Cert.KernelCmpIdeal.Gen Cert.Turn

/-- The angles of one position: the position times each speed. -/
def angles (p : BitVec 32) (f : Fin 8 → EReal) (j : Fin 8) : EReal := FloatOps.sitofp (F := Ideal) .f32 p * f j

/-- The body's angles. -/
theorem angle_at (p : IVec S1x1024 32) (f : FVec Ideal S8x1 .f32) (j : Fin 8) (r : Fin 1024) :
    k0_pay1 (F := Ideal) p f (ix2 j r) = angles (p (ix2 0 r)) (fun j => f (ix2 j 0)) j := by
  pointwise [k0_pay1]
  rfl

/-- The rows of cosines. -/
theorem cos_rows (p : IVec S1x1024 32) (f : FVec Ideal S8x1 .f32) (d : Fin 128) (r : Fin 1024) :
    k0_pay2 (F := Ideal) p f (ix2 d r) = cosAt (angles (p (ix2 0 r)) (fun j => f (ix2 j 0))) d.val := by
  pointwise [k0_pay2]
  simp only [angle_at]
  split_ifs <;> first
    | exact cosAt_turned _ _ _ (by omega) (by dsimp only; omega)
    | exact cosAt_plain _ _ (by omega)

/-- The rows of signed sines. -/
theorem sin_rows (p : IVec S1x1024 32) (f : FVec Ideal S8x1 .f32) (d : Fin 128) (r : Fin 1024) :
    k0_pay3 (F := Ideal) p f (ix2 d r) = sinAt (angles (p (ix2 0 r)) (fun j => f (ix2 j 0))) d.val := by
  pointwise [k0_pay3]
  simp only [angle_at]
  split_ifs <;> first
    | exact sinAt_low _ _ _ (by omega) (by dsimp only; omega)
    | exact sinAt_high _ _ _ (by omega) (by omega) (by dsimp only; omega)
    | exact sinAt_plain _ _ (by omega)

/-- Where each window's block stands at each grid point, in blocks. -/
theorem idx0 : ∀ t : Fin cfg0.N, win0_0.index t = ![0, t.val] ∧ win0_1.index t = ![0, 0] ∧ win0_2.index t = ![t.val, 0]
    ∧ t.val < 1 :=
  (by decide +kernel : ∀ t : Fin grid0.N, _)

variable (V : (c : Dev nD) → (b : Ref sig .tc) → Buf (Elt Ideal) ((c : Thread nD τ).loc b))

/-- One entry of the table from the buffers the call reads. -/
def tableAt (p : (⟨S1x1024, .i32⟩ : BufTy).Contents (Elt Ideal)) (f : (⟨S8x1, .f32⟩ : BufTy).Contents (Elt Ideal))
    (r : Fin 1024) (d : ℕ) : EReal :=
  tabAt (angles (p (ix2 0 r)) (fun j => f (ix2 j 0))) d

/-- A row of cosines, read where the call leaves it. -/
theorem cos_at (c : Dev nD) (t : Fin cfg0.N) (d : Fin 128) (r : Fin 1024) (i : Fin 1024) (e : ℕ)
    (hi : i.val = t.val * 1024 + r.val) (he : e = d.val) :
    k0_pay2 (F := Ideal) (iblk0 V c 0 t) (iblk0 V c 1 t) (ix2 d r) = tableAt (V c main_v9) (V c main_v10) i e := by
  subst he
  refine (cos_rows _ _ d r).trans ?_
  unfold tableAt tabAt
  rw [if_pos d.isLt]
  refine congrArg₂ (fun p f => cosAt (angles p f) d.val) ?_ (funext fun j => ?_)
  · blk_point [iblk0, idx0 t]
  · blk_point [iblk0, idx0 t]

/-- A row of signed sines, read where the call leaves it. -/
theorem sin_at (c : Dev nD) (t : Fin cfg0.N) (d : Fin 128) (r : Fin 1024) (i : Fin 1024) (e : ℕ)
    (hi : i.val = t.val * 1024 + r.val) (he : e = 128 + d.val) :
    k0_pay3 (F := Ideal) (iblk0 V c 0 t) (iblk0 V c 1 t) (ix2 d r) = tableAt (V c main_v9) (V c main_v10) i e := by
  subst he
  refine (sin_rows _ _ d r).trans ?_
  unfold tableAt tabAt
  rw [if_neg (by omega), Nat.add_sub_cancel_left]
  refine congrArg₂ (fun p f => sinAt (angles p f) d.val) ?_ (funext fun j => ?_)
  · blk_point [iblk0, idx0 t]
  · blk_point [iblk0, idx0 t]

/-- A stored block of cosines: a slice of the rows, transposed. -/
theorem cos_piece (c : Dev nD) (t : Fin cfg0.N) (o : ℕ) (ho) (r d : Fin 128) (i : Fin 1024) (e : ℕ)
    (hi : i.val = t.val * 1024 + (o + r.val)) (he : e = d.val) :
    transpose S128x128 [1, 0] (extractStridedSlice S128x128 ![0, o] (k0_pay2 (F := Ideal) (iblk0 V c 0 t) (iblk0 V c 1 t)) ho)
        transposes_S128x128_p1_0_S128x128 (ix2 r d) = tableAt (V c main_v9) (V c main_v10) i e := by
  have ho1 : o + 128 ≤ 1024 := ho.2 1
  refine Eq.trans ?_ (cos_at V c t d ⟨o + r.val, by omega⟩ i e hi he)
  pointwise

/-- A stored block of signed sines: a slice of the rows, transposed. -/
theorem sin_piece (c : Dev nD) (t : Fin cfg0.N) (o : ℕ) (ho) (r d : Fin 128) (i : Fin 1024) (e : ℕ)
    (hi : i.val = t.val * 1024 + (o + r.val)) (he : e = 128 + d.val) :
    transpose S128x128 [1, 0] (extractStridedSlice S128x128 ![0, o] (k0_pay3 (F := Ideal) (iblk0 V c 0 t) (iblk0 V c 1 t)) ho)
        transposes_S128x128_p1_0_S128x128 (ix2 r d) = tableAt (V c main_v9) (V c main_v10) i e := by
  have ho1 : o + 128 ≤ 1024 := ho.2 1
  refine Eq.trans ?_ (sin_at V c t d ⟨o + r.val, by omega⟩ i e hi he)
  pointwise

set_option maxHeartbeats 2000000 in
/-- The table the call leaves. -/
theorem table (c : Dev nD) : (dat0 V c).arrAt 2 cfg0.N
    = fun i => tableAt (V c main_v9) (V c main_v10) (i 0) (i 1).val := by
  refine (dat0 V c).arrAt_eq_of_covers 2 _ (by decide +kernel) fun t hf y => ?_
  blk_simp
  rw [after0_2]
  unfold_out out0_2
  frame_out
  canon_tiles x h
  · idx_vars x
    exact sin_piece V c t 896 slices_S128x1024_o0_896_S128x128 x0 x1 _ _ (by blk_simp [idx0 t]; omega) (by blk_simp [idx0 t]; omega)
  · idx_vars x
    exact cos_piece V c t 896 slices_S128x1024_o0_896_S128x128 x0 x1 _ _ (by blk_simp [idx0 t]; omega) (by blk_simp [idx0 t]; omega)
  · idx_vars x
    exact sin_piece V c t 768 slices_S128x1024_o0_768_S128x128 x0 x1 _ _ (by blk_simp [idx0 t]; omega) (by blk_simp [idx0 t]; omega)
  · idx_vars x
    exact cos_piece V c t 768 slices_S128x1024_o0_768_S128x128 x0 x1 _ _ (by blk_simp [idx0 t]; omega) (by blk_simp [idx0 t]; omega)
  · idx_vars x
    exact sin_piece V c t 640 slices_S128x1024_o0_640_S128x128 x0 x1 _ _ (by blk_simp [idx0 t]; omega) (by blk_simp [idx0 t]; omega)
  · idx_vars x
    exact cos_piece V c t 640 slices_S128x1024_o0_640_S128x128 x0 x1 _ _ (by blk_simp [idx0 t]; omega) (by blk_simp [idx0 t]; omega)
  · idx_vars x
    exact sin_piece V c t 512 slices_S128x1024_o0_512_S128x128 x0 x1 _ _ (by blk_simp [idx0 t]; omega) (by blk_simp [idx0 t]; omega)
  · idx_vars x
    exact cos_piece V c t 512 slices_S128x1024_o0_512_S128x128 x0 x1 _ _ (by blk_simp [idx0 t]; omega) (by blk_simp [idx0 t]; omega)
  · idx_vars x
    exact sin_piece V c t 384 slices_S128x1024_o0_384_S128x128 x0 x1 _ _ (by blk_simp [idx0 t]; omega) (by blk_simp [idx0 t]; omega)
  · idx_vars x
    exact cos_piece V c t 384 slices_S128x1024_o0_384_S128x128 x0 x1 _ _ (by blk_simp [idx0 t]; omega) (by blk_simp [idx0 t]; omega)
  · idx_vars x
    exact sin_piece V c t 256 slices_S128x1024_o0_256_S128x128 x0 x1 _ _ (by blk_simp [idx0 t]; omega) (by blk_simp [idx0 t]; omega)
  · idx_vars x
    exact cos_piece V c t 256 slices_S128x1024_o0_256_S128x128 x0 x1 _ _ (by blk_simp [idx0 t]; omega) (by blk_simp [idx0 t]; omega)
  · idx_vars x
    exact sin_piece V c t 128 slices_S128x1024_o0_128_S128x128 x0 x1 _ _ (by blk_simp [idx0 t]; omega) (by blk_simp [idx0 t]; omega)
  · idx_vars x
    exact cos_piece V c t 128 slices_S128x1024_o0_128_S128x128 x0 x1 _ _ (by blk_simp [idx0 t]; omega) (by blk_simp [idx0 t]; omega)
  · idx_vars x
    exact sin_piece V c t 0 slices_S128x1024_o0_0_S128x128 x0 x1 _ _ (by blk_simp [idx0 t]; omega) (by blk_simp [idx0 t]; omega)
  · idx_vars x
    exact cos_piece V c t 0 slices_S128x1024_o0_0_S128x128 x0 x1 _ _ (by blk_simp [idx0 t]; omega) (by blk_simp [idx0 t]; omega)

end Cert.KernelCmpIdeal.Value

end
-- ==== Proof.CmpLeft.lean ====
/- What the compression's call leaves, of arrays known entry by entry. -/
module

public import proofs.«01_k».proof.Proof.CmpBody
public import proofs.«01_k».proof.Proof.CmpTable

@[expose] public section

set_option maxRecDepth 16384

noncomputable section

open Idealize.ShloMosaic Idealize.ShloMosaic.TcCoe Idealize.SL.Sem
open Idealize.ShloMosaic.Pipeline (Dat)

namespace Cert.KernelCmpIdeal.Value

open Cert.KernelCmpIdeal Cert.KernelCmpIdeal.Gen Cert.Turn Cert.Compressed

/-- Where each window's block stands at each grid point, in blocks. -/
theorem idx1 : ∀ t : Fin cfg1.N, win1_0.index t = ![0, t.val] ∧ win1_1.index t = ![t.val / 4, 0, 0] ∧ win1_2.index t = ![t.val / 4, 0, 0]
    ∧ win1_3.index t = ![t.val / 4, 0, 0] ∧ win1_4.index t = ![t.val / 4, 0, 0] ∧ win1_5.index t = ![0, 0] ∧ win1_6.index t = ![0, t.val]
    ∧ t.val < 8 :=
  (by decide +kernel : ∀ t : Fin grid1.N, _)

/-- The mask of a grid point: one at the keys' slabs. -/
theorem mask : ∀ t : Fin cfg1.N, Scalar.cmpi .slt (BitVec.ofNat 32 (grid1.coords t 0).val) 4#32 = if t.val < 4 then 1#1 else 0#1 :=
  (by decide +kernel : ∀ t : Fin grid1.N, _)

/-- A slab's blocks through the network, of entries known as functions. -/
theorem made_of (x : FVec Ideal S1024x1024 .bf16) (w : FVec Ideal S1x1024x256 .bf16) (p : FVec Ideal S1x8x2048 .bf16)
    (w1 : FVec Ideal S1x2048x128 .bf16) (w2 : FVec Ideal S1x128x128 .bf16) (A : Fin 1024 → Fin 8192 → EReal) (s : Fin 8)
    (P : Fin 2048 → EReal) (W : Fin 2048 → Fin 128 → EReal) (W' : Fin 128 → Fin 64 → EReal)
    (hx : ∀ r u, x (ix2 r u) = A r ⟨s.val * 1024 + u.val, by omega⟩)
    (hw : ∀ u k, w (ix3 0 u ⟨k.val, by omega⟩) = W ⟨u.val, by omega⟩ k ∧ w (ix3 0 u ⟨128 + k.val, by omega⟩) = W ⟨1024 + u.val, by omega⟩ k)
    (hp : ∀ v, p (ix3 0 0 v) = P v) (hw1 : ∀ v k, w1 (ix3 0 v k) = W v k)
    (hw2 : ∀ k (d : Fin 128), w2 (ix3 0 k d) = if h : d.val < 64 then W' k ⟨d.val, h⟩ else 0)
    (hP : ∀ v, ∃ r : ℝ, P v = (r : EReal)) (hW : ∀ v k, ∃ r : ℝ, W v k = (r : EReal)) (r : Fin 1024) (d : Fin 128) :
    k1_pay2 (F := Ideal) x w p w1 w2 (ix2 r d) = result (block A r s) P W W' d.val := by
  rw [made_at]
  unfold result Compressed.hidden
  refine Finset.sum_congr rfl fun k _ => ?_
  rw [hw2]
  refine congrArg (fun z => gelu z * _) ?_
  rw [← joined A r s P (fun v => W v k) hP fun v => hW v k]
  simp only [hx, fun u k => (hw u k).1, fun u k => (hw u k).2, hp, hw1]

variable (V : (c : Dev nD) → (b : Ref sig .tc) → Buf (Elt Ideal) ((c : Thread nD τ).loc b))

/-- The arrays the call reads, entry by entry. -/
structure Known (c : Dev nD) (a : Fin 1024 → Fin 8 → EReal) (A : Fin 1024 → Fin 8192 → EReal) (P : Fin 2 → Fin 2048 → EReal)
    (W : Fin 2 → Fin 2048 → Fin 128 → EReal) (W' : Fin 2 → Fin 128 → Fin 64 → EReal) : Prop where
  chunks : ∀ r u, V c main_arg0 (ix2 r u : S1024x8192.Idx) = A r u
  first : ∀ (q : Fin 2) (u : Fin 1024) (k : Fin 128), V c main_v21 (ix3 q u ⟨k.val, by omega⟩ : S2x1024x256.Idx) = W q ⟨u.val, by omega⟩ k
  second : ∀ (q : Fin 2) (u : Fin 1024) (k : Fin 128), V c main_v21 (ix3 q u ⟨128 + k.val, by omega⟩ : S2x1024x256.Idx) = W q ⟨1024 + u.val, by omega⟩ k
  places : ∀ q v, V c main_v33 (ix3 q 0 v : S2x8x2048.Idx) = P q v
  weight : ∀ q v k, V c main_v25 (ix3 q v k : S2x2048x128.Idx) = W q v k
  last : ∀ q k (d : Fin 128), V c main_v39 (ix3 q k d : S2x128x128.Idx) = if h : d.val < 64 then W' q k ⟨d.val, h⟩ else 0
  table : ∀ r (e : Fin 256), V c main_v11 (ix2 r e : S1024x256.Idx) = tabAt (a r) e.val
  real : ∀ q v, ∃ r : ℝ, P q v = (r : EReal)
  real' : ∀ q v k, ∃ r : ℝ, W q v k = (r : EReal)

variable {V}

/-- One entry of what a grid point stores. -/
theorem point (c : Dev nD) {a : Fin 1024 → Fin 8 → EReal} {A : Fin 1024 → Fin 8192 → EReal} {P : Fin 2 → Fin 2048 → EReal}
    {W : Fin 2 → Fin 2048 → Fin 128 → EReal} {W' : Fin 2 → Fin 128 → Fin 64 → EReal} (h : Known V c a A P W W') (t : Fin cfg1.N)
    (r : Fin 1024) (d : Fin 128) (j : Fin 1024) (s : Fin 8) (e : ℕ) (hj : j.val = r.val) (hs : s.val = t.val) (he : e = d.val) :
    k1_pay1 (F := Ideal) (k1_pay2 (iblk1 V c 0 t) (iblk1 V c 1 t) (iblk1 V c 2 t) (iblk1 V c 3 t) (iblk1 V c 4 t))
      (Scalar.cmpi .slt (BitVec.ofNat 32 (grid1.coords t 0).val) 4#32) (iblk1 V c 5 t) (ix2 r d)
      = entry (a j) A P W W' j s e := by
  obtain rfl : j = r := Fin.ext hj
  subst he
  have ht : t.val < 8 := (idx1 t).2.2.2.2.2.2.2
  have hq : t.val / 4 < 2 := by omega
  have hx : ∀ r u, iblk1 V c 0 t (ix2 r u : S1024x1024.Idx) = A r ⟨s.val * 1024 + u.val, by omega⟩ := fun r u => by
    rw [← h.chunks]
    blk_point [iblk1, idx1 t]
  have hw : ∀ (u : Fin 1024) (k : Fin 128), iblk1 V c 1 t (ix3 0 u ⟨k.val, by omega⟩ : S1x1024x256.Idx) = W ⟨t.val / 4, hq⟩ ⟨u.val, by omega⟩ k
      ∧ iblk1 V c 1 t (ix3 0 u ⟨128 + k.val, by omega⟩ : S1x1024x256.Idx) = W ⟨t.val / 4, hq⟩ ⟨1024 + u.val, by omega⟩ k := fun u k => by
    rw [← h.first, ← h.second]
    constructor <;> blk_point [iblk1, idx1 t]
  have hp : ∀ v, iblk1 V c 2 t (ix3 0 0 v : S1x8x2048.Idx) = P ⟨t.val / 4, hq⟩ v := fun v => by
    rw [← h.places]
    blk_point [iblk1, idx1 t]
  have hw1 : ∀ v k, iblk1 V c 3 t (ix3 0 v k : S1x2048x128.Idx) = W ⟨t.val / 4, hq⟩ v k := fun v k => by
    rw [← h.weight]
    blk_point [iblk1, idx1 t]
  have hw2 : ∀ k (d : Fin 128), iblk1 V c 4 t (ix3 0 k d : S1x128x128.Idx) = if h : d.val < 64 then W' ⟨t.val / 4, hq⟩ k ⟨d.val, h⟩ else 0 :=
    fun k d => by
    rw [← h.last]
    blk_point [iblk1, idx1 t]
  have htab : ∀ e : Fin 256, iblk1 V c 5 t (ix2 j e : S1024x256.Idx) = tabAt (a j) e.val := fun e => by
    rw [← h.table]
    blk_point [iblk1, idx1 t]
  refine (stored_at _ _ _ j d (a j) (result (block A j s) (P ⟨t.val / 4, hq⟩) (W ⟨t.val / 4, hq⟩) (W' ⟨t.val / 4, hq⟩))
    (fun e => made_of _ _ _ _ _ A s _ _ _ hx hw hp hw1 hw2 (h.real _) (h.real' _) j e) htab).trans ?_
  rw [mask t]
  unfold entry
  by_cases h4 : t.val < 4
  · have e0 : (⟨t.val / 4, hq⟩ : Fin 2) = 0 := Fin.ext (show t.val / 4 = 0 by omega)
    rw [if_pos h4, if_pos rfl, if_pos (by omega), e0]
  · have e1 : (⟨t.val / 4, hq⟩ : Fin 2) = 1 := Fin.ext (show t.val / 4 = 1 by omega)
    rw [if_neg h4, if_neg (by decide), if_neg (by omega), e1]

/-- The array the call leaves. -/
theorem left (c : Dev nD) {a : Fin 1024 → Fin 8 → EReal} {A : Fin 1024 → Fin 8192 → EReal} {P : Fin 2 → Fin 2048 → EReal}
    {W : Fin 2 → Fin 2048 → Fin 128 → EReal} {W' : Fin 2 → Fin 128 → Fin 64 → EReal} (h : Known V c a A P W W') :
    (dat1 V c).arrAt 6 cfg1.N = fun i => entry (a (i 0)) A P W W' (i 0) ⟨(i 1).val / 128, by have : (i 1).val < 1024 := (i 1).isLt; omega⟩ ((i 1).val % 128) := by
  refine (dat1 V c).arrAt_eq_of_covers 6 _ (by decide +kernel) fun t hf y => ?_
  blk_simp
  rw [after1_6]
  unfold out1_6
  frame_out
  idx_vars y
  have hy : y1.val < 128 := y1.isLt
  exact point c h t y0 y1 _ _ _ (by blk_simp [idx1 t]) (by blk_simp [idx1 t]; dsimp only; omega) (by blk_simp [idx1 t]; omega)

end Cert.KernelCmpIdeal.Value

end
-- ==== Proof.CmpEntry.lean ====
/- What the compression's two calls are given: the host's lines before each, entry by entry. -/
module

public import proofs.«01_k».proof.Proof.CmpTable
public import proofs.«01_k».proof.Proof.Projected
public import proofs.«01_k».proof.Proof.Compressed

@[expose] public section

set_option maxRecDepth 16384

noncomputable section

open Idealize.ShloMosaic Idealize.ShloMosaic.TcCoe Idealize.SL.Sem
open Idealize.ShloMosaic.Pipeline (Dat)

namespace Cert.KernelCmpIdeal.Value

open Cert.KernelCmpIdeal Cert.KernelCmpIdeal.Gen Cert.Turn

variable (σ : Valuation τ sig (Elt Ideal))

/-- The keys' weight, both halves side by side. -/
theorem halves_k (u : Fin 1024) (k : Fin 128) :
    StableHlo.after hostOps1 σ (Proc.devRef .tc main_v21) (ix3 0 u ⟨k.val, by omega⟩ : S2x1024x256.Idx)
      = σ (Proc.devRef .tc main_arg3) (ix2 ⟨u.val, by omega⟩ k : S2048x128.Idx)
    ∧ StableHlo.after hostOps1 σ (Proc.devRef .tc main_v21) (ix3 0 u ⟨128 + k.val, by omega⟩ : S2x1024x256.Idx)
      = σ (Proc.devRef .tc main_arg3) (ix2 ⟨1024 + u.val, by omega⟩ k : S2048x128.Idx) := by
  constructor <;> entry_read <;> pointwise

/-- The values' weight. -/
theorem halves_v (u : Fin 1024) (k : Fin 128) :
    StableHlo.after hostOps1 σ (Proc.devRef .tc main_v21) (ix3 1 u ⟨k.val, by omega⟩ : S2x1024x256.Idx)
      = σ (Proc.devRef .tc main_arg6) (ix2 ⟨u.val, by omega⟩ k : S2048x128.Idx)
    ∧ StableHlo.after hostOps1 σ (Proc.devRef .tc main_v21) (ix3 1 u ⟨128 + k.val, by omega⟩ : S2x1024x256.Idx)
      = σ (Proc.devRef .tc main_arg6) (ix2 ⟨1024 + u.val, by omega⟩ k : S2048x128.Idx) := by
  constructor <;> entry_read <;> pointwise

/-- The same weights whole. -/
theorem whole (v : Fin 2048) (k : Fin 128) :
    StableHlo.after hostOps1 σ (Proc.devRef .tc main_v25) (ix3 0 v k : S2x2048x128.Idx)
      = σ (Proc.devRef .tc main_arg3) (ix2 v k : S2048x128.Idx)
    ∧ StableHlo.after hostOps1 σ (Proc.devRef .tc main_v25) (ix3 1 v k : S2x2048x128.Idx)
      = σ (Proc.devRef .tc main_arg6) (ix2 v k : S2048x128.Idx) := by
  constructor <;> entry_read <;> pointwise

/-- The positions' vectors, one after another. -/
theorem places (v : Fin 2048) :
    StableHlo.after hostOps1 σ (Proc.devRef .tc main_v33) (ix3 0 0 v : S2x8x2048.Idx)
      = σ (Proc.devRef .tc main_arg2) (ix2 ⟨v.val / 64, by omega⟩ ⟨v.val % 64, by omega⟩ : S32x64.Idx)
    ∧ StableHlo.after hostOps1 σ (Proc.devRef .tc main_v33) (ix3 1 0 v : S2x8x2048.Idx)
      = σ (Proc.devRef .tc main_arg5) (ix2 ⟨v.val / 64, by omega⟩ ⟨v.val % 64, by omega⟩ : S32x64.Idx) := by
  constructor <;> entry_read <;> pointwise

/-- The last weights, side by side. -/
theorem last (k d : Fin 128) :
    StableHlo.after hostOps1_4 σ (Proc.devRef .tc main_v39) (ix3 0 k d : S2x128x128.Idx)
      = σ (Proc.devRef .tc main_v34) (ix2 k d : S128x128.Idx)
    ∧ StableHlo.after hostOps1_4 σ (Proc.devRef .tc main_v39) (ix3 1 k d : S2x128x128.Idx)
      = σ (Proc.devRef .tc main_v35) (ix2 k d : S128x128.Idx) := by
  constructor <;> entry_read <;> pointwise

/-- Columns added after the last. -/
theorem padded (x : FVec Ideal S128x64 .f32) (z : FVec Ideal S_ .f32) (h h') (k d : Fin 128) (hz : ∀ i, z i = 0) :
    pad S128x128 ![0, 0] ![0, 64] ![0, 0] x z h h' (ix2 k d) = if hd : d.val < 64 then x (ix2 k ⟨d.val, hd⟩) else 0 := by
  pointwise
  split_ifs
  · rfl
  · exact hz _

/-- The word zero's value. -/
theorem zero_word : FloatOps.sitofp (F := Ideal) .f32 0#32 = (0 : EReal) := by
  show (((0#32 : BitVec 32).toInt : ℝ) : EReal) = 0
  rw [show (0#32 : BitVec 32).toInt = 0 by decide, Int.cast_zero, EReal.coe_zero]

/-- The keys' last weight, with columns of zeros after its own. -/
theorem last_k (hc : ∀ i : S_.Idx, σ (Proc.devRef .tc main_c_1) i = 0#32) (k d : Fin 128) :
    StableHlo.after hostOps1_1 σ (Proc.devRef .tc main_v34) (ix2 k d : S128x128.Idx)
      = (if h : d.val < 64 then (σ (Proc.devRef .tc main_arg4) (ix2 k ⟨d.val, h⟩ : S128x64.Idx) : EReal) else (0 : EReal) : EReal) := by
  entry_read
  refine padded (σ (Proc.devRef .tc main_arg4)) (sitofp .f32 (σ (Proc.devRef .tc main_c_1))) pads_S128x64_S128x128_000_0640 h_S_ k d fun i => ?_
  exact (congrArg _ (hc i)).trans zero_word

/-- The values' last weight. -/
theorem last_v (hc : ∀ i : S_.Idx, σ (Proc.devRef .tc main_c_2) i = 0#32) (k d : Fin 128) :
    StableHlo.after hostOps1_3 σ (Proc.devRef .tc main_v35) (ix2 k d : S128x128.Idx)
      = (if h : d.val < 64 then (σ (Proc.devRef .tc main_arg7) (ix2 k ⟨d.val, h⟩ : S128x64.Idx) : EReal) else (0 : EReal) : EReal) := by
  entry_read
  refine padded (σ (Proc.devRef .tc main_arg7)) (sitofp .f32 (σ (Proc.devRef .tc main_c_2))) pads_S128x64_S128x128_000_0640 h_S_ k d fun i => ?_
  exact (congrArg _ (hc i)).trans zero_word

/-- The word the keys' last weight is padded with is zero. -/
theorem zeros_k (i : S_.Idx) : StableHlo.after hostOps1 σ (Proc.devRef .tc main_c_1) i = 0#32 := by
  entry_read
  rfl

/-- So is the one for the values'. -/
theorem zeros_v (i : S_.Idx) : StableHlo.after hostOps1_2 σ (Proc.devRef .tc main_c_2) i = 0#32 := by
  entry_read
  rfl

/-- So is the one for the positions. -/
theorem zeros_p (i : S_.Idx) : StableHlo.after hostOps0 σ (Proc.devRef .tc main_c) i = 0#32 := by
  entry_read
  rfl

/-- The positions of the blocks. -/
theorem taken (b : Fin 8) (n : Fin 127) :
    StableHlo.after hostOps0 σ (Proc.devRef .tc main_v0) (ix2 b n : S8x127.Idx)
      = σ (Proc.devRef .tc main_arg1) (ix2 b ⟨n.val * 16 + 31, by omega⟩ : S8x2048.Idx) := by
  entry_read
  pointwise
  exact congrArg (fun n => σ (Proc.devRef .tc main_arg1) (ix2 b n : S8x2048.Idx)) (Fin.ext (by dsimp only; omega))

/-- A column added after the last. -/
theorem padded_one (x : IVec S8x127 32) (z : IVec S_ 32) (h h') (b : Fin 8) (n : Fin 128) (hz : ∀ i, z i = 0#32) :
    pad S8x128 ![0, 0] ![0, 1] ![0, 0] x z h h' (ix2 b n) = if hn : n.val < 127 then x (ix2 b ⟨n.val, hn⟩) else 0#32 := by
  pointwise
  split_ifs
  · rfl
  · exact hz _

/-- The same with a zero after each sequence's last. -/
theorem padded_entry (hc : ∀ i : S_.Idx, σ (Proc.devRef .tc main_c) i = 0#32) (b : Fin 8) (n : Fin 128) :
    StableHlo.after hostOps0_1 σ (Proc.devRef .tc main_v1) (ix2 b n : S8x128.Idx)
      = (if hn : n.val < 127 then (σ (Proc.devRef .tc main_v0) (ix2 b ⟨n.val, hn⟩ : S8x127.Idx) : BitVec 32) else 0#32 : BitVec 32) := by
  entry_read
  exact padded_one (σ (Proc.devRef .tc main_v0)) (σ (Proc.devRef .tc main_c)) pads_S8x127_S8x128_000_010 h_S_ b n hc

/-- The blocks' positions are given as one row. -/
theorem position_entry (r : Fin 1024) :
    StableHlo.after hostOps0_2 σ (Proc.devRef .tc main_v9) (ix2 0 r : S1x1024.Idx)
      = σ (Proc.devRef .tc main_v1) (ix2 ⟨r.val / 128, by omega⟩ ⟨r.val % 128, by omega⟩ : S8x128.Idx) := by
  entry_read
  pointwise

/-- The speeds are given as one column. -/
theorem speed_entry (j : Fin 8) :
    StableHlo.after hostOps0_2 σ (Proc.devRef .tc main_v10) (ix2 j 0 : S8x1.Idx) = Projected.speed j := by
  entry_read
  pointwise
  rfl

end Cert.KernelCmpIdeal.Value

end
-- ==== Proof.CmpRun.lean ====
/- The compression's run: what its result holds when the two calls have finished, of the program's arguments. -/
module

public import proofs.«01_k».proof.Proof.CmpLeft
public import proofs.«01_k».proof.Proof.CmpEntry

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.KernelCmpIdeal.Value

open Cert.KernelCmpIdeal Cert.KernelCmpIdeal.Gen Cert.Turn Cert.Compressed

local notation "𝕄" => MT nD τ sig Unit (Elt Ideal) ℕ (UR sig nD τ) ℕ

variable (m : (ℓ : Loc nD τ sig) → Buf (Elt Ideal) ℓ) (ρ : Dev nD → PrngReg)

/-- The chunks, of the program's arguments. -/
def chunks (c : Dev nD) (r : Fin 1024) (u : Fin 8192) : EReal := m ((c : Thread nD τ).loc main_arg0) (ix2 r u : S1024x8192.Idx)

/-- The angles of a block. -/
def angle (c : Dev nD) (r : Fin 1024) : Fin 8 → EReal :=
  Projected.angles (position (fun b s => m ((c : Thread nD τ).loc main_arg1) (ix2 b s : S8x2048.Idx)) r)

/-- The vectors of the places in a block: the keys', then the values'. -/
def place (c : Dev nD) (q : Fin 2) (v : Fin 2048) : EReal :=
  if q = 0 then m ((c : Thread nD τ).loc main_arg2) (ix2 ⟨v.val / 64, by omega⟩ ⟨v.val % 64, by omega⟩ : S32x64.Idx)
  else m ((c : Thread nD τ).loc main_arg5) (ix2 ⟨v.val / 64, by omega⟩ ⟨v.val % 64, by omega⟩ : S32x64.Idx)

/-- The first weights. -/
def weight (c : Dev nD) (q : Fin 2) (v : Fin 2048) (k : Fin 128) : EReal :=
  if q = 0 then m ((c : Thread nD τ).loc main_arg3) (ix2 v k : S2048x128.Idx) else m ((c : Thread nD τ).loc main_arg6) (ix2 v k : S2048x128.Idx)

/-- The last weights. -/
def weight' (c : Dev nD) (q : Fin 2) (k : Fin 128) (d : Fin 64) : EReal :=
  if q = 0 then m ((c : Thread nD τ).loc main_arg4) (ix2 k d : S128x64.Idx) else m ((c : Thread nD τ).loc main_arg7) (ix2 k d : S128x64.Idx)

/-- What is written by the host's first stretch before the call is kept until the call. -/
theorem kept (c : Dev nD) (r : Ref sig .tc) (h1 : r ∉ (hostOps1_1_W : List (Ref sig .tc))) (h2 : r ∉ (hostOps1_2_W : List (Ref sig .tc)))
    (h3 : r ∉ (hostOps1_3_W : List (Ref sig .tc))) (h4 : r ∉ (hostOps1_4_W : List (Ref sig .tc))) :
    V9 m ρ c r = W5 m ρ c (Proc.devRef .tc r) :=
  (W9_of m ρ c r h4).trans ((W8_of m ρ c r h3).trans ((W7_of m ρ c r h2).trans (W6_of m ρ c r h1)))

/-- The blocks' positions, as the table's call is given them. -/
theorem position_in (c : Dev nD) (r : Fin 1024) : V3 m ρ c main_v9 (ix2 0 r : S1x1024.Idx)
    = position (fun b s => m ((c : Thread nD τ).loc main_arg1) (ix2 b s : S8x2048.Idx)) r := by
  refine (position_entry (W2 m ρ c) r).trans ((padded_entry (W1 m ρ c) (zeros_p (W0 m ρ c)) _ _).trans ?_)
  unfold position
  by_cases h : r.val % 128 < 127
  · rw [dif_pos h, dif_pos h]
    exact taken (W0 m ρ c) _ _
  · rw [dif_neg h, dif_neg h]

/-- The table, of positions and speeds known entry by entry. -/
theorem table_of (p : (⟨S1x1024, .i32⟩ : BufTy).Contents (Elt Ideal)) (f : (⟨S8x1, .f32⟩ : BufTy).Contents (Elt Ideal))
    (i : Fin 1024) (d : ℕ) (q : BitVec 32) (hp : p (ix2 0 i) = q) (hf : ∀ j, f (ix2 j 0) = Projected.speed j) :
    tableAt p f i d = tabAt (Projected.angles q) d := by
  unfold tableAt
  congr 1
  funext j
  unfold angles Projected.angles
  rw [hp]
  exact congrArg _ (hf j)

/-- The table is what the first call leaves. -/
theorem tab_in (c : Dev nD) (i : Fin 1024) (d : Fin 256) :
    V9 m ρ c main_v11 (ix2 i d : S1024x256.Idx) = tabAt (angle m c i) d.val :=
  (congrFun ((kept m ρ c main_v11 (by decide) (by decide) (by decide) (by decide)).trans ((W5_of m ρ c main_v11 (by decide)).trans
    ((W4_arr m ρ c 2).trans (Value.table (V3 m ρ) c)))) _).trans
    (table_of _ _ i d.val _ (position_in m ρ c i) (speed_entry (W2 m ρ c)))

/-- The keys' last weight. -/
theorem last_k_in (c : Dev nD) (k d : Fin 128) : V9 m ρ c main_v39 (ix3 0 k d : S2x128x128.Idx)
    = (if h : d.val < 64 then weight' m c 0 k ⟨d.val, h⟩ else (0 : EReal)) := by
  refine ((last (W8 m ρ c) k d).1.trans ((congrFun ((W8_of m ρ c main_v34 (by decide)).trans (W7_of m ρ c main_v34 (by decide))) _).trans
    (last_k (W5 m ρ c) (zeros_k (W4 m ρ c)) k d))).trans ?_
  by_cases h : d.val < 64
  · rw [dif_pos h, dif_pos h]
    exact congrFun (W5_args m ρ c main_arg4 (by decide)) _
  · rw [dif_neg h, dif_neg h]

/-- The values' last weight. -/
theorem last_v_in (c : Dev nD) (k d : Fin 128) : V9 m ρ c main_v39 (ix3 1 k d : S2x128x128.Idx)
    = (if h : d.val < 64 then weight' m c 1 k ⟨d.val, h⟩ else (0 : EReal)) := by
  refine ((last (W8 m ρ c) k d).2.trans (last_v (W7 m ρ c) (zeros_v (W6 m ρ c)) k d)).trans ?_
  by_cases h : d.val < 64
  · rw [dif_pos h, dif_pos h]
    exact congrFun (W7_args m ρ c main_arg7 (by decide)) _
  · rw [dif_neg h, dif_neg h]

/-- The arrays the call reads, of the program's arguments. -/
theorem known (c : Dev nD) (hP : ∀ q v, ∃ r : ℝ, place m c q v = (r : EReal)) (hW : ∀ q v k, ∃ r : ℝ, weight m c q v k = (r : EReal)) :
    Known (V9 m ρ) c (angle m c) (chunks m c) (place m c) (weight m c) (weight' m c) where
  chunks r u := congrFun (W9_args m ρ c main_arg0 (by decide)) _
  first q u k := by
    refine (congrFun (kept m ρ c main_v21 (by decide) (by decide) (by decide) (by decide)) _).trans ?_
    match q with
    | ⟨0, _⟩ => exact (halves_k (W4 m ρ c) u k).1.trans (congrFun (W4_args m ρ c main_arg3 (by decide)) _)
    | ⟨1, _⟩ => exact (halves_v (W4 m ρ c) u k).1.trans (congrFun (W4_args m ρ c main_arg6 (by decide)) _)
  second q u k := by
    refine (congrFun (kept m ρ c main_v21 (by decide) (by decide) (by decide) (by decide)) _).trans ?_
    match q with
    | ⟨0, _⟩ => exact (halves_k (W4 m ρ c) u k).2.trans (congrFun (W4_args m ρ c main_arg3 (by decide)) _)
    | ⟨1, _⟩ => exact (halves_v (W4 m ρ c) u k).2.trans (congrFun (W4_args m ρ c main_arg6 (by decide)) _)
  places q v := by
    refine (congrFun (kept m ρ c main_v33 (by decide) (by decide) (by decide) (by decide)) _).trans ?_
    match q with
    | ⟨0, _⟩ => exact (places (W4 m ρ c) v).1.trans (congrFun (W4_args m ρ c main_arg2 (by decide)) _)
    | ⟨1, _⟩ => exact (places (W4 m ρ c) v).2.trans (congrFun (W4_args m ρ c main_arg5 (by decide)) _)
  weight q v k := by
    refine (congrFun (kept m ρ c main_v25 (by decide) (by decide) (by decide) (by decide)) _).trans ?_
    match q with
    | ⟨0, _⟩ => exact (whole (W4 m ρ c) v k).1.trans (congrFun (W4_args m ρ c main_arg3 (by decide)) _)
    | ⟨1, _⟩ => exact (whole (W4 m ρ c) v k).2.trans (congrFun (W4_args m ρ c main_arg6 (by decide)) _)
  last q k d := by
    match q with
    | ⟨0, _⟩ => exact last_k_in m ρ c k d
    | ⟨1, _⟩ => exact last_v_in m ρ c k d
  table r e := tab_in m ρ c r e
  real := hP
  real' := hW

/-- The whole array of compressed keys and values. -/
def out (c : Dev nD) : Buf (Elt Ideal) ((c.tc : Thread nD τ).loc main_v40) := fun i =>
  entry (angle m c (i 0)) (chunks m c) (place m c) (weight m c) (weight' m c) (i 0)
    ⟨(i 1).val / 128, by have : (i 1).val < 1024 := (i 1).isLt; omega⟩ ((i 1).val % 128)

/-- The run leaves it. -/
theorem out_left (c : Dev nD) (hP : ∀ q v, ∃ r : ℝ, place m c q v = (r : EReal)) (hW : ∀ q v k, ∃ r : ℝ, weight m c q v k = (r : EReal)) :
    W10 m ρ c (Proc.devRef .tc main_v40) = out m c :=
  (W10_arr m ρ c 6).trans (left c (known m ρ c hP hW))

set_option backward.isDefEq.respectTransparency.types false in
/-- The run of both calls, from places and first weights that are real numbers: the result at its array, every argument as
    it was. -/
theorem run (hP : ∀ c q v, ∃ r : ℝ, place m c q v = (r : EReal)) (hW : ∀ c q v k, ∃ r : ℝ, weight m c q v k = (r : EReal)) :
    θ_run (defs (F := Ideal)) (onTc (τ := τ) (main (F := Ideal))) ⟨m, fun _ => 0, ρ⟩ (fun r => ∀ c : Dev nD,
      r.2.mem ((c.tc : Thread nD τ).loc main_v40) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c => ⟨(h c _ (mem_uc main_v40 (by decide))).trans (out_left m ρ c (hP c) (hW c)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c)⟩)

end Cert.KernelCmpIdeal.Value

end
-- ==== Proof.CmpRef.lean ====
/- The compression's reference, entry by entry: its blocks are rows of 32 tokens taken by their numbers. -/
module

public import proofs.«01_k».proof.Proof.Compressed
public import proofs.«01_k».proof.Proof.Projected
public import proofs.«01_k».proof.Proof.Gen.ReferenceCmpIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceCmpIdeal.Value

open Cert.ReferenceCmpIdeal Cert.ReferenceCmpIdeal.Gen Cert.Turn Cert.Compressed

/-- The tokens end to end, without the first ones after the last. -/
def line (x : FVec Ideal S1024x8192 .bf16) : FVec Ideal S1x16384x8x64 .f32 :=
  shapeCast _ (transpose S1024x16x8x64 [0, 2, 1, 3] (shapeCast _ (extf .f32 x bitsLt_bf16_f32) shapeCasts_S1024x8192_S1024x8x16x64)
    transposes_S1024x8x16x64_S1024x16x8x64_0_2_1_3) shapeCasts_S1024x16x8x64_S1x16384x8x64

/-- Their entries. -/
theorem line_at (x : FVec Ideal S1024x8192 .bf16) (n : Fin 16384) (g : Fin 8) (d : Fin 64) :
    line x (ix4 0 n g d) = x (ix2 ⟨n.val / 16, by omega⟩ ⟨g.val * 1024 + n.val % 16 * 64 + d.val, by omega⟩) := by
  unfold line
  pointwise

/-- The tokens end to end, the first ones again after the last. -/
def tokens (x : FVec Ideal S1024x8192 .bf16) : FVec Ideal S1x16400x8x64 .f32 :=
  concatenate S1x16400x8x64 1 [⟨S1x16384x8x64, line x⟩,
    ⟨S1x16x8x64, extractStridedSlice S1x16x8x64 ![0, 0, 0, 0] (line x) slices_S1x16384x8x64_S1x16x8x64_0_0_0_0⟩]
    concatenates_S1x16384x8x64_S1x16x8x64_S1x16400x8x64_d1

/-- Their entries. -/
theorem tokens_at (x : FVec Ideal S1024x8192 .bf16) (n : Fin 16400) (g : Fin 8) (d : Fin 64) :
    tokens x (ix4 0 n g d) = x (ix2 ⟨n.val / 16 % 1024, by omega⟩ ⟨g.val * 1024 + n.val % 16 * 64 + d.val, by omega⟩) := by
  have hl := line_at x
  unfold tokens
  generalize line x = L at hl ⊢
  pointwise
  by_cases h : n.val < 16384
  · rw [dif_pos h]
    refine (hl _ _ _).trans (congrArg₂ (fun a b => x (ix2 a b)) (Fin.ext ?_) (Fin.ext ?_)) <;> first | omega | (dsimp only <;> omega)
  · rw [dif_neg h]
    refine (hl _ _ _).trans (congrArg₂ (fun a b => x (ix2 a b)) (Fin.ext ?_) (Fin.ext ?_)) <;> first | omega | (dsimp only <;> omega)

/-- The tokens' numbers, block after block. -/
def plain : IVec S1024x32 32 :=
  addi (broadcastInDim S1024x32 ![0, 1] bcast_S1024x1_S1024x32_0_1 (muli (broadcastInDim S1024x1 ![0] bcast_S1024_S1024x1_0 (iotaInDim S1024 32 0))
      (broadcastInDim S1024x1 ![] bcast_S_S1024x1 (constantI S_ 32 16#32))))
    (broadcastInDim S1024x32 ![0, 1] bcast_S1x32_S1024x32_0_1 (broadcastInDim S1x32 ![1] bcast_S32_S1x32_1 (iotaInDim S32 32 0)))

/-- The same as the tokens are taken by them: a negative one counted from the end. -/
def numbers : IVec S1024x32x1 32 :=
  broadcastInDim S1024x32x1 ![0, 1] bcast_S1024x32_S1024x32x1_0_1 (select
    (cmpi .slt plain (broadcastInDim S1024x32 ![] bcast_S_S1024x32 (constantI S_ 32 0#32)))
    (addi plain (broadcastInDim S1024x32 ![] bcast_S_S1024x32 (constantI S_ 32 16400#32))) plain)

/-- A multiple and a remainder as one word. -/
theorem small_word (j l q : ℕ) :
    IntOp.addi (IntOp.muli (BitVec.ofNat 32 j) (BitVec.ofNat 32 q)) (BitVec.ofNat 32 l) = BitVec.ofNat 32 (j * q + l) := by
  show BitVec.ofNat 32 j * BitVec.ofNat 32 q + BitVec.ofNat 32 l = _
  rw [← BitVec.ofNat_mul, ← BitVec.ofNat_add]

/-- A small number's word, read signed, is the number. -/
theorem small_int (n : ℕ) (h : n < 2 ^ 31) : (BitVec.ofNat 32 n).toInt = n := by
  have e : (BitVec.ofNat 32 n).toNat = n := by rw [BitVec.toNat_ofNat]; omega
  rw [BitVec.toInt_eq_toNat_of_lt (by omega), e]

/-- It is not below zero. -/
theorem small_slt (n : ℕ) (h : n < 2 ^ 31) : ¬ IntOp.cmpi .slt (BitVec.ofNat 32 n) 0#32 = 1#1 := by
  have e : (BitVec.ofNat 32 n).slt 0#32 = false := by
    rw [BitVec.slt, small_int n h]
    simp
  show ¬ BitVec.ofBool ((BitVec.ofNat 32 n).slt 0#32) = 1#1
  rw [e]
  decide

/-- The number of a block's token. -/
theorem numbers_at (j : Fin 1024) (l : Fin 32) : numbers (ix3 j l 0) = BitVec.ofNat 32 (j.val * 16 + l.val) := by
  have hp : plain (ix2 j l) = BitVec.ofNat 32 (j.val * 16 + l.val) := by
    unfold plain
    pointwise
    exact small_word j.val l.val 16
  unfold numbers
  generalize plain = P at hp ⊢
  pointwise
  rw [hp]
  exact if_neg (small_slt _ (by omega))

/-- Tokens taken by a table of token numbers: each read signed and held inside the operand. -/
theorem taken_at (y : FVec Ideal S1x16400x4x64 .f32) (w : IVec S1024x32x1 32) (j : Fin 1024) (l : Fin 32) (g : Fin 4) (d : Fin 64) (n : Fin 16400)
    (hn : n.val = min (w (ix3 j l 0)).toInt.toNat 16399) :
    Host.gather gather_S1x16400x4x64_S1024x32x1_S1x1024x32x4x64_034_1_n_n_1_2_11464 y w (ix5 0 j l g d) = y (ix4 0 n g d) := by
  unfold Host.gather
  refine congrArg y (funext fun a => Fin.ext ?_)
  match a with
  | ⟨0, _⟩ => rfl
  | ⟨1, _⟩ =>
    refine Eq.trans ?_ hn.symm
    show min (w _).toInt.toNat (16400 - 1) = _
    refine congrArg (fun i => min (w i).toInt.toNat 16399) (funext fun a => ?_)
    match a with
    | ⟨0, _⟩ => rfl
    | ⟨1, _⟩ => rfl
    | ⟨2, _⟩ => rfl
  | ⟨2, _⟩ => show 0 + 0 + g.val = g.val; omega
  | ⟨3, _⟩ => show 0 + 0 + d.val = d.val; omega

/-- Four heads from head `o` on. -/
theorem heads_at (y : FVec Ideal S1x16400x8x64 .f32) (o : ℕ) (h) (n : Fin 16400) (g : Fin 4) (d : Fin 64) (s : Fin 8) (hs : s.val = o + g.val) :
    extractStridedSlice S1x16400x4x64 ![0, 0, o, 0] y h (ix4 0 n g d) = y (ix4 0 n s d) := by
  refine congrArg y (funext fun a => Fin.ext ?_)
  match a with
  | ⟨0, _⟩ => rfl
  | ⟨1, _⟩ => show 0 + n.val = n.val; omega
  | ⟨2, _⟩ => exact hs.symm
  | ⟨3, _⟩ => show 0 + d.val = d.val; omega

/-- The blocks of four heads, from head `o` on. -/
def taken (o : ℕ) (h : S1x16400x8x64.Slices ![0, 0, o, 0] S1x16400x4x64) (x : FVec Ideal S1024x8192 .bf16) : FVec Ideal S1x1024x32x4x64 .f32 :=
  Host.gather gather_S1x16400x4x64_S1024x32x1_S1x1024x32x4x64_034_1_n_n_1_2_11464 (extractStridedSlice S1x16400x4x64 ![0, 0, o, 0] (tokens x) h) numbers

/-- Their entries. -/
theorem blocks_at (o : ℕ) (h) (x : FVec Ideal S1024x8192 .bf16) (j : Fin 1024) (l : Fin 32) (g : Fin 4) (d : Fin 64) (s : Fin 8)
    (hs : s.val = o + g.val) :
    taken o h x (ix5 0 j l g d) = x (ix2 ⟨(j.val * 16 + l.val) / 16 % 1024, by omega⟩ ⟨s.val * 1024 + (j.val * 16 + l.val) % 16 * 64 + d.val, by omega⟩) := by
  unfold taken
  refine (taken_at _ _ j l g d ⟨j.val * 16 + l.val, by omega⟩ ?_).trans ((heads_at _ o h _ g d s hs).trans (tokens_at x _ s d))
  rw [numbers_at, small_int _ (by omega)]
  dsimp only
  omega

/-- The blocks' first products. -/
def first (y : FVec Ideal S1x1024x32x4x64 .f32) (p : FVec Ideal S32x64 .f32) (w : FVec Ideal S2048x128 .f32) : FVec Ideal S1x1024x4x128 .f32 :=
  Host.dotGeneral (φ₁ := .f32) (φ₂ := .f32) dot_S1x1024x4x2048_S2048x128_S1x1024x4x128_3_0_012_1_n_n none
    (shapeCast _ (transpose S1x1024x4x32x64 [0, 1, 3, 2, 4] (addf y (broadcastInDim S1x1024x32x4x64 ![0, 1, 2, 3, 4] bcast_S1x1x32x1x64_S1x1024x32x4x64_0_1_2_3_4
      (broadcastInDim S1x1x32x1x64 ![2, 3, 4] bcast_S32x1x64_S1x1x32x1x64_2_3_4 (broadcastInDim S32x1x64 ![0, 2] bcast_S32x64_S32x1x64_0_2 p))))
      transposes_S1x1024x32x4x64_S1x1024x4x32x64_0_1_3_2_4) shapeCasts_S1x1024x4x32x64_S1x1024x4x2048) w

/-- Their entries. -/
theorem first_at (y : FVec Ideal S1x1024x32x4x64 .f32) (p : FVec Ideal S32x64 .f32) (w : FVec Ideal S2048x128 .f32) (j : Fin 1024) (g : Fin 4) (k : Fin 128) :
    first y p w (ix4 0 j g k) = ∑ v : Fin 2048, (y (ix5 0 j ⟨v.val / 64, by omega⟩ g ⟨v.val % 64, by omega⟩)
      + p (ix2 ⟨v.val / 64, by omega⟩ ⟨v.val % 64, by omega⟩)) * w (ix2 v k) := by
  unfold first
  pointwise

/-- The blocks' second products. -/
def second (y : FVec Ideal S1x1024x4x128 .f32) (w : FVec Ideal S128x64 .f32) : FVec Ideal S1x1024x4x64 .f32 :=
  Host.dotGeneral (φ₁ := .f32) (φ₂ := .f32) dot_S1x1024x4x128_S128x64_S1x1024x4x64_3_0_012_1_n_n none
    (mulf y (mulf (broadcastInDim S1x1024x4x128 ![] bcast_S_S1x1024x4x128 (constant S_ .f32 0x3F000000#32))
      (addf (broadcastInDim S1x1024x4x128 ![] bcast_S_S1x1024x4x128 (constant S_ .f32 0x3F800000#32))
        (Host.tanh (mulf (broadcastInDim S1x1024x4x128 ![] bcast_S_S1x1024x4x128 (constant S_ .f32 0x3F4C422A#32))
          (addf y (mulf (broadcastInDim S1x1024x4x128 ![] bcast_S_S1x1024x4x128 (constant S_ .f32 0x3D372713#32)) (mulf (mulf y y) y)))))))) w

/-- Their entries. -/
theorem second_at (y : FVec Ideal S1x1024x4x128 .f32) (w : FVec Ideal S128x64 .f32) (j : Fin 1024) (g : Fin 4) (d : Fin 64) :
    second y w (ix4 0 j g d) = ∑ k : Fin 128, gelu (y (ix4 0 j g k)) * w (ix2 k d) := by
  unfold second gelu
  pointwise
  refine Finset.sum_congr rfl fun k _ => ?_
  rw [mul_assoc (y (ix4 0 j g k)) (y (ix4 0 j g k)) (y (ix4 0 j g k))]

/-- A block's result in one of its heads. -/
theorem compressed_at (o : ℕ) (h) (x : FVec Ideal S1024x8192 .bf16) (p : FVec Ideal S32x64 .f32) (w : FVec Ideal S2048x128 .f32)
    (w' : FVec Ideal S128x64 .f32) (j : Fin 1024) (g : Fin 4) (d : Fin 64) (s : Fin 8) (hs : s.val = o + g.val) :
    second (first (taken o h x) p w) w' (ix4 0 j g d) = result (block (fun r u => x (ix2 r u)) j s)
      (fun v => p (ix2 ⟨v.val / 64, by omega⟩ ⟨v.val % 64, by omega⟩)) (fun v k => w (ix2 v k)) (fun k d => w' (ix2 k d)) d.val := by
  have hb : ∀ v : Fin 2048, taken o h x (ix5 0 j ⟨v.val / 64, by omega⟩ g ⟨v.val % 64, by omega⟩) = block (fun r u => x (ix2 r u)) j s v := fun v => by
    refine (blocks_at o h x j _ g _ s hs).trans ?_
    unfold block
    exact congrArg₂ (fun a b => x (ix2 a b)) (Fin.ext (by dsimp only; omega)) (Fin.ext (by dsimp only; omega))
  generalize taken o h x = y at hb ⊢
  generalize block (fun r u => x (ix2 r u)) j s = X at hb ⊢
  have hf : ∀ k : Fin 128, first y p w (ix4 0 j g k) = ∑ v : Fin 2048, (X v
      + p (ix2 ⟨v.val / 64, by omega⟩ ⟨v.val % 64, by omega⟩)) * w (ix2 v k) := fun k => by
    rw [first_at]
    exact Finset.sum_congr rfl fun v _ => by rw [hb v]
  generalize first y p w = z at hf ⊢
  rw [second_at]
  unfold result Compressed.hidden
  refine Finset.sum_congr rfl fun k _ => ?_
  rw [dif_pos d.isLt, hf k]

/-- The blocks' last tokens in their sequence. -/
def lastPlain : IVec S127 32 :=
  subi (addi (muli (iotaInDim S127 32 0) (broadcastInDim S127 ![] bcast_S_S127 (constantI S_ 32 16#32)))
    (broadcastInDim S127 ![] bcast_S_S127 (constantI S_ 32 32#32))) (broadcastInDim S127 ![] bcast_S_S127 (constantI S_ 32 1#32))

/-- The same as the positions are taken by them. -/
def lastNumbers : IVec S127x1 32 :=
  broadcastInDim S127x1 ![0] bcast_S127_S127x1_0 (select (cmpi .slt lastPlain (broadcastInDim S127 ![] bcast_S_S127 (constantI S_ 32 0#32)))
    (addi lastPlain (broadcastInDim S127 ![] bcast_S_S127 (constantI S_ 32 2048#32))) lastPlain)

/-- A block's last token. -/
theorem lastNumbers_at (n : Fin 127) : lastNumbers (ix2 n 0) = BitVec.ofNat 32 (n.val * 16 + 31) := by
  have hp : lastPlain (ix1 n) = BitVec.ofNat 32 (n.val * 16 + 31) := by
    unfold lastPlain
    pointwise
    show IntOp.subi (IntOp.addi (IntOp.muli (BitVec.ofNat 32 n.val) (BitVec.ofNat 32 16)) (BitVec.ofNat 32 32)) 1#32 = _
    rw [small_word n.val 32 16]
    show BitVec.ofNat 32 (n.val * 16 + 32) - 1#32 = _
    refine BitVec.eq_of_toNat_eq ?_
    rw [BitVec.toNat_sub, BitVec.toNat_ofNat, BitVec.toNat_ofNat, BitVec.toNat_ofNat]
    omega
  unfold lastNumbers
  generalize lastPlain = P at hp ⊢
  pointwise
  rw [hp]
  exact if_neg (small_slt _ (by omega))

/-- Columns taken by a column of numbers: each read signed and held inside the operand. -/
theorem columns_at (y : IVec S8x2048 32) (w : IVec S127x1 32) (b : Fin 8) (n : Fin 127) (r : Fin 2048)
    (hr : r.val = min (w (ix2 n 0)).toInt.toNat 2047) :
    Host.gather gather_S8x2048_S127x1_S8x127_0_1_n_n_1_1_81 y w (ix2 b n) = y (ix2 b r) := by
  unfold Host.gather
  refine congrArg y (funext fun a => Fin.ext ?_)
  match a with
  | ⟨0, _⟩ => show 0 + 0 + b.val = b.val; omega
  | ⟨1, _⟩ =>
    refine Eq.trans ?_ hr.symm
    show min (w _).toInt.toNat (2048 - 1) = _
    refine congrArg (fun i => min (w i).toInt.toNat 2047) (funext fun a => ?_)
    match a with
    | ⟨0, _⟩ => rfl
    | ⟨1, _⟩ => rfl

/-- The blocks' positions, a zero after each sequence's last. -/
def positions (p : IVec S8x2048 32) : IVec S8x128 32 :=
  pad S8x128 ![0, 0] ![0, 1] ![0, 0] (Host.gather gather_S8x2048_S127x1_S8x127_0_1_n_n_1_1_81 p lastNumbers) (id (constantI S_ 32 0#32))
    pads_S8x127_S8x128_000_010 h_S_

/-- Their entries. -/
theorem positions_at (p : IVec S8x2048 32) (j : Fin 1024) :
    positions p (ix2 ⟨j.val / 128, by omega⟩ ⟨j.val % 128, by omega⟩) = position (fun b s => p (ix2 b s)) j := by
  have hg : ∀ (b : Fin 8) (n : Fin 127), Host.gather gather_S8x2048_S127x1_S8x127_0_1_n_n_1_1_81 p lastNumbers (ix2 b n)
      = p (ix2 b ⟨n.val * 16 + 31, by omega⟩) := fun b n => by
    refine columns_at _ _ b n _ ?_
    rw [lastNumbers_at, small_int _ (by omega)]
    dsimp only
    omega
  unfold positions position
  generalize Host.gather gather_S8x2048_S127x1_S8x127_0_1_n_n_1_1_81 p lastNumbers = G at hg ⊢
  pointwise
  by_cases h : j.val % 128 < 127
  · rw [dif_pos ⟨by omega, h⟩, dif_pos h]
    exact hg _ _
  · rw [dif_neg fun h' => h h'.2, dif_neg h]
    rfl

/-- The blocks' angles. -/
def turns (p : IVec S8x128 32) : FVec Ideal S1x1024x1x8 .f32 :=
  shapeCast _ (mulf (broadcastInDim S1x1024x8 ![0, 1, 2] bcast_S1x1024x1_S1x1024x8_0_1_2 (broadcastInDim S1x1024x1 ![0, 1] bcast_S1x1024_S1x1024x1_0_1
      (sitofp .f32 (shapeCast _ p shapeCasts_S8x128_S1x1024))))
    (broadcastInDim S1x1024x8 ![0, 1, 2] bcast_S1x1x8_S1x1024x8_0_1_2 (broadcastInDim S1x1x8 ![2] bcast_S8_S1x1x8_2
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32)))))))
    shapeCasts_S1x1024x8_S1x1024x1x8

/-- Their entries. -/
theorem turns_at (p : IVec S8x128 32) (j : Fin 1024) (q : Fin 8) :
    turns p (ix4 0 j 0 q) = Projected.angles (p (ix2 ⟨j.val / 128, by omega⟩ ⟨j.val % 128, by omega⟩)) q := by
  unfold turns
  pointwise
  rfl

/-- The keys turned by the angles. -/
def turned (k : FVec Ideal S1x1024x4x64 .f32) (a : FVec Ideal S1x1024x1x8 .f32) : FVec Ideal S1x1024x4x64 .f32 :=
  concatenate S1x1024x4x64 3 [⟨S1x1024x4x16, (concatenate S1x1024x4x16 3
    [⟨S1x1024x4x8, (subf
      (mulf (extractStridedSlice S1x1024x4x8 ![0, 0, 0, 0] (extractStridedSlice S1x1024x4x16 ![0, 0, 0, 0] k slices_S1x1024x4x64_S1x1024x4x16_0_0_0_0) slices_S1x1024x4x16_S1x1024x4x8_0_0_0_0)
        (broadcastInDim S1x1024x4x8 ![0, 1, 2, 3] bcast_S1x1024x1x8_S1x1024x4x8_0_1_2_3 (Host.cos a)))
      (mulf (extractStridedSlice S1x1024x4x8 ![0, 0, 0, 8] (extractStridedSlice S1x1024x4x16 ![0, 0, 0, 0] k slices_S1x1024x4x64_S1x1024x4x16_0_0_0_0) slices_S1x1024x4x16_S1x1024x4x8_0_0_0_8)
        (broadcastInDim S1x1024x4x8 ![0, 1, 2, 3] bcast_S1x1024x1x8_S1x1024x4x8_0_1_2_3 (Host.sin a))))⟩,
     ⟨S1x1024x4x8, (addf
      (mulf (extractStridedSlice S1x1024x4x8 ![0, 0, 0, 8] (extractStridedSlice S1x1024x4x16 ![0, 0, 0, 0] k slices_S1x1024x4x64_S1x1024x4x16_0_0_0_0) slices_S1x1024x4x16_S1x1024x4x8_0_0_0_8)
        (broadcastInDim S1x1024x4x8 ![0, 1, 2, 3] bcast_S1x1024x1x8_S1x1024x4x8_0_1_2_3 (Host.cos a)))
      (mulf (extractStridedSlice S1x1024x4x8 ![0, 0, 0, 0] (extractStridedSlice S1x1024x4x16 ![0, 0, 0, 0] k slices_S1x1024x4x64_S1x1024x4x16_0_0_0_0) slices_S1x1024x4x16_S1x1024x4x8_0_0_0_0)
        (broadcastInDim S1x1024x4x8 ![0, 1, 2, 3] bcast_S1x1024x1x8_S1x1024x4x8_0_1_2_3 (Host.sin a))))⟩]
    concatenates_S1x1024x4x8_S1x1024x4x8_S1x1024x4x16_d3)⟩,
    ⟨S1x1024x4x48, (extractStridedSlice S1x1024x4x48 ![0, 0, 0, 16] k slices_S1x1024x4x64_S1x1024x4x48_0_0_0_16)⟩]
    concatenates_S1x1024x4x16_S1x1024x4x48_S1x1024x4x64_d3

/-- Their entries: the first sixteen columns of a head turned, those after them as they were. -/
theorem turned_at (k : FVec Ideal S1x1024x4x64 .f32) (y : FVec Ideal S1x1024x1x8 .f32) (a : Fin 8 → EReal) (v : ℕ → EReal) (j : Fin 1024) (g : Fin 4)
    (hk : ∀ (d : Fin 64) (n : ℕ), d.val = n → k (ix4 0 j g d) = v n) (ha : ∀ q, y (ix4 0 j 0 q) = a q) (d : Fin 64) :
    turned k y (ix4 0 j g d) = turn a v d.val := by
  have hd := d.isLt
  unfold turned turn
  pointwise
  simp only [ha]
  by_cases h : d.val < 16
  · refine (dif_pos h).trans ?_
    by_cases h' : d.val < 8
    · refine (dif_pos h').trans ?_
      rw [if_pos (show d.val % 64 < 8 by omega)]
      refine congrArg₂ (· - ·) (congrArg₂ (· * ·) (hk _ _ rfl) (congrArg (fun q => Ideal.cos (a q)) (Fin.ext ?_)))
        (congrArg₂ (· * ·) (hk _ _ ?_) (congrArg (fun q => Ideal.sin (a q)) (Fin.ext ?_))) <;> first | omega | (dsimp only <;> omega)
    · refine (dif_neg h').trans ?_
      rw [if_neg (show ¬ d.val % 64 < 8 by omega), if_pos (show d.val % 64 < 16 by omega)]
      refine congrArg₂ (· + ·) (congrArg₂ (· * ·) (hk _ _ ?_) (congrArg (fun q => Ideal.cos (a q)) (Fin.ext ?_)))
        (congrArg₂ (· * ·) (hk _ _ ?_) (congrArg (fun q => Ideal.sin (a q)) (Fin.ext ?_))) <;> first | omega | (dsimp only <;> omega)
  · refine (dif_neg h).trans ?_
    rw [if_neg (show ¬ d.val % 64 < 8 by omega), if_neg (show ¬ d.val % 64 < 16 by omega)]
    refine hk _ _ ?_
    first | omega | (dsimp only <;> omega)

/-- The word zero's value. -/
theorem zero_value : FloatOps.sitofp (F := Ideal) .f32 0#32 = (0 : EReal) := by
  show (((0#32 : BitVec 32).toInt : ℝ) : EReal) = 0
  rw [show (0#32 : BitVec 32).toInt = 0 by decide, Int.cast_zero, EReal.coe_zero]

/-- Keys and values side by side. -/
def beside (k v : FVec Ideal S1x1024x4x64 .f32) : FVec Ideal S1x1024x8x64 .f32 :=
  concatenate S1x1024x8x64 2 [⟨S1x1024x4x64, k⟩, ⟨S1x1024x4x64, v⟩] concatenates_S1x1024x4x64_S1x1024x4x64_S1x1024x8x64_d2

/-- Their entries. -/
theorem beside_at (k v : FVec Ideal S1x1024x4x64 .f32) (j : Fin 1024) (s : Fin 8) (d : Fin 64) :
    beside k v (ix4 0 j s d) = if hs : s.val < 4 then k (ix4 0 j ⟨s.val, hs⟩ d) else v (ix4 0 j ⟨s.val - 4, by omega⟩ d) := by
  unfold beside
  pointwise

/-- Each head filled with zeros up to 128 columns. -/
def laid (y : FVec Ideal S1x1024x8x64 .f32) : FVec Ideal S1024x1024 .bf16 :=
  truncf .bf16 (shapeCast _ (pad S1x1024x8x128 ![0, 0, 0, 0] ![0, 0, 0, 64] ![0, 0, 0, 0] y
    (sitofp .f32 (constantI S_ 32 0#32)) pads_S1x1024x8x64_S1x1024x8x128_000_000_000_0640 h_S_) shapeCasts_S1x1024x8x128_S1024x1024) bitsLt_bf16_f32

/-- Its entries. -/
theorem laid_at (y : FVec Ideal S1x1024x8x64 .f32) (j : Fin 1024) (i : Fin 1024) :
    laid y (ix2 j i) = if hd : i.val % 128 < 64 then y (ix4 0 j ⟨i.val / 128, by omega⟩ ⟨i.val % 128, hd⟩) else (0 : EReal) := by
  unfold laid
  pointwise
  by_cases hd : i.val % 128 < 64
  · refine (dif_pos ⟨by omega, hd⟩).trans ?_
    refine Eq.trans ?_ (dif_pos hd).symm
    rfl
  · refine (dif_neg fun h' => hd h'.2).trans ?_
    refine Eq.trans ?_ (dif_neg hd).symm
    exact zero_value

variable (m : (ℓ : Loc nD τ sig) → Buf (Elt Ideal) ℓ)

/-- The reference's result, of its steps. -/
theorem out_eq (c : Dev nD) : res_out0 m c = laid (beside
    (turned (second (first (taken 0 slices_S1x16400x8x64_S1x16400x4x64_0_0_0_0 (m ((c.tc : Thread nD τ).loc main_arg0)))
      (m ((c.tc : Thread nD τ).loc main_arg2)) (m ((c.tc : Thread nD τ).loc main_arg3))) (m ((c.tc : Thread nD τ).loc main_arg4)))
      (turns (positions (m ((c.tc : Thread nD τ).loc main_arg1)))))
    (second (first (taken 4 slices_S1x16400x8x64_S1x16400x4x64_0_0_4_0 (m ((c.tc : Thread nD τ).loc main_arg0)))
      (m ((c.tc : Thread nD τ).loc main_arg5)) (m ((c.tc : Thread nD τ).loc main_arg6))) (m ((c.tc : Thread nD τ).loc main_arg7)))) := rfl

/-- Its entries, with the places and weights given as families of keys' and values'. -/
theorem out_at (c : Dev nD) (P : Fin 2 → Fin 2048 → EReal) (W : Fin 2 → Fin 2048 → Fin 128 → EReal) (W' : Fin 2 → Fin 128 → Fin 64 → EReal)
    (hP0 : P 0 = fun v => m ((c.tc : Thread nD τ).loc main_arg2) (ix2 ⟨v.val / 64, by omega⟩ ⟨v.val % 64, by omega⟩ : S32x64.Idx))
    (hP1 : P 1 = fun v => m ((c.tc : Thread nD τ).loc main_arg5) (ix2 ⟨v.val / 64, by omega⟩ ⟨v.val % 64, by omega⟩ : S32x64.Idx))
    (hW0 : W 0 = fun v k => m ((c.tc : Thread nD τ).loc main_arg3) (ix2 v k : S2048x128.Idx))
    (hW1 : W 1 = fun v k => m ((c.tc : Thread nD τ).loc main_arg6) (ix2 v k : S2048x128.Idx))
    (hV0 : W' 0 = fun k d => m ((c.tc : Thread nD τ).loc main_arg4) (ix2 k d : S128x64.Idx))
    (hV1 : W' 1 = fun k d => m ((c.tc : Thread nD τ).loc main_arg7) (ix2 k d : S128x64.Idx)) (j i : Fin 1024) :
    res_out0 m c (ix2 j i : S1024x1024.Idx)
      = entry (Projected.angles (position (fun b s => m ((c.tc : Thread nD τ).loc main_arg1) (ix2 b s : S8x2048.Idx)) j))
        (fun r u => m ((c.tc : Thread nD τ).loc main_arg0) (ix2 r u : S1024x8192.Idx)) P W W' j ⟨i.val / 128, by omega⟩ (i.val % 128) := by
  rw [out_eq]
  refine (laid_at _ j i).trans ?_
  unfold entry
  by_cases hd : i.val % 128 < 64
  · rw [dif_pos hd, beside_at]
    by_cases hs : i.val / 128 < 4
    · rw [dif_pos hs, if_pos hs, hP0, hW0, hV0]
      refine turned_at _ _ _ _ j _ (fun d n hn => ?_) (fun q => ?_) ⟨i.val % 128, hd⟩
      · subst hn
        exact compressed_at 0 _ _ _ _ _ j _ d _ (by dsimp only; omega)
      · exact (turns_at _ j q).trans (congrArg (fun p => Projected.angles p q) (positions_at _ j))
    · rw [dif_neg hs, if_neg hs, hP1, hW1, hV1]
      exact compressed_at 4 _ _ _ _ _ j _ ⟨i.val % 128, hd⟩ _ (by dsimp only; omega)
  · rw [dif_neg hd]
    by_cases hs : i.val / 128 < 4
    · rw [if_pos hs]
      exact (turn_past _ _ _ _ _ _ hd (by omega)).symm
    · rw [if_neg hs]
      exact (result_past _ _ _ _ _ hd).symm

end Cert.ReferenceCmpIdeal.Value

end
-- ==== Proof.lean ====
module

public import proofs.«01_k».proof.Defs
public import proofs.«01_k».proof.Proof.Merge
public import proofs.«01_k».proof.Proof.Ffn
public import proofs.«01_k».proof.Proof.InRun
public import proofs.«01_k».proof.Proof.InRef
public import proofs.«01_k».proof.Proof.Pool
public import proofs.«01_k».proof.Proof.PoolRef
public import proofs.«01_k».proof.Proof.CmpRun
public import proofs.«01_k».proof.Proof.CmpRef
public import proofs.«01_k».proof.Proof.Gen.Pre_finite
public import proofs.«01_k».proof.Proof.Gen.KernelIdeal.Value
public import proofs.«01_k».proof.Proof.Gen.KernelFfnIdeal.Value
public import proofs.«01_k».proof.Proof.Gen.ReferenceIdeal.Run
public import proofs.«01_k».proof.Proof.Gen.ReferenceFfnIdeal.Run
public import proofs.«01_k».proof.Proof.Gen.ReferenceInIdeal.Run
public import proofs.«01_k».proof.Proof.Gen.ReferenceInIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.KernelPoolIdeal.Value
public import proofs.«01_k».proof.Proof.Gen.ReferencePoolIdeal
public import proofs.«01_k».proof.Proof.Gen.ReferencePoolIdeal.Run
public import proofs.«01_k».proof.Proof.Gen.KernelCmp
public import proofs.«01_k».proof.Proof.Gen.KernelCmp.Skeleton
public import proofs.«01_k».proof.Proof.Gen.KernelCmp.Launch
public import proofs.«01_k».proof.Proof.Gen.KernelCmp.Points
public import proofs.«01_k».proof.Proof.Gen.KernelCmp.Frame
public import proofs.«01_k».proof.Proof.Gen.KernelCmpIdeal
public import proofs.«01_k».proof.Proof.Gen.KernelCmpIdeal.Skeleton
public import proofs.«01_k».proof.Proof.Gen.KernelCmpIdeal.Launch
public import proofs.«01_k».proof.Proof.Gen.KernelCmpIdeal.Points
public import proofs.«01_k».proof.Proof.Gen.KernelCmpIdeal.Frame
public import proofs.«01_k».proof.Proof.Gen.ReferenceCmpIdeal
public import proofs.«01_k».proof.Proof.Gen.ReferenceCmpIdeal.Run
public import proofs.«01_k».proof.Proof.Gen.Pre_finite_weights
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The merge: from arguments that agree, both programs leave every token's merged row. -/
theorem merge : Cert.algebraic_KernelIdeal_ReferenceIdeal := by
  intro m ρ m' ρ' _ hag
  refine ⟨_, (θ_run Cert.KernelIdeal.defs _ _).mono
    (fun _ h c => ⟨(h c).1.trans (Cert.KernelIdeal.Value.final m c), (h c).2⟩) (Cert.KernelIdeal.Value.run_blocks m ρ), ?_⟩
  refine (θ_run Cert.ReferenceIdeal.defs _ _).mono (fun _ h c => ⟨(h c).1.trans ?_, (h c).2⟩)
    (Cert.ReferenceIdeal.Value.run m' ρ')
  funext i
  idx_vars i
  refine (Cert.ReferenceIdeal.Value.merged_at m' c i0 i1).trans ?_
  obtain ⟨a0, a1, a2, a3, a4, a5, a6, a7⟩ := hag c
  rw [a0, a1, a2, a3, a4, a5, a6, a7]

/-- The feed-forward block: from arguments that agree, both programs leave every token's row after the block. -/
theorem ffn : Cert.algebraic_KernelFfnIdeal_ReferenceFfnIdeal := by
  intro m ρ m' ρ' _ hag
  refine ⟨_, (θ_run Cert.KernelFfnIdeal.defs _ _).mono
    (fun _ h c => ⟨(h c).1.trans (Cert.KernelFfnIdeal.Value.final m c), (h c).2⟩)
    (Cert.KernelFfnIdeal.Value.run_blocks m ρ), ?_⟩
  refine (θ_run Cert.ReferenceFfnIdeal.defs _ _).mono (fun _ h c => ⟨(h c).1.trans ?_, (h c).2⟩)
    (Cert.ReferenceFfnIdeal.Value.run m' ρ')
  funext i
  idx_vars i
  refine (Cert.ReferenceFfnIdeal.Value.gated_at m' c i0 i1).trans ?_
  obtain ⟨a0, a1, a2, a3, a4, a5⟩ := hag c
  rw [a0, a1, a2, a3, a4, a5]

/-- From arguments that agree, the reference's projected columns are the kernel's. -/
theorem col_agree (m : (ℓ : Loc Cert.KernelInIdeal.nD Cert.KernelInIdeal.τ Cert.KernelInIdeal.sig) → Buf (Elt Ideal) ℓ)
    (m' : (ℓ : Loc Cert.ReferenceInIdeal.nD Cert.ReferenceInIdeal.τ Cert.ReferenceInIdeal.sig) → Buf (Elt Ideal) ℓ)
    (c : Dev Cert.KernelInIdeal.nD)
    (h0 : m' ((c.tc : Thread Cert.ReferenceInIdeal.nD Cert.ReferenceInIdeal.τ).loc Cert.ReferenceInIdeal.main_arg0)
      = m ((c.tc : Thread Cert.KernelInIdeal.nD Cert.KernelInIdeal.τ).loc Cert.KernelInIdeal.main_arg0))
    (h2 : m' ((c.tc : Thread Cert.ReferenceInIdeal.nD Cert.ReferenceInIdeal.τ).loc Cert.ReferenceInIdeal.main_arg2)
      = m ((c.tc : Thread Cert.KernelInIdeal.nD Cert.KernelInIdeal.τ).loc Cert.KernelInIdeal.main_arg2))
    (h3 : m' ((c.tc : Thread Cert.ReferenceInIdeal.nD Cert.ReferenceInIdeal.τ).loc Cert.ReferenceInIdeal.main_arg3)
      = m ((c.tc : Thread Cert.KernelInIdeal.nD Cert.KernelInIdeal.τ).loc Cert.KernelInIdeal.main_arg3)) :
    Cert.ReferenceInIdeal.Value.col m' c = Cert.KernelInIdeal.Value.col m c := by
  unfold Cert.ReferenceInIdeal.Value.col Cert.KernelInIdeal.Value.col
  rw [h0, h2, h3]

/-- And its angles are. -/
theorem angle_agree (m : (ℓ : Loc Cert.KernelInIdeal.nD Cert.KernelInIdeal.τ Cert.KernelInIdeal.sig) → Buf (Elt Ideal) ℓ)
    (m' : (ℓ : Loc Cert.ReferenceInIdeal.nD Cert.ReferenceInIdeal.τ Cert.ReferenceInIdeal.sig) → Buf (Elt Ideal) ℓ)
    (c : Dev Cert.KernelInIdeal.nD)
    (h1 : m' ((c.tc : Thread Cert.ReferenceInIdeal.nD Cert.ReferenceInIdeal.τ).loc Cert.ReferenceInIdeal.main_arg1)
      = m ((c.tc : Thread Cert.KernelInIdeal.nD Cert.KernelInIdeal.τ).loc Cert.KernelInIdeal.main_arg1)) :
    Cert.ReferenceInIdeal.Value.angle m' c = Cert.KernelInIdeal.Value.angle m c := by
  unfold Cert.ReferenceInIdeal.Value.angle Cert.KernelInIdeal.Value.angle
  rw [h1]

/-- The input projection: from arguments that agree, both programs leave the turned queries and keys, the values, the
    compression's chunks, the gates' columns and the pooled columns. -/
theorem input : Cert.algebraic_KernelInIdeal_ReferenceInIdeal := by
  intro m ρ m' ρ' _ hag
  refine ⟨_, _, _, _, _, _, _, _, Cert.KernelInIdeal.Value.run m ρ, ?_⟩
  refine (θ_run Cert.ReferenceInIdeal.defs _ _).mono (fun _ h c => ?_) (Cert.ReferenceInIdeal.Value.run m' ρ')
  obtain ⟨h0, h1, h2, h3, h4, h5, h6, h7, hargs⟩ := h c
  obtain ⟨a0, a1, a2, a3⟩ := hag c
  have hc := col_agree m m' c a0 a2 a3
  have ha := angle_agree m m' c a1
  refine ⟨h0.trans (funext fun i => ?_), h1.trans (funext fun i => ?_), h2.trans (funext fun i => ?_),
    h3.trans (funext fun i => ?_), h4.trans (funext fun i => ?_), h5.trans (funext fun i => ?_),
    h6.trans (funext fun i => ?_), h7.trans (funext fun i => ?_), hargs⟩ <;> clear h0 h1 h2 h3 h4 h5 h6 h7 hargs <;> idx_vars i
  · refine (Cert.ReferenceInIdeal.Value.queries_at m' c i0 i1).trans ?_
    rw [hc, ha]
    rfl
  · refine (Cert.ReferenceInIdeal.Value.keys_s_at m' c i0 i1).trans ?_
    rw [hc, ha]
    rfl
  · refine (Cert.ReferenceInIdeal.Value.keys_w_at m' c i0 i1).trans ?_
    rw [hc, ha]
    rfl
  · refine (Cert.ReferenceInIdeal.Value.values_s_at m' c i0 i1 i2).trans ?_
    rw [hc]
    rfl
  · refine (Cert.ReferenceInIdeal.Value.values_w_at m' c i0 i1 i2).trans ?_
    rw [hc]
    rfl
  · refine (Cert.ReferenceInIdeal.Value.chunks_at m' c i0 i1).trans ?_
    rw [hc]
    rfl
  · refine (Cert.ReferenceInIdeal.Value.gates_at m' c i0 i1).trans ?_
    rw [hc]
    rfl
  · refine (Cert.ReferenceInIdeal.Value.pooled_at m' c i0 i1).trans ?_
    rw [hc]
    rfl

/-- A value whose size is below infinity is a real number. -/
theorem real_of_lt (x : EReal) (h : Ideal.cmp .olt (max x (-x)) (Ideal.ofBits .f32 0x7F800000#32) = 1#1) : ∃ r : ℝ, x = (r : EReal) := by
  have h2 : Ideal.ofBits .f32 0x7F800000#32 = (⊤ : EReal) := by
    simp [Ideal.ofBits, Ideal.ieee]
  rw [h2] at h
  have h3 : max x (-x) < (⊤ : EReal) := by
    by_contra h3
    unfold Ideal.cmp at h
    simp only [decide_eq_false h3] at h
    exact absurd h (by decide)
  obtain ⟨hp, hn⟩ := max_lt_iff.1 h3
  refine ⟨x.toReal, (EReal.coe_toReal hp.ne fun hb => ?_).symm⟩
  rw [hb, EReal.neg_bot] at hn
  exact lt_irrefl _ hn

/-- Channels that pass the pooling's precondition are real numbers. -/
theorem real_of_finite [Cert.Pre_finite.Facts] (x : FVec Ideal Cert.Pre_finite.S16384x512 .f32) (w : FVec Ideal Cert.Pre_finite.S4x128x128 .f32)
    (s : FVec Ideal Cert.Pre_finite.S512 .f32) (a : FVec Ideal Cert.Pre_finite.S16384x1536 .bf16)
    (h : Cert.Pre_finite.fn (F := Ideal) x w s a = fun _ => 1#1) (i : Cert.Pre_finite.S16384x512.Idx) : ∃ r : ℝ, x i = (r : EReal) :=
  real_of_lt (x i) (congrFun h i)

/-- Two bits whose conjunction is one are one. -/
theorem both_one (a b : BitVec 1) (h : IntOp.andi a b = 1#1) : a = 1#1 ∧ b = 1#1 := by
  revert a b
  decide

/-- Places and first weights that pass the compression's precondition are real numbers. -/
theorem real_of_finite_weights [Cert.Pre_finite_weights.Facts] (x : FVec Ideal Cert.Pre_finite_weights.S1024x8192 .bf16)
    (q : IVec Cert.Pre_finite_weights.S8x2048 32) (p : FVec Ideal Cert.Pre_finite_weights.S32x64 .f32)
    (w : FVec Ideal Cert.Pre_finite_weights.S2048x128 .f32) (u : FVec Ideal Cert.Pre_finite_weights.S128x64 .f32)
    (p' : FVec Ideal Cert.Pre_finite_weights.S32x64 .f32) (w' : FVec Ideal Cert.Pre_finite_weights.S2048x128 .f32)
    (u' : FVec Ideal Cert.Pre_finite_weights.S128x64 .f32)
    (h : Cert.Pre_finite_weights.fn (F := Ideal) x q p w u p' w' u' = fun _ => 1#1) (v : Fin 2048) (k : Fin 128) :
    ((∃ r : ℝ, p (ix2 ⟨v.val / 64, by omega⟩ ⟨v.val % 64, by omega⟩) = (r : EReal)) ∧ ∃ r : ℝ, w (ix2 v k) = (r : EReal))
      ∧ (∃ r : ℝ, p' (ix2 ⟨v.val / 64, by omega⟩ ⟨v.val % 64, by omega⟩) = (r : EReal)) ∧ ∃ r : ℝ, w' (ix2 v k) = (r : EReal) := by
  have h1 := congrFun h (ix2 v k)
  have e : Cert.Pre_finite_weights.fn (F := Ideal) x q p w u p' w' u' (ix2 v k) = IntOp.andi (IntOp.andi (IntOp.andi
      (Ideal.cmp .olt (max (p (ix2 ⟨v.val / 64, by omega⟩ ⟨v.val % 64, by omega⟩)) (-(p (ix2 ⟨v.val / 64, by omega⟩ ⟨v.val % 64, by omega⟩))))
        (Ideal.ofBits .f32 0x7F800000#32))
      (Ideal.cmp .olt (max (w (ix2 v k)) (-(w (ix2 v k)))) (Ideal.ofBits .f32 0x7F800000#32)))
      (Ideal.cmp .olt (max (p' (ix2 ⟨v.val / 64, by omega⟩ ⟨v.val % 64, by omega⟩)) (-(p' (ix2 ⟨v.val / 64, by omega⟩ ⟨v.val % 64, by omega⟩))))
        (Ideal.ofBits .f32 0x7F800000#32)))
      (Ideal.cmp .olt (max (w' (ix2 v k)) (-(w' (ix2 v k)))) (Ideal.ofBits .f32 0x7F800000#32)) := by
    unfold Cert.Pre_finite_weights.fn
    pointwise
    rfl
  rw [e] at h1
  obtain ⟨h2, h3⟩ := both_one _ _ h1
  obtain ⟨h4, h5⟩ := both_one _ _ h2
  obtain ⟨h6, h7⟩ := both_one _ _ h4
  exact ⟨⟨real_of_lt _ h6, real_of_lt _ h7⟩, real_of_lt _ h5, real_of_lt _ h3⟩

/-- The pooling: from arguments that agree, its channels finite, both programs leave the branches' columns and beside them
    the pooled channels. -/
theorem pool : Cert.algebraic_KernelPoolIdeal_ReferencePoolIdeal_pre_finite := by
  intro m ρ m' ρ' hfin hag
  refine ⟨_, (θ_run Cert.KernelPoolIdeal.defs _ _).mono
    (fun _ h c => ⟨(h c).1.trans (Cert.KernelPoolIdeal.Value.final m c), (h c).2⟩)
    (Cert.KernelPoolIdeal.Value.run_blocks m ρ), ?_⟩
  refine (θ_run Cert.ReferencePoolIdeal.defs _ _).mono (fun _ h c => ⟨(h c).1.trans ?_, (h c).2⟩)
    (Cert.ReferencePoolIdeal.Value.run m' ρ')
  obtain ⟨a0, a1, a2, a3⟩ := hag c
  have hx := real_of_finite _ _ _ _ (hfin c)
  funext i
  idx_vars i
  refine (Cert.ReferencePoolIdeal.Value.out_at m' c (fun j => a0 ▸ hx j) i0 i1).trans ?_
  rw [a0, a1, a2, a3]
  rfl

/-- The pooling's reference runs to the end, keeps its arguments and leaves no signal waiting. -/
theorem pooling_frame : Cert.quiescent_ReferencePoolIdeal := fun m ρ _ => (θ_run Cert.ReferencePoolIdeal.defs _ _).mono
  (fun r h => ⟨fun c => (h c).2, sem_eq_zero_of_no_sems (by decide) r.2⟩) (Cert.ReferencePoolIdeal.Value.run m ρ)

/-- The compression: from arguments that agree, its places and first weights finite, both programs leave every block's
    compressed keys and values. -/
theorem compression : Cert.algebraic_KernelCmpIdeal_ReferenceCmpIdeal_pre_finite_weights := by
  intro m ρ m' ρ' hfin hag
  have hr := fun (c : Dev Cert.KernelCmpIdeal.nD) v k => real_of_finite_weights _ _ _ _ _ _ _ _ (hfin c) v k
  have hP : ∀ c q v, ∃ r : ℝ, Cert.KernelCmpIdeal.Value.place m c q v = (r : EReal) := fun c q v => by
    unfold Cert.KernelCmpIdeal.Value.place
    split_ifs
    · exact (hr c v 0).1.1
    · exact (hr c v 0).2.1
  have hW : ∀ c q v k, ∃ r : ℝ, Cert.KernelCmpIdeal.Value.weight m c q v k = (r : EReal) := fun c q v k => by
    unfold Cert.KernelCmpIdeal.Value.weight
    split_ifs
    · exact (hr c v k).1.2
    · exact (hr c v k).2.2
  refine ⟨_, Cert.KernelCmpIdeal.Value.run m ρ hP hW, ?_⟩
  refine (θ_run Cert.ReferenceCmpIdeal.defs _ _).mono (fun _ h c => ⟨(h c).1.trans ?_, (h c).2⟩)
    (Cert.ReferenceCmpIdeal.Value.run m' ρ')
  obtain ⟨a0, a1, a2, a3, a4, a5, a6, a7⟩ := hag c
  funext i
  idx_vars i
  refine (Cert.ReferenceCmpIdeal.Value.out_at m' c (Cert.KernelCmpIdeal.Value.place m c) (Cert.KernelCmpIdeal.Value.weight m c)
    (Cert.KernelCmpIdeal.Value.weight' m c) ?_ ?_ ?_ ?_ ?_ ?_ i0 i1).trans ?_
  · rw [a2]; rfl
  · rw [a5]; rfl
  · rw [a3]; rfl
  · rw [a6]; rfl
  · rw [a4]; rfl
  · rw [a7]; rfl
  · rw [a0, a1]
    rfl

/-- The compression's reference runs to the end, keeps its arguments and leaves no signal waiting. -/
theorem compression_frame : Cert.quiescent_ReferenceCmpIdeal := fun m ρ _ => (θ_run Cert.ReferenceCmpIdeal.defs _ _).mono
  (fun r h => ⟨fun c => (h c).2, sem_eq_zero_of_no_sems (by decide) r.2⟩) (Cert.ReferenceCmpIdeal.Value.run m ρ)

/-- The whole claim: the frames of every program, the programs read exactly as printed, and the value claims. -/
theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts, Cert.KernelIn.Gen.facts,
  Cert.KernelInIdeal.Gen.facts, Cert.ReferenceInIdeal.Gen.facts, Cert.KernelPool.Gen.facts, Cert.KernelPoolIdeal.Gen.facts,
  Cert.ReferencePoolIdeal.Gen.facts, Cert.KernelCmp.Gen.facts, Cert.KernelCmpIdeal.Gen.facts, Cert.ReferenceCmpIdeal.Gen.facts,
  Cert.Pre_finite.Gen.facts, Cert.Pre_finite_weights.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => Cert.KernelFfn.Gen.frame m ρ, fun m ρ _ => Cert.KernelFfnIdeal.Gen.frame m ρ,
  fun m ρ _ => (θ_run Cert.ReferenceFfnIdeal.defs _ _).mono
    (fun r h => ⟨fun c => (h c).2, sem_eq_zero_of_no_sems (by decide) r.2⟩) (Cert.ReferenceFfnIdeal.Value.run m ρ),
  fun m ρ _ => Cert.KernelIn.Gen.frame m ρ, fun m ρ _ => Cert.KernelInIdeal.Gen.frame m ρ,
  fun m ρ _ => (θ_run Cert.ReferenceInIdeal.defs _ _).mono
    (fun r h => ⟨fun c => (h c).2.2.2.2.2.2.2.2, sem_eq_zero_of_no_sems (by decide) r.2⟩) (Cert.ReferenceInIdeal.Value.run m ρ),
  fun m ρ _ => Cert.KernelPool.Gen.frame m ρ, fun m ρ _ => Cert.KernelPoolIdeal.Gen.frame m ρ,
  fun m ρ _ => Cert.KernelPoolIdeal.Gen.frame m ρ, fun m ρ _ => pooling_frame m ρ trivial, fun m ρ _ => pooling_frame m ρ trivial,
  fun m ρ _ => Cert.KernelCmp.Gen.frame m ρ, fun m ρ _ => Cert.KernelCmpIdeal.Gen.frame m ρ,
  fun m ρ _ => Cert.KernelCmpIdeal.Gen.frame m ρ, fun m ρ _ => compression_frame m ρ trivial, fun m ρ _ => compression_frame m ρ trivial,
  trivial, merge, trivial, ffn, trivial, input, trivial, pool, trivial, compression⟩

end Cert.Proof

end
